-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v157)) (v1 : (c : Dev Cert.KernelIdeal.nD) → Buf (Elt Ideal) ((c.tc : Thread Cert.KernelIdeal.nD Cert.KernelIdeal.τ).loc Cert.KernelIdeal.main_v160)) (v2 : (c : Dev Cert.KernelIdeal.nD) → Buf (Elt Ideal) ((c.tc : Thread Cert.KernelIdeal.nD Cert.KernelIdeal.τ).loc Cert.KernelIdeal.main_v163)) (v3 : (c : Dev Cert.KernelIdeal.nD) → Buf (Elt Ideal) ((c.tc : Thread Cert.KernelIdeal.nD Cert.KernelIdeal.τ).loc Cert.KernelIdeal.main_v164)) (v4 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_v160) = v1 c
          ∧ r.2.mem ((c.tc : Thread Cert.KernelIdeal.nD Cert.KernelIdeal.τ).loc Cert.KernelIdeal.main_v163) = v2 c
          ∧ r.2.mem ((c.tc : Thread Cert.KernelIdeal.nD Cert.KernelIdeal.τ).loc Cert.KernelIdeal.main_v164) = v3 c
          ∧ r.2.mem ((c.tc : Thread Cert.KernelIdeal.nD Cert.KernelIdeal.τ).loc Cert.KernelIdeal.main_v165) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1x28x28 : Shape := ⟨4, ![2048, 1, 28, 28]⟩
abbrev S16x1x5x5 : Shape := ⟨4, ![16, 1, 5, 5]⟩
abbrev S16 : Shape := ⟨1, ![16]⟩
abbrev S32x16x5x5 : Shape := ⟨4, ![32, 16, 5, 5]⟩
abbrev S32 : Shape := ⟨1, ![32]⟩
abbrev S64x32x5x5 : Shape := ⟨4, ![64, 32, 5, 5]⟩
abbrev S64 : Shape := ⟨1, ![64]⟩
abbrev S4x64x5x5 : Shape := ⟨4, ![4, 64, 5, 5]⟩
abbrev S4 : Shape := ⟨1, ![4]⟩
abbrev S4x128x5x5 : Shape := ⟨4, ![4, 128, 5, 5]⟩
abbrev S128 : Shape := ⟨1, ![128]⟩
abbrev S128x64x5x5 : Shape := ⟨4, ![128, 64, 5, 5]⟩
abbrev S32x1x5x5 : Shape := ⟨4, ![32, 1, 5, 5]⟩
abbrev S1 : Shape := ⟨1, ![1]⟩
abbrev S64x4 : Shape := ⟨2, ![64, 4]⟩
abbrev S28x5x14 : Shape := ⟨3, ![28, 5, 14]⟩
abbrev S14x5x7 : Shape := ⟨3, ![14, 5, 7]⟩
abbrev S7x5x4 : Shape := ⟨3, ![7, 5, 4]⟩
abbrev S1024 : Shape := ⟨1, ![1024]⟩
abbrev S2x5x3 : Shape := ⟨3, ![2, 5, 3]⟩
abbrev S3x5x5 : Shape := ⟨3, ![3, 5, 5]⟩
abbrev S5x5x13 : Shape := ⟨3, ![5, 5, 13]⟩
abbrev S13x5x28 : Shape := ⟨3, ![13, 5, 28]⟩
abbrev S2048x784 : Shape := ⟨2, ![2048, 784]⟩
abbrev S16x1x1x5x1x5 : Shape := ⟨6, ![16, 1, 1, 5, 1, 5]⟩
abbrev S1x1x28x5x14x1 : Shape := ⟨6, ![1, 1, 28, 5, 14, 1]⟩
abbrev S16x1x28x5x14x5 : Shape := ⟨6, ![16, 1, 28, 5, 14, 5]⟩
abbrev S_ : Shape := ⟨0, ![]⟩
abbrev S16x1x28x14x5 : Shape := ⟨5, ![16, 1, 28, 14, 5]⟩
abbrev S16x1x28x1x14x5x1 : Shape := ⟨7, ![16, 1, 28, 1, 14, 5, 1]⟩
abbrev S1x1x1x28x1x5x14 : Shape := ⟨7, ![1, 1, 1, 28, 1, 5, 14]⟩
abbrev S16x1x28x28x14x5x14 : Shape := ⟨7, ![16, 1, 28, 28, 14, 5, 14]⟩
abbrev S16x1x28x28x14x14 : Shape := ⟨6, ![16, 1, 28, 28, 14, 14]⟩
abbrev S1x28x28x16x14x14 : Shape := ⟨6, ![1, 28, 28, 16, 14, 14]⟩
abbrev S784x3136 : Shape := ⟨2, ![784, 3136]⟩
abbrev S32x16x1x5x1x5 : Shape := ⟨6, ![32, 16, 1, 5, 1, 5]⟩
abbrev S1x1x14x5x7x1 : Shape := ⟨6, ![1, 1, 14, 5, 7, 1]⟩
abbrev S32x16x14x5x7x5 : Shape := ⟨6, ![32, 16, 14, 5, 7, 5]⟩
abbrev S32x16x14x7x5 : Shape := ⟨5, ![32, 16, 14, 7, 5]⟩
abbrev S32x16x14x1x7x5x1 : Shape := ⟨7, ![32, 16, 14, 1, 7, 5, 1]⟩
abbrev S1x1x1x14x1x5x7 : Shape := ⟨7, ![1, 1, 1, 14, 1, 5, 7]⟩
abbrev S32x16x14x14x7x5x7 : Shape := ⟨7, ![32, 16, 14, 14, 7, 5, 7]⟩
abbrev S32x16x14x14x7x7 : Shape := ⟨6, ![32, 16, 14, 14, 7, 7]⟩
abbrev S16x14x14x32x7x7 : Shape := ⟨6, ![16, 14, 14, 32, 7, 7]⟩
abbrev S3136x1568 : Shape := ⟨2, ![3136, 1568]⟩
abbrev S64x32x1x5x1x5 : Shape := ⟨6, ![64, 32, 1, 5, 1, 5]⟩
abbrev S1x1x7x5x4x1 : Shape := ⟨6, ![1, 1, 7, 5, 4, 1]⟩
abbrev S64x32x7x5x4x5 : Shape := ⟨6, ![64, 32, 7, 5, 4, 5]⟩
abbrev S64x32x7x4x5 : Shape := ⟨5, ![64, 32, 7, 4, 5]⟩
abbrev S64x32x7x1x4x5x1 : Shape := ⟨7, ![64, 32, 7, 1, 4, 5, 1]⟩
abbrev S1x1x1x7x1x5x4 : Shape := ⟨7, ![1, 1, 1, 7, 1, 5, 4]⟩
abbrev S64x32x7x7x4x5x4 : Shape := ⟨7, ![64, 32, 7, 7, 4, 5, 4]⟩
abbrev S64x32x7x7x4x4 : Shape := ⟨6, ![64, 32, 7, 7, 4, 4]⟩
abbrev S32x7x7x64x4x4 : Shape := ⟨6, ![32, 7, 7, 64, 4, 4]⟩
abbrev S1568x1024 : Shape := ⟨2, ![1568, 1024]⟩
abbrev S1024x1 : Shape := ⟨2, ![1024, 1]⟩
abbrev S5x5x64x4 : Shape := ⟨4, ![5, 5, 64, 4]⟩
abbrev S1600x4 : Shape := ⟨2, ![1600, 4]⟩
abbrev S4x128x1x5x1x5 : Shape := ⟨6, ![4, 128, 1, 5, 1, 5]⟩
abbrev S1x1x2x5x3x1 : Shape := ⟨6, ![1, 1, 2, 5, 3, 1]⟩
abbrev S4x128x2x5x3x5 : Shape := ⟨6, ![4, 128, 2, 5, 3, 5]⟩
abbrev S4x128x2x3x5 : Shape := ⟨5, ![4, 128, 2, 3, 5]⟩
abbrev S4x128x2x1x3x5x1 : Shape := ⟨7, ![4, 128, 2, 1, 3, 5, 1]⟩
abbrev S1x1x1x2x1x5x3 : Shape := ⟨7, ![1, 1, 1, 2, 1, 5, 3]⟩
abbrev S4x128x2x2x3x5x3 : Shape := ⟨7, ![4, 128, 2, 2, 3, 5, 3]⟩
abbrev S4x128x2x2x3x3 : Shape := ⟨6, ![4, 128, 2, 2, 3, 3]⟩
abbrev S4x2x2x128x3x3 : Shape := ⟨6, ![4, 2, 2, 128, 3, 3]⟩
abbrev S16x1152 : Shape := ⟨2, ![16, 1152]⟩
abbrev S16x1 : Shape := ⟨2, ![16, 1]⟩
abbrev S128x64x1x5x1x5 : Shape := ⟨6, ![128, 64, 1, 5, 1, 5]⟩
abbrev S1x1x3x5x5x1 : Shape := ⟨6, ![1, 1, 3, 5, 5, 1]⟩
abbrev S128x64x3x5x5x5 : Shape := ⟨6, ![128, 64, 3, 5, 5, 5]⟩
abbrev S128x64x3x5x5 : Shape := ⟨5, ![128, 64, 3, 5, 5]⟩
abbrev S128x64x3x1x5x5x1 : Shape := ⟨7, ![128, 64, 3, 1, 5, 5, 1]⟩
abbrev S1x1x1x3x1x5x5 : Shape := ⟨7, ![1, 1, 1, 3, 1, 5, 5]⟩
abbrev S128x64x3x3x5x5x5 : Shape := ⟨7, ![128, 64, 3, 3, 5, 5, 5]⟩
abbrev S128x64x3x3x5x5 : Shape := ⟨6, ![128, 64, 3, 3, 5, 5]⟩
abbrev S128x3x3x64x5x5 : Shape := ⟨6, ![128, 3, 3, 64, 5, 5]⟩
abbrev S1152x1600 : Shape := ⟨2, ![1152, 1600]⟩
abbrev S1x1x5x5x13x1 : Shape := ⟨6, ![1, 1, 5, 5, 13, 1]⟩
abbrev S64x32x5x5x13x5 : Shape := ⟨6, ![64, 32, 5, 5, 13, 5]⟩
abbrev S64x32x5x13x5 : Shape := ⟨5, ![64, 32, 5, 13, 5]⟩
abbrev S64x32x5x1x13x5x1 : Shape := ⟨7, ![64, 32, 5, 1, 13, 5, 1]⟩
abbrev S1x1x1x5x1x5x13 : Shape := ⟨7, ![1, 1, 1, 5, 1, 5, 13]⟩
abbrev S64x32x5x5x13x5x13 : Shape := ⟨7, ![64, 32, 5, 5, 13, 5, 13]⟩
abbrev S64x32x5x5x13x13 : Shape := ⟨6, ![64, 32, 5, 5, 13, 13]⟩
abbrev S64x5x5x32x13x13 : Shape := ⟨6, ![64, 5, 5, 32, 13, 13]⟩
abbrev S1600x5408 : Shape := ⟨2, ![1600, 5408]⟩
abbrev S32x1x1x5x1x5 : Shape := ⟨6, ![32, 1, 1, 5, 1, 5]⟩
abbrev S1x1x13x5x28x1 : Shape := ⟨6, ![1, 1, 13, 5, 28, 1]⟩
abbrev S32x1x13x5x28x5 : Shape := ⟨6, ![32, 1, 13, 5, 28, 5]⟩
abbrev S32x1x13x28x5 : Shape := ⟨5, ![32, 1, 13, 28, 5]⟩
abbrev S32x1x13x1x28x5x1 : Shape := ⟨7, ![32, 1, 13, 1, 28, 5, 1]⟩
abbrev S1x1x1x13x1x5x28 : Shape := ⟨7, ![1, 1, 1, 13, 1, 5, 28]⟩
abbrev S32x1x13x13x28x5x28 : Shape := ⟨7, ![32, 1, 13, 13, 28, 5, 28]⟩
abbrev S32x1x13x13x28x28 : Shape := ⟨6, ![32, 1, 13, 13, 28, 28]⟩
abbrev S32x13x13x1x28x28 : Shape := ⟨6, ![32, 13, 13, 1, 28, 28]⟩
abbrev S5408x784 : Shape := ⟨2, ![5408, 784]⟩
abbrev S16x196 : Shape := ⟨2, ![16, 196]⟩
abbrev S3136 : Shape := ⟨1, ![3136]⟩
abbrev S1x3136 : Shape := ⟨2, ![1, 3136]⟩
abbrev S8x3136 : Shape := ⟨2, ![8, 3136]⟩
abbrev S32x49 : Shape := ⟨2, ![32, 49]⟩
abbrev S1568 : Shape := ⟨1, ![1568]⟩
abbrev S1x1568 : Shape := ⟨2, ![1, 1568]⟩
abbrev S8x1568 : Shape := ⟨2, ![8, 1568]⟩
abbrev S1x64 : Shape := ⟨2, ![1, 64]⟩
abbrev S16x64 : Shape := ⟨2, ![16, 64]⟩
abbrev S1x1024 : Shape := ⟨2, ![1, 1024]⟩
abbrev S8x1024 : Shape := ⟨2, ![8, 1024]⟩
abbrev S1x4 : Shape := ⟨2, ![1, 4]⟩
abbrev S8x4 : Shape := ⟨2, ![8, 4]⟩
abbrev S128x9 : Shape := ⟨2, ![128, 9]⟩
abbrev S1152 : Shape := ⟨1, ![1152]⟩
abbrev S1x1152 : Shape := ⟨2, ![1, 1152]⟩
abbrev S8x1152 : Shape := ⟨2, ![8, 1152]⟩
abbrev S64x25 : Shape := ⟨2, ![64, 25]⟩
abbrev S1600 : Shape := ⟨1, ![1600]⟩
abbrev S1x1600 : Shape := ⟨2, ![1, 1600]⟩
abbrev S8x1600 : Shape := ⟨2, ![8, 1600]⟩
abbrev S32x169 : Shape := ⟨2, ![32, 169]⟩
abbrev S5408 : Shape := ⟨1, ![5408]⟩
abbrev S1x5408 : Shape := ⟨2, ![1, 5408]⟩
abbrev S8x5408 : Shape := ⟨2, ![8, 5408]⟩
abbrev S1x784 : Shape := ⟨2, ![1, 784]⟩
abbrev S784 : Shape := ⟨1, ![784]⟩
abbrev S8x784 : Shape := ⟨2, ![8, 784]⟩
abbrev S4x64 : Shape := ⟨2, ![4, 64]⟩
abbrev S256 : Shape := ⟨1, ![256]⟩
abbrev S1x256 : Shape := ⟨2, ![1, 256]⟩
abbrev S8x256 : Shape := ⟨2, ![8, 256]⟩
abbrev S8x128 : Shape := ⟨2, ![8, 128]⟩
abbrev S2048x4 : Shape := ⟨2, ![2048, 4]⟩
abbrev S128x784 : Shape := ⟨2, ![128, 784]⟩
abbrev S128x4 : Shape := ⟨2, ![128, 4]⟩
abbrev S128x3136 : Shape := ⟨2, ![128, 3136]⟩
abbrev S128x1568 : Shape := ⟨2, ![128, 1568]⟩
abbrev S128x1024 : Shape := ⟨2, ![128, 1024]⟩
abbrev S128x64 : Shape := ⟨2, ![128, 64]⟩
abbrev S128x1600 : Shape := ⟨2, ![128, 1600]⟩
abbrev S128x16 : Shape := ⟨2, ![128, 16]⟩
abbrev S128x1 : Shape := ⟨2, ![128, 1]⟩
abbrev S128x256 : Shape := ⟨2, ![128, 256]⟩
abbrev S1x1 : Shape := ⟨2, ![1, 1]⟩
abbrev S128x1152 : Shape := ⟨2, ![128, 1152]⟩
abbrev S128x5408 : Shape := ⟨2, ![128, 5408]⟩
abbrev S1x128 : Shape := ⟨2, ![1, 128]⟩
abbrev S6x128 : Shape := ⟨2, ![6, 128]⟩
abbrev S2048x2x2 : Shape := ⟨3, ![2048, 2, 2]⟩

abbrev nBuf : Space → Nat
  | .hbm => 216
  | .vmem => 23
  | .smem => 0
  | _ => 0

abbrev hbmTy0_0 (i : Nat) : BufTy := match i % 128 with
  | 0 => ⟨S2048x1x28x28, .f32⟩
  | 1 => ⟨S16x1x5x5, .f32⟩
  | 2 => ⟨S16, .f32⟩
  | 3 => ⟨S32x16x5x5, .f32⟩
  | 4 => ⟨S32, .f32⟩
  | 5 => ⟨S64x32x5x5, .f32⟩
  | 6 => ⟨S64, .f32⟩
  | 7 => ⟨S4x64x5x5, .f32⟩
  | 8 => ⟨S4, .f32⟩
  | 9 => ⟨S4x128x5x5, .f32⟩
  | 10 => ⟨S128, .f32⟩
  | 11 => ⟨S128x64x5x5, .f32⟩
  | 12 => ⟨S64, .f32⟩
  | 13 => ⟨S64x32x5x5, .f32⟩
  | 14 => ⟨S32, .f32⟩
  | 15 => ⟨S32x1x5x5, .f32⟩
  | 16 => ⟨S1, .f32⟩
  | 17 => ⟨S64x4, .f32⟩
  | 18 => ⟨S28x5x14, .f32⟩
  | 19 => ⟨S14x5x7, .f32⟩
  | 20 => ⟨S7x5x4, .f32⟩
  | 21 => ⟨S1024, .i32⟩
  | 22 => ⟨S1024, .i1⟩
  | 23 => ⟨S2x5x3, .f32⟩
  | 24 => ⟨S16, .i32⟩
  | 25 => ⟨S16, .i1⟩
  | 26 => ⟨S3x5x5, .f32⟩
  | 27 => ⟨S5x5x13, .f32⟩
  | 28 => ⟨S13x5x28, .f32⟩
  | 29 => ⟨S2048x784, .f32⟩
  | 30 => ⟨S16x1x1x5x1x5, .f32⟩
  | 31 => ⟨S1x1x28x5x14x1, .f32⟩
  | 32 => ⟨S16x1x28x5x14x5, .f32⟩
  | 33 => ⟨S16x1x28x5x14x5, .f32⟩
  | 34 => ⟨S16x1x28x5x14x5, .f32⟩
  | 35 => ⟨S_, .f32⟩
  | 36 => ⟨S16x1x28x14x5, .f32⟩
  | 37 => ⟨S16x1x28x1x14x5x1, .f32⟩
  | 38 => ⟨S1x1x1x28x1x5x14, .f32⟩
  | 39 => ⟨S16x1x28x28x14x5x14, .f32⟩
  | 40 => ⟨S16x1x28x28x14x5x14, .f32⟩
  | 41 => ⟨S16x1x28x28x14x5x14, .f32⟩
  | 42 => ⟨S_, .f32⟩
  | 43 => ⟨S16x1x28x28x14x14, .f32⟩
  | 44 => ⟨S1x28x28x16x14x14, .f32⟩
  | 45 => ⟨S784x3136, .f32⟩
  | 46 => ⟨S784x3136, .bf16⟩
  | 47 => ⟨S32x16x1x5x1x5, .f32⟩
  | 48 => ⟨S1x1x14x5x7x1, .f32⟩
  | 49 => ⟨S32x16x14x5x7x5, .f32⟩
  | 50 => ⟨S32x16x14x5x7x5, .f32⟩
  | 51 => ⟨S32x16x14x5x7x5, .f32⟩
  | 52 => ⟨S_, .f32⟩
  | 53 => ⟨S32x16x14x7x5, .f32⟩
  | 54 => ⟨S32x16x14x1x7x5x1, .f32⟩
  | 55 => ⟨S1x1x1x14x1x5x7, .f32⟩
  | 56 => ⟨S32x16x14x14x7x5x7, .f32⟩
  | 57 => ⟨S32x16x14x14x7x5x7, .f32⟩
  | 58 => ⟨S32x16x14x14x7x5x7, .f32⟩
  | 59 => ⟨S_, .f32⟩
  | 60 => ⟨S32x16x14x14x7x7, .f32⟩
  | 61 => ⟨S16x14x14x32x7x7, .f32⟩
  | 62 => ⟨S3136x1568, .f32⟩
  | 63 => ⟨S3136x1568, .bf16⟩
  | 64 => ⟨S64x32x1x5x1x5, .f32⟩
  | 65 => ⟨S1x1x7x5x4x1, .f32⟩
  | 66 => ⟨S64x32x7x5x4x5, .f32⟩
  | 67 => ⟨S64x32x7x5x4x5, .f32⟩
  | 68 => ⟨S64x32x7x5x4x5, .f32⟩
  | 69 => ⟨S_, .f32⟩
  | 70 => ⟨S64x32x7x4x5, .f32⟩
  | 71 => ⟨S64x32x7x1x4x5x1, .f32⟩
  | 72 => ⟨S1x1x1x7x1x5x4, .f32⟩
  | 73 => ⟨S64x32x7x7x4x5x4, .f32⟩
  | 74 => ⟨S64x32x7x7x4x5x4, .f32⟩
  | 75 => ⟨S64x32x7x7x4x5x4, .f32⟩
  | 76 => ⟨S_, .f32⟩
  | 77 => ⟨S64x32x7x7x4x4, .f32⟩
  | 78 => ⟨S32x7x7x64x4x4, .f32⟩
  | 79 => ⟨S1568x1024, .f32⟩
  | 80 => ⟨S_, .i32⟩
  | 81 => ⟨S1024, .i32⟩
  | 82 => ⟨S1024, .i32⟩
  | 83 => ⟨S1024, .i32⟩
  | 84 => ⟨S1024x1, .i32⟩
  | 85 => ⟨S1568x1024, .f32⟩
  | 86 => ⟨S1568x1024, .bf16⟩
  | 87 => ⟨S5x5x64x4, .f32⟩
  | 88 => ⟨S1600x4, .f32⟩
  | 89 => ⟨S1600x4, .bf16⟩
  | 90 => ⟨S4x128x1x5x1x5, .f32⟩
  | 91 => ⟨S1x1x2x5x3x1, .f32⟩
  | 92 => ⟨S4x128x2x5x3x5, .f32⟩
  | 93 => ⟨S4x128x2x5x3x5, .f32⟩
  | 94 => ⟨S4x128x2x5x3x5, .f32⟩
  | 95 => ⟨S_, .f32⟩
  | 96 => ⟨S4x128x2x3x5, .f32⟩
  | 97 => ⟨S4x128x2x1x3x5x1, .f32⟩
  | 98 => ⟨S1x1x1x2x1x5x3, .f32⟩
  | 99 => ⟨S4x128x2x2x3x5x3, .f32⟩
  | 100 => ⟨S4x128x2x2x3x5x3, .f32⟩
  | 101 => ⟨S4x128x2x2x3x5x3, .f32⟩
  | 102 => ⟨S_, .f32⟩
  | 103 => ⟨S4x128x2x2x3x3, .f32⟩
  | 104 => ⟨S4x2x2x128x3x3, .f32⟩
  | 105 => ⟨S16x1152, .f32⟩
  | 106 => ⟨S_, .i32⟩
  | 107 => ⟨S16, .i32⟩
  | 108 => ⟨S16, .i32⟩
  | 109 => ⟨S16, .i32⟩
  | 110 => ⟨S16x1, .i32⟩
  | 111 => ⟨S16x1152, .f32⟩
  | 112 => ⟨S16x1152, .bf16⟩
  | 113 => ⟨S128x64x1x5x1x5, .f32⟩
  | 114 => ⟨S1x1x3x5x5x1, .f32⟩
  | 115 => ⟨S128x64x3x5x5x5, .f32⟩
  | 116 => ⟨S128x64x3x5x5x5, .f32⟩
  | 117 => ⟨S128x64x3x5x5x5, .f32⟩
  | 118 => ⟨S_, .f32⟩
  | 119 => ⟨S128x64x3x5x5, .f32⟩
  | 120 => ⟨S128x64x3x1x5x5x1, .f32⟩
  | 121 => ⟨S1x1x1x3x1x5x5, .f32⟩
  | 122 => ⟨S128x64x3x3x5x5x5, .f32⟩
  | 123 => ⟨S128x64x3x3x5x5x5, .f32⟩
  | 124 => ⟨S128x64x3x3x5x5x5, .f32⟩
  | 125 => ⟨S_, .f32⟩
  | 126 => ⟨S128x64x3x3x5x5, .f32⟩
  | 127 => ⟨S128x3x3x64x5x5, .f32⟩
  | _ => ⟨S2048x1x28x28, .f32⟩

abbrev hbmTy0_1 (i : Nat) : BufTy := match i % 128 with
  | 0 => ⟨S1152x1600, .f32⟩
  | 1 => ⟨S1152x1600, .bf16⟩
  | 2 => ⟨S64x32x1x5x1x5, .f32⟩
  | 3 => ⟨S1x1x5x5x13x1, .f32⟩
  | 4 => ⟨S64x32x5x5x13x5, .f32⟩
  | 5 => ⟨S64x32x5x5x13x5, .f32⟩
  | 6 => ⟨S64x32x5x5x13x5, .f32⟩
  | 7 => ⟨S_, .f32⟩
  | 8 => ⟨S64x32x5x13x5, .f32⟩
  | 9 => ⟨S64x32x5x1x13x5x1, .f32⟩
  | 10 => ⟨S1x1x1x5x1x5x13, .f32⟩
  | 11 => ⟨S64x32x5x5x13x5x13, .f32⟩
  | 12 => ⟨S64x32x5x5x13x5x13, .f32⟩
  | 13 => ⟨S64x32x5x5x13x5x13, .f32⟩
  | 14 => ⟨S_, .f32⟩
  | 15 => ⟨S64x32x5x5x13x13, .f32⟩
  | 16 => ⟨S64x5x5x32x13x13, .f32⟩
  | 17 => ⟨S1600x5408, .f32⟩
  | 18 => ⟨S1600x5408, .bf16⟩
  | 19 => ⟨S32x1x1x5x1x5, .f32⟩
  | 20 => ⟨S1x1x13x5x28x1, .f32⟩
  | 21 => ⟨S32x1x13x5x28x5, .f32⟩
  | 22 => ⟨S32x1x13x5x28x5, .f32⟩
  | 23 => ⟨S32x1x13x5x28x5, .f32⟩
  | 24 => ⟨S_, .f32⟩
  | 25 => ⟨S32x1x13x28x5, .f32⟩
  | 26 => ⟨S32x1x13x1x28x5x1, .f32⟩
  | 27 => ⟨S1x1x1x13x1x5x28, .f32⟩
  | 28 => ⟨S32x1x13x13x28x5x28, .f32⟩
  | 29 => ⟨S32x1x13x13x28x5x28, .f32⟩
  | 30 => ⟨S32x1x13x13x28x5x28, .f32⟩
  | 31 => ⟨S_, .f32⟩
  | 32 => ⟨S32x1x13x13x28x28, .f32⟩
  | 33 => ⟨S32x13x13x1x28x28, .f32⟩
  | 34 => ⟨S5408x784, .f32⟩
  | 35 => ⟨S5408x784, .bf16⟩
  | 36 => ⟨S16x196, .f32⟩
  | 37 => ⟨S3136, .f32⟩
  | 38 => ⟨S1x3136, .f32⟩
  | 39 => ⟨S8x3136, .f32⟩
  | 40 => ⟨S32x49, .f32⟩
  | 41 => ⟨S1568, .f32⟩
  | 42 => ⟨S1x1568, .f32⟩
  | 43 => ⟨S8x1568, .f32⟩
  | 44 => ⟨S1x64, .f32⟩
  | 45 => ⟨S16x64, .f32⟩
  | 46 => ⟨S1024, .f32⟩
  | 47 => ⟨S1x1024, .f32⟩
  | 48 => ⟨S8x1024, .f32⟩
  | 49 => ⟨S1x4, .f32⟩
  | 50 => ⟨S8x4, .f32⟩
  | 51 => ⟨S128x9, .f32⟩
  | 52 => ⟨S1152, .f32⟩
  | 53 => ⟨S1x1152, .f32⟩
  | 54 => ⟨S8x1152, .f32⟩
  | 55 => ⟨S64x25, .f32⟩
  | 56 => ⟨S1600, .f32⟩
  | 57 => ⟨S1x1600, .f32⟩
  | 58 => ⟨S8x1600, .f32⟩
  | 59 => ⟨S32x169, .f32⟩
  | 60 => ⟨S5408, .f32⟩
  | 61 => ⟨S1x5408, .f32⟩
  | 62 => ⟨S8x5408, .f32⟩
  | 63 => ⟨S1x784, .f32⟩
  | 64 => ⟨S784, .f32⟩
  | 65 => ⟨S1x784, .f32⟩
  | 66 => ⟨S8x784, .f32⟩
  | 67 => ⟨S4x64, .f32⟩
  | 68 => ⟨S256, .f32⟩
  | 69 => ⟨S1x256, .f32⟩
  | 70 => ⟨S8x256, .f32⟩
  | 71 => ⟨S8x128, .f32⟩
  | 72 => ⟨S2048x4, .i32⟩
  | 73 => ⟨S1x1, .f32⟩
  | 74 => ⟨S_, .f32⟩
  | 75 => ⟨S_, .f32⟩
  | 76 => ⟨S_, .f32⟩
  | 77 => ⟨S1x1, .f32⟩
  | 78 => ⟨S_, .f32⟩
  | 79 => ⟨S_, .f32⟩
  | 80 => ⟨S_, .f32⟩
  | 81 => ⟨S1x1, .f32⟩
  | 82 => ⟨S_, .f32⟩
  | 83 => ⟨S_, .f32⟩
  | 84 => ⟨S_, .f32⟩
  | 85 => ⟨S_, .f32⟩
  | 86 => ⟨S1, .f32⟩
  | 87 => ⟨S2048x2x2, .i32⟩
  | _ => ⟨S2048x1x28x28, .f32⟩

abbrev hbmTy (i : Nat) : BufTy := match i / 128 with
  | 0 => hbmTy0_0 i
  | 1 => hbmTy0_1 i
  | _ => ⟨S2048x1x28x28, .f32⟩

abbrev bufTy : (tb : Table) → Fin (tcTables nBuf tb) → BufTy
  | .hbm, ⟨i, _⟩ => hbmTy i
  | .local _ .vmem, ⟨0, _⟩ => ⟨S128x784, .f32⟩
  | .local _ .vmem, ⟨1, _⟩ => ⟨S128x784, .f32⟩
  | .local _ .vmem, ⟨2, _⟩ => ⟨S784x3136, .bf16⟩
  | .local _ .vmem, ⟨3, _⟩ => ⟨S8x3136, .f32⟩
  | .local _ .vmem, ⟨4, _⟩ => ⟨S3136x1568, .bf16⟩
  | .local _ .vmem, ⟨5, _⟩ => ⟨S8x1568, .f32⟩
  | .local _ .vmem, ⟨6, _⟩ => ⟨S1568x1024, .bf16⟩
  | .local _ .vmem, ⟨7, _⟩ => ⟨S8x1024, .f32⟩
  | .local _ .vmem, ⟨8, _⟩ => ⟨S1600x4, .bf16⟩
  | .local _ .vmem, ⟨9, _⟩ => ⟨S8x4, .f32⟩
  | .local _ .vmem, ⟨10, _⟩ => ⟨S16x1152, .bf16⟩
  | .local _ .vmem, ⟨11, _⟩ => ⟨S8x1152, .f32⟩
  | .local _ .vmem, ⟨12, _⟩ => ⟨S1152x1600, .bf16⟩
  | .local _ .vmem, ⟨13, _⟩ => ⟨S8x1600, .f32⟩
  | .local _ .vmem, ⟨14, _⟩ => ⟨S1600x5408, .bf16⟩
  | .local _ .vmem, ⟨15, _⟩ => ⟨S8x5408, .f32⟩
  | .local _ .vmem, ⟨16, _⟩ => ⟨S5408x784, .bf16⟩
  | .local _ .vmem, ⟨17, _⟩ => ⟨S8x784, .f32⟩
  | .local _ .vmem, ⟨18, _⟩ => ⟨S8x256, .f32⟩
  | .local _ .vmem, ⟨19, _⟩ => ⟨S64x4, .f32⟩
  | .local _ .vmem, ⟨20, _⟩ => ⟨S8x128, .f32⟩
  | .local _ .vmem, ⟨21, _⟩ => ⟨S128x4, .i32⟩
  | .local _ .vmem, ⟨22, _⟩ => ⟨S128x4, .i32⟩
  | _, _ => ⟨S2048x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_c : Ref sig .tc := ⟨.hbm, 21, rfl⟩
abbrev main_c_2 : Ref sig .tc := ⟨.hbm, 22, rfl⟩
abbrev main_cst_3 : Ref sig .tc := ⟨.hbm, 23, rfl⟩
abbrev main_c_4 : Ref sig .tc := ⟨.hbm, 24, rfl⟩
abbrev main_c_5 : Ref sig .tc := ⟨.hbm, 25, rfl⟩
abbrev main_cst_6 : Ref sig .tc := ⟨.hbm, 26, rfl⟩
abbrev main_cst_7 : Ref sig .tc := ⟨.hbm, 27, rfl⟩
abbrev main_cst_8 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst_9 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_10 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_11 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_12 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_13 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_15 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_18 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_24 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154_0 : Ref sig .tc := ⟨.hbm, 199, rfl⟩
abbrev main_v154_1 : Ref sig .tc := ⟨.hbm, 200, rfl⟩
abbrev main_v155 : Ref sig .tc := ⟨.hbm, 201, rfl⟩
abbrev main_v156 : Ref sig .tc := ⟨.hbm, 202, rfl⟩
abbrev main_cst_25 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_26 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_27 : Ref sig .tc := ⟨.hbm, 211, rfl⟩
abbrev main_v163 : Ref sig .tc := ⟨.hbm, 212, rfl⟩
abbrev main_cst_28 : Ref sig .tc := ⟨.hbm, 213, rfl⟩
abbrev main_v164 : Ref sig .tc := ⟨.hbm, 214, rfl⟩
abbrev main_v165 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x3136 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3136x1568 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1568 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1568x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1600x4 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1152 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1152 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1152x1600 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1600 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1600x5408 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x5408 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5408x784 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x784 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x4 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S2048x1x28x28 : Shape := ⟨4, ![2048, 1, 28, 28]⟩
abbrev S16x1x5x5 : Shape := ⟨4, ![16, 1, 5, 5]⟩
abbrev S16 : Shape := ⟨1, ![16]⟩
abbrev S32x16x5x5 : Shape := ⟨4, ![32, 16, 5, 5]⟩
abbrev S32 : Shape := ⟨1, ![32]⟩
abbrev S64x32x5x5 : Shape := ⟨4, ![64, 32, 5, 5]⟩
abbrev S64 : Shape := ⟨1, ![64]⟩
abbrev S4x64x5x5 : Shape := ⟨4, ![4, 64, 5, 5]⟩
abbrev S4 : Shape := ⟨1, ![4]⟩
abbrev S4x128x5x5 : Shape := ⟨4, ![4, 128, 5, 5]⟩
abbrev S128 : Shape := ⟨1, ![128]⟩
abbrev S128x64x5x5 : Shape := ⟨4, ![128, 64, 5, 5]⟩
abbrev S32x1x5x5 : Shape := ⟨4, ![32, 1, 5, 5]⟩
abbrev S1 : Shape := ⟨1, ![1]⟩
abbrev S64x4 : Shape := ⟨2, ![64, 4]⟩
abbrev S14x14x2 : Shape := ⟨3, ![14, 14, 2]⟩
abbrev S7x7x2 : Shape := ⟨3, ![7, 7, 2]⟩
abbrev S4x4x2 : Shape := ⟨3, ![4, 4, 2]⟩
abbrev S2x2x2 : Shape := ⟨3, ![2, 2, 2]⟩
abbrev S3x3x2 : Shape := ⟨3, ![3, 3, 2]⟩
abbrev S5x5x2 : Shape := ⟨3, ![5, 5, 2]⟩
abbrev S13x13x2 : Shape := ⟨3, ![13, 13, 2]⟩
abbrev S29x29x2 : Shape := ⟨3, ![29, 29, 2]⟩
abbrev S_ : Shape := ⟨0, ![]⟩
abbrev S2048x28x28x1 : Shape := ⟨4, ![2048, 28, 28, 1]⟩
abbrev S2048x32x32x1 : Shape := ⟨4, ![2048, 32, 32, 1]⟩
abbrev S2048x14x14x5x5x1 : Shape := ⟨6, ![2048, 14, 14, 5, 5, 1]⟩
abbrev S2048x14x14x16 : Shape := ⟨4, ![2048, 14, 14, 16]⟩
abbrev S2048x18x18x16 : Shape := ⟨4, ![2048, 18, 18, 16]⟩
abbrev S2048x7x7x5x5x16 : Shape := ⟨6, ![2048, 7, 7, 5, 5, 16]⟩
abbrev S2048x7x7x32 : Shape := ⟨4, ![2048, 7, 7, 32]⟩
abbrev S2048x11x11x32 : Shape := ⟨4, ![2048, 11, 11, 32]⟩
abbrev S2048x4x4x5x5x32 : Shape := ⟨6, ![2048, 4, 4, 5, 5, 32]⟩
abbrev S2048x4x4x64 : Shape := ⟨4, ![2048, 4, 4, 64]⟩
abbrev S2048x8x8x64 : Shape := ⟨4, ![2048, 8, 8, 64]⟩
abbrev S2048x2x2x5x5x64 : Shape := ⟨6, ![2048, 2, 2, 5, 5, 64]⟩
abbrev S2048x2x2x4 : Shape := ⟨4, ![2048, 2, 2, 4]⟩
abbrev S2048x2x2x64x4 : Shape := ⟨5, ![2048, 2, 2, 64, 4]⟩
abbrev S2048x2x2x64 : Shape := ⟨4, ![2048, 2, 2, 64]⟩
abbrev S2048x2x2 : Shape := ⟨3, ![2048, 2, 2]⟩
abbrev S2048x2x2x1 : Shape := ⟨4, ![2048, 2, 2, 1]⟩
abbrev S2048x7x7x4 : Shape := ⟨4, ![2048, 7, 7, 4]⟩
abbrev S2048x3x3x5x5x4 : Shape := ⟨6, ![2048, 3, 3, 5, 5, 4]⟩
abbrev S2048x3x3x128 : Shape := ⟨4, ![2048, 3, 3, 128]⟩
abbrev S2048x9x9x128 : Shape := ⟨4, ![2048, 9, 9, 128]⟩
abbrev S2048x5x5x5x5x128 : Shape := ⟨6, ![2048, 5, 5, 5, 5, 128]⟩
abbrev S2048x5x5x64 : Shape := ⟨4, ![2048, 5, 5, 64]⟩
abbrev S2048x17x17x64 : Shape := ⟨4, ![2048, 17, 17, 64]⟩
abbrev S2048x13x13x5x5x64 : Shape := ⟨6, ![2048, 13, 13, 5, 5, 64]⟩
abbrev S2048x13x13x32 : Shape := ⟨4, ![2048, 13, 13, 32]⟩
abbrev S2048x33x33x32 : Shape := ⟨4, ![2048, 33, 33, 32]⟩
abbrev S2048x29x29x5x5x32 : Shape := ⟨6, ![2048, 29, 29, 5, 5, 32]⟩
abbrev S2048x29x29x1 : Shape := ⟨4, ![2048, 29, 29, 1]⟩

abbrev nBuf : Space → Nat
  | .hbm => 127
  | .vmem => 0
  | .smem => 0
  | _ => 0

abbrev bufTy : (tb : Table) → Fin (tcTables nBuf tb) → BufTy
  | .hbm, ⟨0, _⟩ => ⟨S2048x1x28x28, .f32⟩
  | .hbm, ⟨1, _⟩ => ⟨S16x1x5x5, .f32⟩
  | .hbm, ⟨2, _⟩ => ⟨S16, .f32⟩
  | .hbm, ⟨3, _⟩ => ⟨S32x16x5x5, .f32⟩
  | .hbm, ⟨4, _⟩ => ⟨S32, .f32⟩
  | .hbm, ⟨5, _⟩ => ⟨S64x32x5x5, .f32⟩
  | .hbm, ⟨6, _⟩ => ⟨S64, .f32⟩
  | .hbm, ⟨7, _⟩ => ⟨S4x64x5x5, .f32⟩
  | .hbm, ⟨8, _⟩ => ⟨S4, .f32⟩
  | .hbm, ⟨9, _⟩ => ⟨S4x128x5x5, .f32⟩
  | .hbm, ⟨10, _⟩ => ⟨S128, .f32⟩
  | .hbm, ⟨11, _⟩ => ⟨S128x64x5x5, .f32⟩
  | .hbm, ⟨12, _⟩ => ⟨S64, .f32⟩
  | .hbm, ⟨13, _⟩ => ⟨S64x32x5x5, .f32⟩
  | .hbm, ⟨14, _⟩ => ⟨S32, .f32⟩
  | .hbm, ⟨15, _⟩ => ⟨S32x1x5x5, .f32⟩
  | .hbm, ⟨16, _⟩ => ⟨S1, .f32⟩
  | .hbm, ⟨17, _⟩ => ⟨S64x4, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S14x14x2, .i32⟩
  | .hbm, ⟨22, _⟩ => ⟨S7x7x2, .i32⟩
  | .hbm, ⟨23, _⟩ => ⟨S4x4x2, .i32⟩
  | .hbm, ⟨24, _⟩ => ⟨S2x2x2, .i32⟩
  | .hbm, ⟨25, _⟩ => ⟨S3x3x2, .i32⟩
  | .hbm, ⟨26, _⟩ => ⟨S5x5x2, .i32⟩
  | .hbm, ⟨27, _⟩ => ⟨S13x13x2, .i32⟩
  | .hbm, ⟨28, _⟩ => ⟨S29x29x2, .i32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x28x28x1, .f32⟩
  | .hbm, ⟨33, _⟩ => ⟨S2048x32x32x1, .f32⟩
  | .hbm, ⟨34, _⟩ => ⟨S2048x14x14x5x5x1, .f32⟩
  | .hbm, ⟨35, _⟩ => ⟨S2048x14x14x16, .f32⟩
  | .hbm, ⟨36, _⟩ => ⟨S2048x14x14x16, .f32⟩
  | .hbm, ⟨37, _⟩ => ⟨S2048x14x14x16, .f32⟩
  | .hbm, ⟨38, _⟩ => ⟨S2048x14x14x16, .f32⟩
  | .hbm, ⟨39, _⟩ => ⟨S2048x14x14x16, .f32⟩
  | .hbm, ⟨40, _⟩ => ⟨S2048x18x18x16, .f32⟩
  | .hbm, ⟨41, _⟩ => ⟨S2048x7x7x5x5x16, .f32⟩
  | .hbm, ⟨42, _⟩ => ⟨S2048x7x7x32, .f32⟩
  | .hbm, ⟨43, _⟩ => ⟨S2048x7x7x32, .f32⟩
  | .hbm, ⟨44, _⟩ => ⟨S2048x7x7x32, .f32⟩
  | .hbm, ⟨45, _⟩ => ⟨S2048x7x7x32, .f32⟩
  | .hbm, ⟨46, _⟩ => ⟨S2048x7x7x32, .f32⟩
  | .hbm, ⟨47, _⟩ => ⟨S2048x11x11x32, .f32⟩
  | .hbm, ⟨48, _⟩ => ⟨S2048x4x4x5x5x32, .f32⟩
  | .hbm, ⟨49, _⟩ => ⟨S2048x4x4x64, .f32⟩
  | .hbm, ⟨50, _⟩ => ⟨S2048x4x4x64, .f32⟩
  | .hbm, ⟨51, _⟩ => ⟨S2048x4x4x64, .f32⟩
  | .hbm, ⟨52, _⟩ => ⟨S2048x4x4x64, .f32⟩
  | .hbm, ⟨53, _⟩ => ⟨S2048x4x4x64, .f32⟩
  | .hbm, ⟨54, _⟩ => ⟨S2048x8x8x64, .f32⟩
  | .hbm, ⟨55, _⟩ => ⟨S2048x2x2x5x5x64, .f32⟩
  | .hbm, ⟨56, _⟩ => ⟨S2048x2x2x4, .f32⟩
  | .hbm, ⟨57, _⟩ => ⟨S2048x2x2x4, .f32⟩
  | .hbm, ⟨58, _⟩ => ⟨S2048x2x2x4, .f32⟩
  | .hbm, ⟨59, _⟩ => ⟨S2048x2x2x64x4, .f32⟩
  | .hbm, ⟨60, _⟩ => ⟨S2048x2x2x64x4, .f32⟩
  | .hbm, ⟨61, _⟩ => ⟨S2048x2x2x64x4, .f32⟩
  | .hbm, ⟨62, _⟩ => ⟨S2048x2x2x64x4, .f32⟩
  | .hbm, ⟨63, _⟩ => ⟨S2048x2x2x64, .f32⟩
  | .hbm, ⟨64, _⟩ => ⟨S2048x2x2x64, .f32⟩
  | .hbm, ⟨65, _⟩ => ⟨S2048x2x2x64, .i32⟩
  | .hbm, ⟨66, _⟩ => ⟨S_, .f32⟩
  | .hbm, ⟨67, _⟩ => ⟨S_, .i32⟩
  | .hbm, ⟨68, _⟩ => ⟨S2048x2x2, .f32⟩
  | .hbm, ⟨69, _⟩ => ⟨S2048x2x2, .i32⟩
  | .hbm, ⟨70, _⟩ => ⟨S2048x2x2x1, .i32⟩
  | .hbm, ⟨71, _⟩ => ⟨S2048x2x2x4, .f32⟩
  | .hbm, ⟨72, _⟩ => ⟨S2048x7x7x4, .f32⟩
  | .hbm, ⟨73, _⟩ => ⟨S2048x3x3x5x5x4, .f32⟩
  | .hbm, ⟨74, _⟩ => ⟨S4x128x5x5, .f32⟩
  | .hbm, ⟨75, _⟩ => ⟨S2048x3x3x128, .f32⟩
  | .hbm, ⟨76, _⟩ => ⟨S2048x3x3x128, .f32⟩
  | .hbm, ⟨77, _⟩ => ⟨S2048x3x3x128, .f32⟩
  | .hbm, ⟨78, _⟩ => ⟨S2048x3x3x128, .f32⟩
  | .hbm, ⟨79, _⟩ => ⟨S2048x3x3x128, .f32⟩
  | .hbm, ⟨80, _⟩ => ⟨S2048x9x9x128, .f32⟩
  | .hbm, ⟨81, _⟩ => ⟨S2048x5x5x5x5x128, .f32⟩
  | .hbm, ⟨82, _⟩ => ⟨S128x64x5x5, .f32⟩
  | .hbm, ⟨83, _⟩ => ⟨S2048x5x5x64, .f32⟩
  | .hbm, ⟨84, _⟩ => ⟨S2048x5x5x64, .f32⟩
  | .hbm, ⟨85, _⟩ => ⟨S2048x5x5x64, .f32⟩
  | .hbm, ⟨86, _⟩ => ⟨S2048x5x5x64, .f32⟩
  | .hbm, ⟨87, _⟩ => ⟨S2048x5x5x64, .f32⟩
  | .hbm, ⟨88, _⟩ => ⟨S2048x17x17x64, .f32⟩
  | .hbm, ⟨89, _⟩ => ⟨S2048x13x13x5x5x64, .f32⟩
  | .hbm, ⟨90, _⟩ => ⟨S64x32x5x5, .f32⟩
  | .hbm, ⟨91, _⟩ => ⟨S2048x13x13x32, .f32⟩
  | .hbm, ⟨92, _⟩ => ⟨S2048x13x13x32, .f32⟩
  | .hbm, ⟨93, _⟩ => ⟨S2048x13x13x32, .f32⟩
  | .hbm, ⟨94, _⟩ => ⟨S2048x13x13x32, .f32⟩
  | .hbm, ⟨95, _⟩ => ⟨S2048x13x13x32, .f32⟩
  | .hbm, ⟨96, _⟩ => ⟨S2048x33x33x32, .f32⟩
  | .hbm, ⟨97, _⟩ => ⟨S2048x29x29x5x5x32, .f32⟩
  | .hbm, ⟨98, _⟩ => ⟨S32x1x5x5, .f32⟩
  | .hbm, ⟨99, _⟩ => ⟨S2048x29x29x1, .f32⟩
  | .hbm, ⟨100, _⟩ => ⟨S2048x29x29x1, .f32⟩
  | .hbm, ⟨101, _⟩ => ⟨S2048x29x29x1, .f32⟩
  | .hbm, ⟨102, _⟩ => ⟨S2048x28x28x1, .f32⟩
  | .hbm, ⟨103, _⟩ => ⟨S2048x28x28x1, .f32⟩
  | .hbm, ⟨104, _⟩ => ⟨S2048x2x2x4, .f32⟩
  | .hbm, ⟨105, _⟩ => ⟨S2048x2x2x4, .f32⟩
  | .hbm, ⟨106, _⟩ => ⟨S2048x28x28x1, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S2048x2x2x4, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S2048x2x2x4, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S1, .f32⟩
  | _, _ => ⟨S2048x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_c : Ref sig .tc := ⟨.hbm, 21, rfl⟩
abbrev main_c_2 : Ref sig .tc := ⟨.hbm, 22, rfl⟩
abbrev main_c_3 : Ref sig .tc := ⟨.hbm, 23, rfl⟩
abbrev main_c_4 : Ref sig .tc := ⟨.hbm, 24, rfl⟩
abbrev main_c_5 : Ref sig .tc := ⟨.hbm, 25, rfl⟩
abbrev main_c_6 : Ref sig .tc := ⟨.hbm, 26, rfl⟩
abbrev main_c_7 : Ref sig .tc := ⟨.hbm, 27, rfl⟩
abbrev main_c_8 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call0_v0 : Ref sig .tc := ⟨.hbm, 65, rfl⟩
abbrev main_call0_cst : Ref sig .tc := ⟨.hbm, 66, rfl⟩
abbrev main_call0_c : Ref sig .tc := ⟨.hbm, 67, rfl⟩
abbrev main_call0_v1_0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_9 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_11 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_12 : Ref sig .tc := ⟨.hbm, 122, rfl⟩
abbrev main_v86 : Ref sig .tc := ⟨.hbm, 123, rfl⟩
abbrev main_cst_13 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Proof.RefOps.lean ====
/-
  The reference program as a list of host operations, cut into the pieces of its layers, and its run: the program
  ends with each buffer holding what the list, run in order from the arguments, leaves there.
-/
module

public import proofs.«01_k».proof.Proof.Gen.ReferenceIdeal
public import Idealize.ShloMosaic.Lib.StableHlo.Run

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the constants, the tables of window positions and the images, channels last. -/
abbrev start : List (HloOp τ sig (Elt F)) :=
  [ nullary main_cst (constant S1 .f32 0x00000000#32),
    nullary main_cst_0 (constant S1 .f32 0x40800000#32),
    nullary main_cst_1 (constant S1 .f32 0x47000000#32),
    nullary main_c (fun i => lit0 (S14x14x2.rowMajor i)),
    nullary main_c_2 (fun i => lit1 (S7x7x2.rowMajor i)),
    nullary main_c_3 (fun i => lit2 (S4x4x2.rowMajor i)),
    nullary main_c_4 (fun i => lit3 (S2x2x2.rowMajor i)),
    nullary main_c_5 (fun i => lit4 (S3x3x2.rowMajor i)),
    nullary main_c_6 (fun i => lit5 (S5x5x2.rowMajor i)),
    nullary main_c_7 (fun i => lit6 (S13x13x2.rowMajor i)),
    nullary main_c_8 (fun i => lit7 (S29x29x2.rowMajor i)),
    reshape main_cst main_v0 (rfl : (.f32 : EltTy) = .f32) shapeCasts_S1_S_,
    reshape main_cst_0 main_v1 (rfl : (.f32 : EltTy) = .f32) shapeCasts_S1_S_,
    reshape main_cst_1 main_v2 (rfl : (.f32 : EltTy) = .f32) shapeCasts_S1_S_,
    reshape main_arg0 main_v3 (rfl : (.f32 : EltTy) = .f32) shapeCasts_S2048x1x28x28_S2048x28x28x1 ]

/-- Operations of the first layer. -/
abbrev enc1 : List (HloOp τ sig (Elt F)) :=
  [ binary main_v3 main_v0 main_v4 ((fun x v => pad S2048x32x32x1 ![0, 2, 2, 0] ![0, 2, 2, 0] ![0, 0, 0, 0] x v pads_S2048x28x28x1_S2048x32x32x1_000_220_220_000 h_S_) : (⟨S2048x28x28x1, .f32⟩ : BufTy).Contents (Elt F) → (⟨S_, .f32⟩ : BufTy).Contents (Elt F) → (⟨S2048x32x32x1, .f32⟩ : BufTy).Contents (Elt F)),
    binary main_v4 main_c main_v5 ((fun x i => Host.gather gather_S2048x32x32x1_S14x14x2_S2048x14x14x5x5x1_0345_n_n_n_12_2_2048551 x i) : (⟨S2048x32x32x1, .f32⟩ : BufTy).Contents (Elt F) → (⟨S14x14x2, .i32⟩ : BufTy).Contents (Elt F) → (⟨S2048x14x14x5x5x1, .f32⟩ : BufTy).Contents (Elt F)),
    binary main_v5 main_arg1 main_v6 ((fun l r => Host.dotGeneral dot_S2048x14x14x5x5x1_S16x1x5x5_S2048x14x14x16_345_231_012_0_n_n none l r) : (⟨S2048x14x14x5x5x1, .f32⟩ : BufTy).Contents (Elt F) → (⟨S16x1x5x5, .f32⟩ : BufTy).Contents (Elt F) → (⟨S2048x14x14x16, .f32⟩ : BufTy).Contents (Elt F)),
    unary main_arg2 main_v7 (broadcastInDim S2048x14x14x16 ![3] bcast_S16_S2048x14x14x16_3 : (⟨S16, .f32⟩ : BufTy).Contents (Elt F) → (⟨S2048x14x14x16, .f32⟩ : BufTy).Contents (Elt F)),
    binary main_v6 main_v7 main_v8 (addf : (⟨S2048x14x14x16, .f32⟩ : BufTy).Contents (Elt F) → (⟨S2048x14x14x16, .f32⟩ : BufTy).Contents (Elt F) → (⟨S2048x14x14x16, .f32⟩ : BufTy).Contents (Elt F)),
    unary main_v0 main_v9 (broadcastInDim S2048x14x14x16 ![] bcast_S_S2048x14x14x16 : (⟨S_, .f32⟩ : BufTy).Contents (Elt F) → (⟨S2048x14x14x16, .f32⟩ : BufTy).Contents (Elt F)),
    binary main_v8 main_v9 main_v10 (maximumf : (⟨S2048x14x14x16, .f32⟩ : BufTy).Contents (Elt F) → (⟨S2048x14x14x16, .f32⟩ : BufTy).Contents (Elt F) → (⟨S2048x14x14x16, .f32⟩ : BufTy).Contents (Elt F)) ]

/-- Operations of the second layer. -/
abbrev enc2 : List (HloOp τ sig (Elt F)) :=
  [ binary main_v10 main_v0 main_v11 ((fun x v => pad S2048x18x18x16 ![0, 2, 2, 0] ![0, 2, 2, 0] ![0, 0, 0, 0] x v pads_S2048x14x14x16_S2048x18x18x16_000_220_220_000 h_S_) : (⟨S2048x14x14x16, .f32⟩ : BufTy).Contents (Elt F) → (⟨S_, .f32⟩ : BufTy).Contents (Elt F) → (⟨S2048x18x18x16, .f32⟩ : BufTy).Contents (Elt F)),
    binary main_v11 main_c_2 main_v12 ((fun x i => Host.gather gather_S2048x18x18x16_S7x7x2_S2048x7x7x5x5x16_0345_n_n_n_12_2_20485516 x i) : (⟨S2048x18x18x16, .f32⟩ : BufTy).Contents (Elt F) → (⟨S7x7x2, .i32⟩ : BufTy).Contents (Elt F) → (⟨S2048x7x7x5x5x16, .f32⟩ : BufTy).Contents (Elt F)),
    binary main_v12 main_arg3 main_v13 ((fun l r => Host.dotGeneral dot_S2048x7x7x5x5x16_S32x16x5x5_S2048x7x7x32_345_231_012_0_n_n none l r) : (⟨S2048x7x7x5x5x16, .f32⟩ : BufTy).Contents (Elt F) → (⟨S32x16x5x5, .f32⟩ : BufTy).Contents (Elt F) → (⟨S2048x7x7x32, .f32⟩ : BufTy).Contents (Elt F)),
    unary main_arg4 main_v14 (broadcastInDim S2048x7x7x32 ![3] bcast_S32_S2048x7x7x32_3 : (⟨S32, .f32⟩ : BufTy).Contents (Elt F) → (⟨S2048x7x7x32, .f32⟩ : BufTy).Contents (Elt F)),
    binary main_v13 main_v14 main_v15 (addf : (⟨S2048x7x7x32, .f32⟩ : BufTy).Contents (Elt F) → (⟨S2048x7x7x32, .f32⟩ : BufTy).Contents (Elt F) → (⟨S2048x7x7x32, .f32⟩ : BufTy).Contents (Elt F)),
    unary main_v0 main_v16 (broadcastInDim S2048x7x7x32 ![] bcast_S_S2048x7x7x32 : (⟨S_, .f32⟩ : BufTy).Contents (Elt F) → (⟨S2048x7x7x32, .f32⟩ : BufTy).Contents (Elt F)),
    binary main_v15 main_v16 main_v17 (maximumf : (⟨S2048x7x7x32, .f32⟩ : BufTy).Contents (Elt F) → (⟨S2048x7x7x32, .f32⟩ : BufTy).Contents (Elt F) → (⟨S2048x7x7x32, .f32⟩ : BufTy).Contents (Elt F)) ]

/-- Operations of the third layer. -/
abbrev enc3 : List (HloOp τ sig (Elt F)) :=
  [ binary main_v17 main_v0 main_v18 ((fun x v => pad S2048x11x11x32 ![0, 2, 2, 0] ![0, 2, 2, 0] ![0, 0, 0, 0] x v pads_S2048x7x7x32_S2048x11x11x32_000_220_220_000 h_S_) : (⟨S2048x7x7x32, .f32⟩ : BufTy).Contents (Elt F) → (⟨S_, .f32⟩ : BufTy).Contents (Elt F) → (⟨S2048x11x11x32, .f32⟩ : BufTy).Contents (Elt F)),
    binary main_v18 main_c_3 main_v19 ((fun x i => Host.gather gather_S2048x11x11x32_S4x4x2_S2048x4x4x5x5x32_0345_n_n_n_12_2_20485532 x i) : (⟨S2048x11x11x32, .f32⟩ : BufTy).Contents (Elt F) → (⟨S4x4x2, .i32⟩ : BufTy).Contents (Elt F) → (⟨S2048x4x4x5x5x32, .f32⟩ : BufTy).Contents (Elt F)),
    binary main_v19 main_arg5 main_v20 ((fun l r => Host.dotGeneral dot_S2048x4x4x5x5x32_S64x32x5x5_S2048x4x4x64_345_231_012_0_n_n none l r) : (⟨S2048x4x4x5x5x32, .f32⟩ : BufTy).Contents (Elt F) → (⟨S64x32x5x5, .f32⟩ : BufTy).Contents (Elt F) → (⟨S2048x4x4x64, .f32⟩ : BufTy).Contents (Elt F)),
    unary main_arg6 main_v21 (broadcastInDim S2048x4x4x64 ![3] bcast_S64_S2048x4x4x64_3 : (⟨S64, .f32⟩ : BufTy).Contents (Elt F) → (⟨S2048x4x4x64, .f32⟩ : BufTy).Contents (Elt F)),
    binary main_v20 main_v21 main_v22 (addf : (⟨S2048x4x4x64, .f32⟩ : BufTy).Contents (Elt F) → (⟨S2048x4x4x64, .f32⟩ : BufTy).Contents (Elt F) → (⟨S2048x4x4x64, .f32⟩ : BufTy).Contents (Elt F)),
    unary main_v0 main_v23 (broadcastInDim S2048x4x4x64 ![] bcast_S_S2048x4x4x64 : (⟨S_, .f32⟩ : BufTy).Contents (Elt F) → (⟨S2048x4x4x64, .f32⟩ : BufTy).Contents (Elt F)),
    binary main_v22 main_v23 main_v24 (maximumf : (⟨S2048x4x4x64, .f32⟩ : BufTy).Contents (Elt F) → (⟨S2048x4x4x64, .f32⟩ : BufTy).Contents (Elt F) → (⟨S2048x4x4x64, .f32⟩ : BufTy).Contents (Elt F)) ]

/-- Operations of the fourth layer, which gives z. -/
abbrev enc4 : List (HloOp τ sig (Elt F)) :=
  [ binary main_v24 main_v0 main_v25 ((fun x v => pad S2048x8x8x64 ![0, 2, 2, 0] ![0, 2, 2, 0] ![0, 0, 0, 0] x v pads_S2048x4x4x64_S2048x8x8x64_000_220_220_000 h_S_) : (⟨S2048x4x4x64, .f32⟩ : BufTy).Contents (Elt F) → (⟨S_, .f32⟩ : BufTy).Contents (Elt F) → (⟨S2048x8x8x64, .f32⟩ : BufTy).Contents (Elt F)),
    binary main_v25 main_c_4 main_v26 ((fun x i => Host.gather gather_S2048x8x8x64_S2x2x2_S2048x2x2x5x5x64_0345_n_n_n_12_2_20485564 x i) : (⟨S2048x8x8x64, .f32⟩ : BufTy).Contents (Elt F) → (⟨S2x2x2, .i32⟩ : BufTy).Contents (Elt F) → (⟨S2048x2x2x5x5x64, .f32⟩ : BufTy).Contents (Elt F)),
    binary main_v26 main_arg7 main_v27 ((fun l r => Host.dotGeneral dot_S2048x2x2x5x5x64_S4x64x5x5_S2048x2x2x4_345_231_012_0_n_n none l r) : (⟨S2048x2x2x5x5x64, .f32⟩ : BufTy).Contents (Elt F) → (⟨S4x64x5x5, .f32⟩ : BufTy).Contents (Elt F) → (⟨S2048x2x2x4, .f32⟩ : BufTy).Contents (Elt F)),
    unary main_arg8 main_v28 (broadcastInDim S2048x2x2x4 ![3] bcast_S4_S2048x2x2x4_3 : (⟨S4, .f32⟩ : BufTy).Contents (Elt F) → (⟨S2048x2x2x4, .f32⟩ : BufTy).Contents (Elt F)),
    binary main_v27 main_v28 main_v29 (addf : (⟨S2048x2x2x4, .f32⟩ : BufTy).Contents (Elt F) → (⟨S2048x2x2x4, .f32⟩ : BufTy).Contents (Elt F) → (⟨S2048x2x2x4, .f32⟩ : BufTy).Contents (Elt F)) ]

/-- Operations of the distance of every position of z to every entry of the dictionary. -/
abbrev dists : List (HloOp τ sig (Elt F)) :=
  [ unary main_v29 main_v30 (broadcastInDim S2048x2x2x64x4 ![0, 1, 2, 4] bcast_S2048x2x2x4_S2048x2x2x64x4_0_1_2_4 : (⟨S2048x2x2x4, .f32⟩ : BufTy).Contents (Elt F) → (⟨S2048x2x2x64x4, .f32⟩ : BufTy).Contents (Elt F)),
    unary main_arg17 main_v31 (broadcastInDim S2048x2x2x64x4 ![3, 4] bcast_S64x4_S2048x2x2x64x4_3_4 : (⟨S64x4, .f32⟩ : BufTy).Contents (Elt F) → (⟨S2048x2x2x64x4, .f32⟩ : BufTy).Contents (Elt F)),
    binary main_v30 main_v31 main_v32 (subf : (⟨S2048x2x2x64x4, .f32⟩ : BufTy).Contents (Elt F) → (⟨S2048x2x2x64x4, .f32⟩ : BufTy).Contents (Elt F) → (⟨S2048x2x2x64x4, .f32⟩ : BufTy).Contents (Elt F)),
    binary main_v32 main_v32 main_v33 (mulf : (⟨S2048x2x2x64x4, .f32⟩ : BufTy).Contents (Elt F) → (⟨S2048x2x2x64x4, .f32⟩ : BufTy).Contents (Elt F) → (⟨S2048x2x2x64x4, .f32⟩ : BufTy).Contents (Elt F)),
    binary main_v33 main_v0 main_v34 ((fun x v => Host.reduceAdd x v reducesTo_S2048x2x2x64x4_S2048x2x2x64_d4 h_S_) : (⟨S2048x2x2x64x4, .f32⟩ : BufTy).Contents (Elt F) → (⟨S_, .f32⟩ : BufTy).Contents (Elt F) → (⟨S2048x2x2x64, .f32⟩ : BufTy).Contents (Elt F)),
    unary main_v34 main_v35 (Host.sqrt : (⟨S2048x2x2x64, .f32⟩ : BufTy).Contents (Elt F) → (⟨S2048x2x2x64, .f32⟩ : BufTy).Contents (Elt F)) ]

/-- Operations of the number of the nearest entry. -/
abbrev nearest : List (HloOp τ sig (Elt F)) :=
  [ TRef.nullary (TRef.of (T := ⟨S2048x2x2x64, .i32⟩) main_call0_v0) (iotaInDim S2048x2x2x64 32 3),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S2048x2x2x64, .f32⟩) main_v35) (TRef.of (T := ⟨S2048x2x2x64, .i32⟩) main_call0_v0) (TRef.of (T := ⟨S_, .f32⟩) main_call0_cst) (TRef.of (T := ⟨S_, .i32⟩) main_call0_c) (TRef.of (T := ⟨S2048x2x2, .f32⟩) main_call0_v1_0) (fun x y u v j => (Host.argReduce reducer_argmin_f32_i32 x y u v reducesTo_S2048x2x2x64_S2048x2x2_d3 h_S_ j).1),
    TRef.quaternary (TRef.of (T := ⟨S2048x2x2x64, .f32⟩) main_v35) (TRef.of (T := ⟨S2048x2x2x64, .i32⟩) main_call0_v0) (TRef.of (T := ⟨S_, .f32⟩) main_call0_cst) (TRef.of (T := ⟨S_, .i32⟩) main_call0_c) (TRef.of (T := ⟨S2048x2x2, .i32⟩) main_v36) (fun x y u v j => (Host.argReduce reducer_argmin_f32_i32 x y u v reducesTo_S2048x2x2x64_S2048x2x2_d3 h_S_ j).2) ]

/-- Operations of the nearest entry itself. -/
abbrev look : List (HloOp τ sig (Elt F)) :=
  [ unary main_v36 main_v37 (broadcastInDim S2048x2x2x1 ![0, 1, 2] bcast_S2048x2x2_S2048x2x2x1_0_1_2 : (⟨S2048x2x2, .i32⟩ : BufTy).Contents (Elt F) → (⟨S2048x2x2x1, .i32⟩ : BufTy).Contents (Elt F)),
    binary main_arg17 main_v37 main_v38 ((fun x i => Host.gather gather_S64x4_S2048x2x2x1_S2048x2x2x4_3_0_n_n_0_3_14 x i) : (⟨S64x4, .f32⟩ : BufTy).Contents (Elt F) → (⟨S2048x2x2x1, .i32⟩ : BufTy).Contents (Elt F) → (⟨S2048x2x2x4, .f32⟩ : BufTy).Contents (Elt F)) ]

/-- Operations of the first transposed layer. -/
abbrev dec1 : List (HloOp τ sig (Elt F)) :=
  [ binary main_v38 main_v0 main_v39 ((fun x v => pad S2048x7x7x4 ![0, 2, 2, 0] ![0, 2, 2, 0] ![0, 1, 1, 0] x v pads_S2048x2x2x4_S2048x7x7x4_000_221_221_000 h_S_) : (⟨S2048x2x2x4, .f32⟩ : BufTy).Contents (Elt F) → (⟨S_, .f32⟩ : BufTy).Contents (Elt F) → (⟨S2048x7x7x4, .f32⟩ : BufTy).Contents (Elt F)),
    binary main_v39 main_c_5 main_v40 ((fun x i => Host.gather gather_S2048x7x7x4_S3x3x2_S2048x3x3x5x5x4_0345_n_n_n_12_2_2048554 x i) : (⟨S2048x7x7x4, .f32⟩ : BufTy).Contents (Elt F) → (⟨S3x3x2, .i32⟩ : BufTy).Contents (Elt F) → (⟨S2048x3x3x5x5x4, .f32⟩ : BufTy).Contents (Elt F)),
    unary main_arg9 main_v41 (Host.reverse [2, 3] : (⟨S4x128x5x5, .f32⟩ : BufTy).Contents (Elt F) → (⟨S4x128x5x5, .f32⟩ : BufTy).Contents (Elt F)),
    binary main_v40 main_v41 main_v42 ((fun l r => Host.dotGeneral dot_S2048x3x3x5x5x4_S4x128x5x5_S2048x3x3x128_345_230_012_1_n_n none l r) : (⟨S2048x3x3x5x5x4, .f32⟩ : BufTy).Contents (Elt F) → (⟨S4x128x5x5, .f32⟩ : BufTy).Contents (Elt F) → (⟨S2048x3x3x128, .f32⟩ : BufTy).Contents (Elt F)),
    unary main_arg10 main_v43 (broadcastInDim S2048x3x3x128 ![3] bcast_S128_S2048x3x3x128_3 : (⟨S128, .f32⟩ : BufTy).Contents (Elt F) → (⟨S2048x3x3x128, .f32⟩ : BufTy).Contents (Elt F)),
    binary main_v42 main_v43 main_v44 (addf : (⟨S2048x3x3x128, .f32⟩ : BufTy).Contents (Elt F) → (⟨S2048x3x3x128, .f32⟩ : BufTy).Contents (Elt F) → (⟨S2048x3x3x128, .f32⟩ : BufTy).Contents (Elt F)),
    unary main_v0 main_v45 (broadcastInDim S2048x3x3x128 ![] bcast_S_S2048x3x3x128 : (⟨S_, .f32⟩ : BufTy).Contents (Elt F) → (⟨S2048x3x3x128, .f32⟩ : BufTy).Contents (Elt F)),
    binary main_v44 main_v45 main_v46 (maximumf : (⟨S2048x3x3x128, .f32⟩ : BufTy).Contents (Elt F) → (⟨S2048x3x3x128, .f32⟩ : BufTy).Contents (Elt F) → (⟨S2048x3x3x128, .f32⟩ : BufTy).Contents (Elt F)) ]

/-- Operations of the second transposed layer. -/
abbrev dec2 : List (HloOp τ sig (Elt F)) :=
  [ binary main_v46 main_v0 main_v47 ((fun x v => pad S2048x9x9x128 ![0, 2, 2, 0] ![0, 2, 2, 0] ![0, 1, 1, 0] x v pads_S2048x3x3x128_S2048x9x9x128_000_221_221_000 h_S_) : (⟨S2048x3x3x128, .f32⟩ : BufTy).Contents (Elt F) → (⟨S_, .f32⟩ : BufTy).Contents (Elt F) → (⟨S2048x9x9x128, .f32⟩ : BufTy).Contents (Elt F)),
    binary main_v47 main_c_6 main_v48 ((fun x i => Host.gather gather_S2048x9x9x128_S5x5x2_S2048x5x5x5x5x128_0345_n_n_n_12_2_204855128 x i) : (⟨S2048x9x9x128, .f32⟩ : BufTy).Contents (Elt F) → (⟨S5x5x2, .i32⟩ : BufTy).Contents (Elt F) → (⟨S2048x5x5x5x5x128, .f32⟩ : BufTy).Contents (Elt F)),
    unary main_arg11 main_v49 (Host.reverse [2, 3] : (⟨S128x64x5x5, .f32⟩ : BufTy).Contents (Elt F) → (⟨S128x64x5x5, .f32⟩ : BufTy).Contents (Elt F)),
    binary main_v48 main_v49 main_v50 ((fun l r => Host.dotGeneral dot_S2048x5x5x5x5x128_S128x64x5x5_S2048x5x5x64_345_230_012_1_n_n none l r) : (⟨S2048x5x5x5x5x128, .f32⟩ : BufTy).Contents (Elt F) → (⟨S128x64x5x5, .f32⟩ : BufTy).Contents (Elt F) → (⟨S2048x5x5x64, .f32⟩ : BufTy).Contents (Elt F)),
    unary main_arg12 main_v51 (broadcastInDim S2048x5x5x64 ![3] bcast_S64_S2048x5x5x64_3 : (⟨S64, .f32⟩ : BufTy).Contents (Elt F) → (⟨S2048x5x5x64, .f32⟩ : BufTy).Contents (Elt F)),
    binary main_v50 main_v51 main_v52 (addf : (⟨S2048x5x5x64, .f32⟩ : BufTy).Contents (Elt F) → (⟨S2048x5x5x64, .f32⟩ : BufTy).Contents (Elt F) → (⟨S2048x5x5x64, .f32⟩ : BufTy).Contents (Elt F)),
    unary main_v0 main_v53 (broadcastInDim S2048x5x5x64 ![] bcast_S_S2048x5x5x64 : (⟨S_, .f32⟩ : BufTy).Contents (Elt F) → (⟨S2048x5x5x64, .f32⟩ : BufTy).Contents (Elt F)),
    binary main_v52 main_v53 main_v54 (maximumf : (⟨S2048x5x5x64, .f32⟩ : BufTy).Contents (Elt F) → (⟨S2048x5x5x64, .f32⟩ : BufTy).Contents (Elt F) → (⟨S2048x5x5x64, .f32⟩ : BufTy).Contents (Elt F)) ]

/-- Operations of the third transposed layer. -/
abbrev dec3 : List (HloOp τ sig (Elt F)) :=
  [ binary main_v54 main_v0 main_v55 ((fun x v => pad S2048x17x17x64 ![0, 4, 4, 0] ![0, 4, 4, 0] ![0, 1, 1, 0] x v pads_S2048x5x5x64_S2048x17x17x64_000_441_441_000 h_S_) : (⟨S2048x5x5x64, .f32⟩ : BufTy).Contents (Elt F) → (⟨S_, .f32⟩ : BufTy).Contents (Elt F) → (⟨S2048x17x17x64, .f32⟩ : BufTy).Contents (Elt F)),
    binary main_v55 main_c_7 main_v56 ((fun x i => Host.gather gather_S2048x17x17x64_S13x13x2_S2048x13x13x5x5x64_0345_n_n_n_12_2_20485564 x i) : (⟨S2048x17x17x64, .f32⟩ : BufTy).Contents (Elt F) → (⟨S13x13x2, .i32⟩ : BufTy).Contents (Elt F) → (⟨S2048x13x13x5x5x64, .f32⟩ : BufTy).Contents (Elt F)),
    unary main_arg13 main_v57 (Host.reverse [2, 3] : (⟨S64x32x5x5, .f32⟩ : BufTy).Contents (Elt F) → (⟨S64x32x5x5, .f32⟩ : BufTy).Contents (Elt F)),
    binary main_v56 main_v57 main_v58 ((fun l r => Host.dotGeneral dot_S2048x13x13x5x5x64_S64x32x5x5_S2048x13x13x32_345_230_012_1_n_n none l r) : (⟨S2048x13x13x5x5x64, .f32⟩ : BufTy).Contents (Elt F) → (⟨S64x32x5x5, .f32⟩ : BufTy).Contents (Elt F) → (⟨S2048x13x13x32, .f32⟩ : BufTy).Contents (Elt F)),
    unary main_arg14 main_v59 (broadcastInDim S2048x13x13x32 ![3] bcast_S32_S2048x13x13x32_3 : (⟨S32, .f32⟩ : BufTy).Contents (Elt F) → (⟨S2048x13x13x32, .f32⟩ : BufTy).Contents (Elt F)),
    binary main_v58 main_v59 main_v60 (addf : (⟨S2048x13x13x32, .f32⟩ : BufTy).Contents (Elt F) → (⟨S2048x13x13x32, .f32⟩ : BufTy).Contents (Elt F) → (⟨S2048x13x13x32, .f32⟩ : BufTy).Contents (Elt F)),
    unary main_v0 main_v61 (broadcastInDim S2048x13x13x32 ![] bcast_S_S2048x13x13x32 : (⟨S_, .f32⟩ : BufTy).Contents (Elt F) → (⟨S2048x13x13x32, .f32⟩ : BufTy).Contents (Elt F)),
    binary main_v60 main_v61 main_v62 (maximumf : (⟨S2048x13x13x32, .f32⟩ : BufTy).Contents (Elt F) → (⟨S2048x13x13x32, .f32⟩ : BufTy).Contents (Elt F) → (⟨S2048x13x13x32, .f32⟩ : BufTy).Contents (Elt F)) ]

/-- Operations of the fourth transposed layer, cut to 28 rows and columns. -/
abbrev dec4 : List (HloOp τ sig (Elt F)) :=
  [ binary main_v62 main_v0 main_v63 ((fun x v => pad S2048x33x33x32 ![0, 4, 4, 0] ![0, 4, 4, 0] ![0, 1, 1, 0] x v pads_S2048x13x13x32_S2048x33x33x32_000_441_441_000 h_S_) : (⟨S2048x13x13x32, .f32⟩ : BufTy).Contents (Elt F) → (⟨S_, .f32⟩ : BufTy).Contents (Elt F) → (⟨S2048x33x33x32, .f32⟩ : BufTy).Contents (Elt F)),
    binary main_v63 main_c_8 main_v64 ((fun x i => Host.gather gather_S2048x33x33x32_S29x29x2_S2048x29x29x5x5x32_0345_n_n_n_12_2_20485532 x i) : (⟨S2048x33x33x32, .f32⟩ : BufTy).Contents (Elt F) → (⟨S29x29x2, .i32⟩ : BufTy).Contents (Elt F) → (⟨S2048x29x29x5x5x32, .f32⟩ : BufTy).Contents (Elt F)),
    unary main_arg15 main_v65 (Host.reverse [2, 3] : (⟨S32x1x5x5, .f32⟩ : BufTy).Contents (Elt F) → (⟨S32x1x5x5, .f32⟩ : BufTy).Contents (Elt F)),
    binary main_v64 main_v65 main_v66 ((fun l r => Host.dotGeneral dot_S2048x29x29x5x5x32_S32x1x5x5_S2048x29x29x1_345_230_012_1_n_n none l r) : (⟨S2048x29x29x5x5x32, .f32⟩ : BufTy).Contents (Elt F) → (⟨S32x1x5x5, .f32⟩ : BufTy).Contents (Elt F) → (⟨S2048x29x29x1, .f32⟩ : BufTy).Contents (Elt F)),
    unary main_arg16 main_v67 (broadcastInDim S2048x29x29x1 ![3] bcast_S1_S2048x29x29x1_3 : (⟨S1, .f32⟩ : BufTy).Contents (Elt F) → (⟨S2048x29x29x1, .f32⟩ : BufTy).Contents (Elt F)),
    binary main_v66 main_v67 main_v68 (addf : (⟨S2048x29x29x1, .f32⟩ : BufTy).Contents (Elt F) → (⟨S2048x29x29x1, .f32⟩ : BufTy).Contents (Elt F) → (⟨S2048x29x29x1, .f32⟩ : BufTy).Contents (Elt F)),
    unary main_v68 main_v69 ((extractStridedSlice S2048x28x28x1 ![0, 0, 0, 0] · slices_S2048x29x29x1_S2048x28x28x1_0_0_0_0) : (⟨S2048x29x29x1, .f32⟩ : BufTy).Contents (Elt F) → (⟨S2048x28x28x1, .f32⟩ : BufTy).Contents (Elt F)) ]

/-- Operations of the differences, their mean squares and the losses. -/
abbrev losses : List (HloOp τ sig (Elt F)) :=
  [ binary main_v69 main_v3 main_v70 (subf : (⟨S2048x28x28x1, .f32⟩ : BufTy).Contents (Elt F) → (⟨S2048x28x28x1, .f32⟩ : BufTy).Contents (Elt F) → (⟨S2048x28x28x1, .f32⟩ : BufTy).Contents (Elt F)),
    binary main_v38 main_v29 main_v71 (subf : (⟨S2048x2x2x4, .f32⟩ : BufTy).Contents (Elt F) → (⟨S2048x2x2x4, .f32⟩ : BufTy).Contents (Elt F) → (⟨S2048x2x2x4, .f32⟩ : BufTy).Contents (Elt F)),
    binary main_v29 main_v38 main_v72 (subf : (⟨S2048x2x2x4, .f32⟩ : BufTy).Contents (Elt F) → (⟨S2048x2x2x4, .f32⟩ : BufTy).Contents (Elt F) → (⟨S2048x2x2x4, .f32⟩ : BufTy).Contents (Elt F)),
    binary main_v70 main_v70 main_v73 (mulf : (⟨S2048x28x28x1, .f32⟩ : BufTy).Contents (Elt F) → (⟨S2048x28x28x1, .f32⟩ : BufTy).Contents (Elt F) → (⟨S2048x28x28x1, .f32⟩ : BufTy).Contents (Elt F)),
    binary main_v73 main_v0 main_v74 ((fun x v => Host.reduceAdd x v reducesTo_S2048x28x28x1_S_d0_1_2_3 h_S_) : (⟨S2048x28x28x1, .f32⟩ : BufTy).Contents (Elt F) → (⟨S_, .f32⟩ : BufTy).Contents (Elt F) → (⟨S_, .f32⟩ : BufTy).Contents (Elt F)),
    nullary main_cst_9 (constant S_ .f32 0x49C40000#32),
    binary main_v74 main_cst_9 main_v75 (Host.divf : (⟨S_, .f32⟩ : BufTy).Contents (Elt F) → (⟨S_, .f32⟩ : BufTy).Contents (Elt F) → (⟨S_, .f32⟩ : BufTy).Contents (Elt F)),
    nullary main_cst_10 (constant S_ .f32 0x44440000#32),
    binary main_v75 main_cst_10 main_v76 (mulf : (⟨S_, .f32⟩ : BufTy).Contents (Elt F) → (⟨S_, .f32⟩ : BufTy).Contents (Elt F) → (⟨S_, .f32⟩ : BufTy).Contents (Elt F)),
    binary main_v71 main_v71 main_v77 (mulf : (⟨S2048x2x2x4, .f32⟩ : BufTy).Contents (Elt F) → (⟨S2048x2x2x4, .f32⟩ : BufTy).Contents (Elt F) → (⟨S2048x2x2x4, .f32⟩ : BufTy).Contents (Elt F)),
    binary main_v77 main_v0 main_v78 ((fun x v => Host.reduceAdd x v reducesTo_S2048x2x2x4_S_d0_1_2_3 h_S_) : (⟨S2048x2x2x4, .f32⟩ : BufTy).Contents (Elt F) → (⟨S_, .f32⟩ : BufTy).Contents (Elt F) → (⟨S_, .f32⟩ : BufTy).Contents (Elt F)),
    binary main_v78 main_v2 main_v79 (Host.divf : (⟨S_, .f32⟩ : BufTy).Contents (Elt F) → (⟨S_, .f32⟩ : BufTy).Contents (Elt F) → (⟨S_, .f32⟩ : BufTy).Contents (Elt F)),
    binary main_v79 main_v1 main_v80 (mulf : (⟨S_, .f32⟩ : BufTy).Contents (Elt F) → (⟨S_, .f32⟩ : BufTy).Contents (Elt F) → (⟨S_, .f32⟩ : BufTy).Contents (Elt F)),
    nullary main_cst_11 (constant S_ .f32 0x3F800000#32),
    binary main_v80 main_cst_11 main_v81 (mulf : (⟨S_, .f32⟩ : BufTy).Contents (Elt F) → (⟨S_, .f32⟩ : BufTy).Contents (Elt F) → (⟨S_, .f32⟩ : BufTy).Contents (Elt F)),
    binary main_v72 main_v72 main_v82 (mulf : (⟨S2048x2x2x4, .f32⟩ : BufTy).Contents (Elt F) → (⟨S2048x2x2x4, .f32⟩ : BufTy).Contents (Elt F) → (⟨S2048x2x2x4, .f32⟩ : BufTy).Contents (Elt F)),
    binary main_v82 main_v0 main_v83 ((fun x v => Host.reduceAdd x v reducesTo_S2048x2x2x4_S_d0_1_2_3 h_S_) : (⟨S2048x2x2x4, .f32⟩ : BufTy).Contents (Elt F) → (⟨S_, .f32⟩ : BufTy).Contents (Elt F) → (⟨S_, .f32⟩ : BufTy).Contents (Elt F)),
    binary main_v83 main_v2 main_v84 (Host.divf : (⟨S_, .f32⟩ : BufTy).Contents (Elt F) → (⟨S_, .f32⟩ : BufTy).Contents (Elt F) → (⟨S_, .f32⟩ : BufTy).Contents (Elt F)),
    binary main_v84 main_v1 main_v85 (mulf : (⟨S_, .f32⟩ : BufTy).Contents (Elt F) → (⟨S_, .f32⟩ : BufTy).Contents (Elt F) → (⟨S_, .f32⟩ : BufTy).Contents (Elt F)),
    nullary main_cst_12 (constant S_ .f32 0x3E800000#32),
    binary main_v85 main_cst_12 main_v86 (mulf : (⟨S_, .f32⟩ : BufTy).Contents (Elt F) → (⟨S_, .f32⟩ : BufTy).Contents (Elt F) → (⟨S_, .f32⟩ : BufTy).Contents (Elt F)),
    nullary main_cst_13 (constant S_ .f32 0x3F800000#32),
    binary main_v86 main_cst_13 main_v87 (mulf : (⟨S_, .f32⟩ : BufTy).Contents (Elt F) → (⟨S_, .f32⟩ : BufTy).Contents (Elt F) → (⟨S_, .f32⟩ : BufTy).Contents (Elt F)),
    unary main_v0 main_v88 (broadcastInDim S1 ![] bcast_S_S1 : (⟨S_, .f32⟩ : BufTy).Contents (Elt F) → (⟨S1, .f32⟩ : BufTy).Contents (Elt F)) ]

/-- All operations of the reference, in order. -/
abbrev ops : List (HloOp τ sig (Elt F)) :=
  start ++ (enc1 ++ (enc2 ++ (enc3 ++ (enc4 ++ (dists ++ (nearest ++ (look ++ (dec1 ++ (dec2 ++ (dec3 ++ (dec4 ++ (losses))))))))))))

set_option maxHeartbeats 4000000 in
theorem main_eq (c : Dev nD) : main (F := F) c = seq ops := rfl

theorem ops_fresh : ∀ op ∈ (ops : List (HloOp τ sig (Elt F))), op.fresh = ∅ :=
  List.forall_iff_forall_mem.mp (forall_fresh_of_map rfl)

theorem start_sub : (start : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., reshape_bufs_sub .., reshape_bufs_sub .., reshape_bufs_sub .., reshape_bufs_sub ..⟩
theorem enc1_sub : (enc1 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub ..⟩
theorem enc2_sub : (enc2 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub ..⟩
theorem enc3_sub : (enc3 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub ..⟩
theorem enc4_sub : (enc4 : List (HloOp τ sig (Elt F))).Forall fun op => op.bufs ⊆ tcRefs τ sig :=
  ⟨binary_bufs_sub .., binary_bufs_sub .., binary_bufs_sub .., unary_bufs_sub .., binary_bufs_sub ..⟩
theorem dists_sub : (dists : List (HloOp τ sig (Elt F))).Forall fun op => op.bufs ⊆ tcRefs τ sig :=
  ⟨unary_bufs_sub .., unary_bufs_sub .., binary_bufs_sub .., binary_bufs_sub .., binary_bufs_sub .., unary_bufs_sub ..⟩
theorem nearest_sub : (nearest : List (HloOp τ sig (Elt F))).Forall fun op => op.bufs ⊆ tcRefs τ sig :=
  ⟨nullary_bufs_sub .., nullary_bufs_sub .., nullary_bufs_sub .., quaternary_bufs_sub .., quaternary_bufs_sub ..⟩
theorem look_sub : (look : List (HloOp τ sig (Elt F))).Forall fun op => op.bufs ⊆ tcRefs τ sig :=
  ⟨unary_bufs_sub .., binary_bufs_sub ..⟩
theorem dec1_sub : (dec1 : List (HloOp τ sig (Elt F))).Forall fun op => op.bufs ⊆ tcRefs τ sig :=
  ⟨binary_bufs_sub .., binary_bufs_sub .., unary_bufs_sub .., binary_bufs_sub .., unary_bufs_sub .., binary_bufs_sub .., unary_bufs_sub .., binary_bufs_sub ..⟩
theorem dec2_sub : (dec2 : List (HloOp τ sig (Elt F))).Forall fun op => op.bufs ⊆ tcRefs τ sig :=
  ⟨binary_bufs_sub .., binary_bufs_sub .., unary_bufs_sub .., binary_bufs_sub .., unary_bufs_sub .., binary_bufs_sub .., unary_bufs_sub .., binary_bufs_sub ..⟩
theorem dec3_sub : (dec3 : List (HloOp τ sig (Elt F))).Forall fun op => op.bufs ⊆ tcRefs τ sig :=
  ⟨binary_bufs_sub .., binary_bufs_sub .., unary_bufs_sub .., binary_bufs_sub .., unary_bufs_sub .., binary_bufs_sub .., unary_bufs_sub .., binary_bufs_sub ..⟩
theorem dec4_sub : (dec4 : List (HloOp τ sig (Elt F))).Forall fun op => op.bufs ⊆ tcRefs τ sig :=
  ⟨binary_bufs_sub .., binary_bufs_sub .., unary_bufs_sub .., binary_bufs_sub .., unary_bufs_sub .., binary_bufs_sub .., unary_bufs_sub ..⟩
theorem losses_sub : (losses : List (HloOp τ sig (Elt F))).Forall fun op => op.bufs ⊆ tcRefs τ sig :=
  ⟨binary_bufs_sub .., binary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub .., nullary_bufs_sub .., binary_bufs_sub .., binary_bufs_sub .., binary_bufs_sub .., binary_bufs_sub .., binary_bufs_sub .., nullary_bufs_sub .., binary_bufs_sub .., nullary_bufs_sub .., binary_bufs_sub .., unary_bufs_sub ..⟩

theorem ops_sub : (ops : List (HloOp τ sig (Elt F))).Forall fun op => op.bufs ⊆ tcRefs τ sig := by
  simp only [List.forall_append]
  exact ⟨start_sub, enc1_sub, enc2_sub, enc3_sub, enc4_sub, dists_sub, nearest_sub, look_sub, dec1_sub, dec2_sub, dec3_sub, dec4_sub, losses_sub⟩

theorem scopedRefs_eq : (Finset.univ.filter fun b : Ref sig .tc => b.isScoped) = ∅ := by decide
theorem scopedSems_eq : (Finset.univ.filter fun sm : SemLoc sig => sm.isScoped .tc) = ∅ := by decide

/-- The reference program runs to its end and leaves in each buffer what its operations, in order, write there. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.RefRun

end
-- ==== Proof.RefFrame.lean ====
/-
  The reference program ends with its arguments unchanged and every semaphore at zero.
-/
module

public import proofs.«01_k».proof.Proof.RefOps
public import Idealize.ShloMosaic.Adequacy
public import Idealize.ShloMosaic.Init
public import Idealize.ShloMosaic.Lib.Quiescent

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the operations write, in order. -/
def outs : List (Ref sig .tc) :=
  [main_cst, main_cst_0, main_cst_1, main_c, main_c_2, main_c_3, main_c_4, main_c_5, main_c_6, main_c_7, main_c_8, main_v0,
   main_v1, main_v2, main_v3, main_v4, main_v5, main_v6, main_v7, main_v8, main_v9, main_v10, main_v11, main_v12, main_v13,
   main_v14, main_v15, main_v16, main_v17, main_v18, main_v19, main_v20, main_v21, main_v22, main_v23, main_v24, main_v25,
   main_v26, main_v27, main_v28, main_v29, main_v30, main_v31, main_v32, main_v33, main_v34, main_v35, main_call0_v0,
   main_call0_cst, main_call0_c, main_call0_v1_0, main_v36, main_v37, main_v38, main_v39, main_v40, main_v41, main_v42,
   main_v43, main_v44, main_v45, main_v46, main_v47, main_v48, main_v49, main_v50, main_v51, main_v52, main_v53, main_v54,
   main_v55, main_v56, main_v57, main_v58, main_v59, main_v60, main_v61, main_v62, main_v63, main_v64, main_v65, main_v66,
   main_v67, main_v68, main_v69, main_v70, main_v71, main_v72, main_v73, main_v74, main_cst_9, main_v75, main_cst_10,
   main_v76, main_v77, main_v78, main_v79, main_v80, main_cst_11, main_v81, main_v82, main_v83, main_v84, main_v85,
   main_cst_12, main_v86, main_cst_13, main_v87, main_v88]

/-- A buffer which the operations from the `n`-th on do not write keeps its contents through them. -/
theorem kept (n : Nat) (rest : List (HloOp τ sig (Elt F)))
    (h : rest.map HloOp.writes = (outs.drop n).map fun r => {Proc.devRef (τ := τ) .tc r}) (r : Ref sig .tc) (hr : r ∉ outs.drop n)
    (V : Valuation τ sig (Elt F)) : after rest V (Proc.devRef .tc r) = V (Proc.devRef .tc r) :=
  after_of_writes_sub rest V (forall_writes_sub_of_map h) hr

/-- A buffer no operation writes is unchanged. -/
theorem arg_kept (r : Ref sig .tc) (hr : r ∉ outs) (V : Valuation τ sig (Elt F)) :
    after ops V (Proc.devRef .tc r) = V (Proc.devRef .tc r) :=
  kept 0 ops rfl r hr V

/-- The frame of the reference. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨
      (h c main_arg0).trans (arg_kept _ (by decide) _),
      (h c main_arg1).trans (arg_kept _ (by decide) _),
      (h c main_arg2).trans (arg_kept _ (by decide) _),
      (h c main_arg3).trans (arg_kept _ (by decide) _),
      (h c main_arg4).trans (arg_kept _ (by decide) _),
      (h c main_arg5).trans (arg_kept _ (by decide) _),
      (h c main_arg6).trans (arg_kept _ (by decide) _),
      (h c main_arg7).trans (arg_kept _ (by decide) _),
      (h c main_arg8).trans (arg_kept _ (by decide) _),
      (h c main_arg9).trans (arg_kept _ (by decide) _),
      (h c main_arg10).trans (arg_kept _ (by decide) _),
      (h c main_arg11).trans (arg_kept _ (by decide) _),
      (h c main_arg12).trans (arg_kept _ (by decide) _),
      (h c main_arg13).trans (arg_kept _ (by decide) _),
      (h c main_arg14).trans (arg_kept _ (by decide) _),
      (h c main_arg15).trans (arg_kept _ (by decide) _),
      (h c main_arg16).trans (arg_kept _ (by decide) _),
      (h c main_arg17).trans (arg_kept _ (by decide) _)⟩,
    sem_eq_zero_of_no_sems (by decide) r.2⟩) (run m ρ)

end Cert.RefRun

end
-- ==== Proof.Sums.lean ====
/-
  A strided convolution at one output position, as a sum over the positions of its input in which each term is
  switched on when the input position, the tap and the output position agree; and the two ways of computing it:
  through windows of a padded array, and through a matrix made of the weights and 0/1 selectors.
-/
module

public import Idealize.ShloMosaic.Lib.Pointwise

@[expose] public section

noncomputable section

namespace Cert.Conv

/-- Tap `i` of output position `r` reads input position `h`: the window of `r` starts at `s * r`, and position `h` of the
    input lies at `q + h * d` of the padded (and, for `d = 2`, dilated) one. -/
def tap (s q d : Nat) {H N : Nat} (h : Fin H) (i : Fin 5) (r : Fin N) : Prop := s * r.val + i.val = q + h.val * d

instance (s q d : Nat) {H N : Nat} (h : Fin H) (i : Fin 5) (r : Fin N) : Decidable (tap s q d h i r) :=
  inferInstanceAs (Decidable (s * r.val + i.val = q + h.val * d))

/-- The convolution of one image at output position `(r, t)` for one output channel (no bias). -/
def lin (s q d : Nat) {C H N : Nat} (x : Fin H → Fin H → Fin C → EReal) (w : Fin C → Fin 5 → Fin 5 → EReal) (r t : Fin N) : EReal :=
  ∑ c, ∑ h, ∑ v, ∑ i, ∑ j, if tap s q d h i r ∧ tap s q d v j t then x h v c * w c i j else 0

/-- A factor goes into a sum of which at most one term is on. -/
theorem mul_sum_of_unique {ι : Type*} [Fintype ι] (P : ι → Prop) [DecidablePred P] (hP : ∀ a b, P a → P b → a = b)
    (f : ι → EReal) (y : EReal) : y * (∑ a, if P a then f a else 0) = ∑ a, if P a then y * f a else 0 := by
  by_cases h : ∃ a, P a
  · obtain ⟨a, ha⟩ := h
    rw [Finset.sum_eq_single a (fun b _ hb => if_neg fun hb' => hb (hP b a hb' ha)) (fun hn => absurd (Finset.mem_univ a) hn),
      Finset.sum_eq_single a (fun b _ hb => if_neg fun hb' => hb (hP b a hb' ha)) (fun hn => absurd (Finset.mem_univ a) hn)]
    simp only [ha, if_true]
  · have hf : ∀ a, ¬ P a := fun a ha => h ⟨a, ha⟩
    simp only [hf, if_false, Finset.sum_const_zero, mul_zero]

/-- The same with the factor on the right. -/
theorem sum_mul_of_unique {ι : Type*} [Fintype ι] (P : ι → Prop) [DecidablePred P] (hP : ∀ a b, P a → P b → a = b)
    (f : ι → EReal) (y : EReal) : (∑ a, if P a then f a else 0) * y = ∑ a, if P a then f a * y else 0 := by
  rw [mul_comm, mul_sum_of_unique P hP]
  simp only [mul_comm]

/-- Two nested sums with at most one term on. -/
theorem mul_sum₂_of_unique {ι κ : Type*} [Fintype ι] [Fintype κ] (P : ι → κ → Prop) [∀ a b, Decidable (P a b)]
    (hP : ∀ a b a' b', P a b → P a' b' → a = a' ∧ b = b') (f : ι → κ → EReal) (y : EReal) :
    y * (∑ a, ∑ b, if P a b then f a b else 0) = ∑ a, ∑ b, if P a b then y * f a b else 0 := by
  have h := mul_sum_of_unique (fun p : ι × κ => P p.1 p.2)
    (fun p q hp hq => Prod.ext (hP _ _ _ _ hp hq).1 (hP _ _ _ _ hp hq).2) (fun p => f p.1 p.2) y
  rw [Fintype.sum_prod_type, Fintype.sum_prod_type] at h
  exact h

theorem sum₂_mul_of_unique {ι κ : Type*} [Fintype ι] [Fintype κ] (P : ι → κ → Prop) [∀ a b, Decidable (P a b)]
    (hP : ∀ a b a' b', P a b → P a' b' → a = a' ∧ b = b') (f : ι → κ → EReal) (y : EReal) :
    (∑ a, ∑ b, if P a b then f a b else 0) * y = ∑ a, ∑ b, if P a b then f a b * y else 0 := by
  rw [mul_comm, mul_sum₂_of_unique P hP]
  simp only [mul_comm]

section
variable {s q d : Nat} {C H N : Nat}

/-- Through windows: the value at tap `(i, j)` of the window is the input's where some input position lies there, else 0. -/
theorem windows_eq_lin (hd : 0 < d) (x : Fin H → Fin H → Fin C → EReal) (w : Fin C → Fin 5 → Fin 5 → EReal) (r t : Fin N)
    (g : Fin 5 → Fin 5 → Fin C → EReal)
    (hg : ∀ i j c, g i j c = ∑ h, ∑ v, if tap s q d h i r ∧ tap s q d v j t then x h v c else 0) :
    (∑ i, ∑ j, ∑ c, g i j c * w c i j) = lin s q d x w r t := by
  have hu : ∀ i j, ∀ (h v h' v' : Fin H), (tap s q d h i r ∧ tap s q d v j t) → (tap s q d h' i r ∧ tap s q d v' j t) → h = h' ∧ v = v' := by
    intro i j h v h' v' e e'
    have e1 : q + h.val * d = q + h'.val * d := Eq.trans (Eq.symm e.1) e'.1
    have e2 : q + v.val * d = q + v'.val * d := Eq.trans (Eq.symm e.2) e'.2
    exact ⟨Fin.ext (Nat.eq_of_mul_eq_mul_right hd (Nat.add_left_cancel e1)), Fin.ext (Nat.eq_of_mul_eq_mul_right hd (Nat.add_left_cancel e2))⟩
  have e1 : ∀ i j c, g i j c * w c i j = ∑ h, ∑ v, if tap s q d h i r ∧ tap s q d v j t then x h v c * w c i j else 0 := fun i j c => by
    rw [hg]; exact sum₂_mul_of_unique _ (hu i j) _ _
  simp only [e1]
  unfold lin
  calc _ = ∑ i, ∑ c, ∑ j, ∑ h, ∑ v, (if tap s q d h i r ∧ tap s q d v j t then x h v c * w c i j else 0) :=
        Finset.sum_congr rfl fun i _ => Finset.sum_comm
    _ = ∑ c, ∑ i, ∑ j, ∑ h, ∑ v, (if tap s q d h i r ∧ tap s q d v j t then x h v c * w c i j else 0) := Finset.sum_comm
    _ = _ := Finset.sum_congr rfl fun c _ => by
        calc _ = ∑ i, ∑ h, ∑ j, ∑ v, (if tap s q d h i r ∧ tap s q d v j t then x h v c * w c i j else 0) :=
              Finset.sum_congr rfl fun i _ => Finset.sum_comm
          _ = ∑ h, ∑ i, ∑ j, ∑ v, (if tap s q d h i r ∧ tap s q d v j t then x h v c * w c i j else 0) := Finset.sum_comm
          _ = ∑ h, ∑ i, ∑ v, ∑ j, (if tap s q d h i r ∧ tap s q d v j t then x h v c * w c i j else 0) :=
              Finset.sum_congr rfl fun h _ => Finset.sum_congr rfl fun i _ => Finset.sum_comm
          _ = _ := Finset.sum_congr rfl fun h _ => Finset.sum_comm

/-- Two selectors around a weight leave the weights whose taps are on. -/
theorem selectors_eq (w : Fin 5 → Fin 5 → EReal) (S : Fin H → Fin 5 → Fin N → EReal)
    (hS : ∀ h i r, S h i r = if tap s q d h i r then 1 else 0) (h v : Fin H) (r t : Fin N) :
    (∑ j, (∑ i, w i j * S h i r) * S v j t) = ∑ i, ∑ j, if tap s q d h i r ∧ tap s q d v j t then w i j else 0 := by
  rw [Finset.sum_comm]
  refine Finset.sum_congr rfl fun j _ => ?_
  rw [hS v j t]
  by_cases e : tap s q d v j t
  · simp only [e, and_true, if_true, mul_one]
    refine Finset.sum_congr rfl fun i _ => ?_
    rw [hS]
    by_cases e' : tap s q d h i r
    · simp only [e', if_true, mul_one]
    · simp only [e', if_false, mul_zero]
  · simp only [e, and_false, if_false, mul_zero, Finset.sum_const_zero]

/-- Through the matrix: each input position times the selected weights. -/
theorem matrix_eq_lin (x : Fin H → Fin H → Fin C → EReal) (w : Fin C → Fin 5 → Fin 5 → EReal) (S : Fin H → Fin 5 → Fin N → EReal)
    (hS : ∀ h i r, S h i r = if tap s q d h i r then 1 else 0) (r t : Fin N) :
    (∑ c, ∑ h, ∑ v, x h v c * ∑ j, (∑ i, w c i j * S h i r) * S v j t) = lin s q d x w r t := by
  unfold lin
  refine Finset.sum_congr rfl fun c _ => Finset.sum_congr rfl fun h _ => Finset.sum_congr rfl fun v _ => ?_
  rw [selectors_eq (s := s) (q := q) (d := d) (w c) S hS]
  refine mul_sum₂_of_unique (fun i j => tap s q d h i r ∧ tap s q d v j t) ?_ _ _
  intro i j i' j' e e'
  exact ⟨Fin.ext (Nat.add_left_cancel (Eq.trans e.1 (Eq.symm e'.1))), Fin.ext (Nat.add_left_cancel (Eq.trans e.2 (Eq.symm e'.2)))⟩

end

/-- The flipped weights of a transposed convolution: the sums over the taps may run backwards. -/
theorem selectors_rev {H N : Nat} (w : Fin 5 → Fin 5 → EReal) (S : Fin H → Fin 5 → Fin N → EReal) (h v : Fin H) (r t : Fin N) :
    (∑ j, (∑ i, w i j * S h i r) * S v j t) = ∑ j : Fin 5, (∑ i : Fin 5, w i.rev j.rev * S h i.rev r) * S v j.rev t := by
  rw [← Equiv.sum_comp Fin.revPerm]
  refine Finset.sum_congr rfl fun j _ => ?_
  rw [← Equiv.sum_comp Fin.revPerm (fun i => w i (Fin.revPerm j) * S h i r)]
  rfl

/-- A sum over a row-major index of channel, row and column. -/
theorem sum_chw {C H W K : Nat} (hK : C * H * W = K) (f : Fin K → EReal)
    (hlt : ∀ (c : Fin C) (h : Fin H) (v : Fin W), (c.val * H + h.val) * W + v.val < K) :
    (∑ k, f k) = ∑ c : Fin C, ∑ h : Fin H, ∑ v : Fin W, f ⟨(c.val * H + h.val) * W + v.val, hlt c h v⟩ := by
  subst hK
  rw [← Equiv.sum_comp finProdFinEquiv f, Fintype.sum_prod_type, ← Equiv.sum_comp finProdFinEquiv, Fintype.sum_prod_type]
  refine Finset.sum_congr rfl fun c _ => Finset.sum_congr rfl fun h _ => Finset.sum_congr rfl fun v _ => congrArg f (Fin.ext ?_)
  simp only [finProdFinEquiv_apply_val]
  ring

end Cert.Conv

end
-- ==== Proof.Reads.lean ====
/-
  How the operations that build a layer are read at one index, at any extents: broadcasts, the doubly selected weights,
  the flattened matrix, the padded array, its windows, and the product of the windows with the weights.
-/
module

public import proofs.«01_k».proof.Proof.Sums
public import Idealize.ShloMosaic.Lib.KernelVsHost

@[expose] public section

set_option maxRecDepth 16384

noncomputable section

namespace Cert.Conv

open Idealize.ShloMosaic

/-- A broadcast reads its operand at the coordinates it keeps. -/
theorem bcast_at {α : Type} {s t : Shape} (dims : Fin s.rank → Fin t.rank) (h : s.BroadcastsInDim t dims) (x : s.Idx → α) (j : t.Idx)
    (k : s.Idx) (hk : ∀ a, s.size a = 1 ∨ (k a).val = (j (dims a)).val) : broadcastInDim t dims h x j = x k := by
  unfold broadcastInDim
  refine congrArg x (funext fun a => Fin.ext ?_)
  have hlt := (k a).isLt
  by_cases h1 : s.size a = 1
  · rw [dif_pos h1]; show 0 = _; omega
  · rw [dif_neg h1]; exact ((hk a).resolve_left h1).symm

/-- A host sum over one axis from the initial value 0. -/
theorem sum_at {φ : FTy} {s t u : Shape} {a : Fin s.rank} (x : FVec Ideal s φ) (z : FVec Ideal u φ) (h : s.ReducesTo [a] t) (h0 : 0 < t.rank)
    (hu : 0 < u.numel) (hz : z (Shape.Idx.first hu) = 0) (j : t.Idx) (k : Fin (s.size a) → s.Idx)
    (hk : ∀ n c, (k n c).val = (Shape.Reduces.lift (⟨h.1, h0, h.2⟩ : s.Reduces [a] t) j n c).val) :
    Host.reduceAdd x z h hu j = ∑ n, x (k n) := by
  show Ideal.hostReduceAdd h x (z (Shape.Idx.first hu)) j = _
  rw [Ideal.hostReduceAdd_single h ⟨h.1, h0, h.2⟩, hz]
  refine (zero_add _).trans (Finset.sum_congr rfl fun n _ => congrArg x (funext fun c => Fin.ext (hk n c).symm))

section
variable {A B H N : Nat}

/-- The weights between two selectors: `Σ_j (Σ_i w i j · s h i r) · s v j t`. -/
theorem selected_at (w : FVec Ideal ⟨4, ![A, B, 5, 5]⟩ .f32) (s : FVec Ideal ⟨3, ![H, 5, N]⟩ .f32) {u u' : Shape} (z : FVec Ideal u .f32) (z' : FVec Ideal u' .f32)
    (hu : 0 < u.numel) (hz : z (Shape.Idx.first hu) = 0) (hu' : 0 < u'.numel) (hz' : z' (Shape.Idx.first hu') = 0)
    (h1 : (⟨4, ![A, B, 5, 5]⟩ : Shape).BroadcastsInDim ⟨6, ![A, B, 1, 5, 1, 5]⟩ ![0, 1, 3, 5])
    (h2 : (⟨3, ![H, 5, N]⟩ : Shape).BroadcastsInDim ⟨6, ![1, 1, H, 5, N, 1]⟩ ![2, 3, 4])
    (h3 : (⟨6, ![A, B, 1, 5, 1, 5]⟩ : Shape).BroadcastsInDim ⟨6, ![A, B, H, 5, N, 5]⟩ ![0, 1, 2, 3, 4, 5])
    (h4 : (⟨6, ![1, 1, H, 5, N, 1]⟩ : Shape).BroadcastsInDim ⟨6, ![A, B, H, 5, N, 5]⟩ ![0, 1, 2, 3, 4, 5])
    (h6 : (⟨6, ![A, B, H, 5, N, 5]⟩ : Shape).ReducesTo [3] ⟨5, ![A, B, H, N, 5]⟩)
    (h7 : (⟨5, ![A, B, H, N, 5]⟩ : Shape).BroadcastsInDim ⟨7, ![A, B, H, 1, N, 5, 1]⟩ ![0, 1, 2, 4, 5])
    (h8 : (⟨3, ![H, 5, N]⟩ : Shape).BroadcastsInDim ⟨7, ![1, 1, 1, H, 1, 5, N]⟩ ![3, 5, 6])
    (h9 : (⟨7, ![A, B, H, 1, N, 5, 1]⟩ : Shape).BroadcastsInDim ⟨7, ![A, B, H, H, N, 5, N]⟩ ![0, 1, 2, 3, 4, 5, 6])
    (h10 : (⟨7, ![1, 1, 1, H, 1, 5, N]⟩ : Shape).BroadcastsInDim ⟨7, ![A, B, H, H, N, 5, N]⟩ ![0, 1, 2, 3, 4, 5, 6])
    (h12 : (⟨7, ![A, B, H, H, N, 5, N]⟩ : Shape).ReducesTo [5] ⟨6, ![A, B, H, H, N, N]⟩)
    (a : Fin A) (b : Fin B) (h v : Fin H) (r t : Fin N) :
    Host.reduceAdd (mulf
        (broadcastInDim ⟨7, ![A, B, H, H, N, 5, N]⟩ ![0, 1, 2, 3, 4, 5, 6] h9 (broadcastInDim ⟨7, ![A, B, H, 1, N, 5, 1]⟩ ![0, 1, 2, 4, 5] h7
          (Host.reduceAdd (mulf
            (broadcastInDim ⟨6, ![A, B, H, 5, N, 5]⟩ ![0, 1, 2, 3, 4, 5] h3 (broadcastInDim ⟨6, ![A, B, 1, 5, 1, 5]⟩ ![0, 1, 3, 5] h1 w))
            (broadcastInDim ⟨6, ![A, B, H, 5, N, 5]⟩ ![0, 1, 2, 3, 4, 5] h4 (broadcastInDim ⟨6, ![1, 1, H, 5, N, 1]⟩ ![2, 3, 4] h2 s))
            : FVec Ideal ⟨6, ![A, B, H, 5, N, 5]⟩ .f32) z h6 hu)))
        (broadcastInDim ⟨7, ![A, B, H, H, N, 5, N]⟩ ![0, 1, 2, 3, 4, 5, 6] h10 (broadcastInDim ⟨7, ![1, 1, 1, H, 1, 5, N]⟩ ![3, 5, 6] h8 s))
        : FVec Ideal ⟨7, ![A, B, H, H, N, 5, N]⟩ .f32) z' h12 hu' (ix6 a b h v r t)
      = ∑ j : Fin 5, (∑ i : Fin 5, w (ix4 a b i j) * s (ix3 h i r)) * s (ix3 v j t) := by
  rw [sum_at _ _ h12 (Nat.succ_pos _) hu' hz' _ (fun n => ix7 a b h v r n t)
    (fun n c => match c with | ⟨0, _⟩ => rfl | ⟨1, _⟩ => rfl | ⟨2, _⟩ => rfl | ⟨3, _⟩ => rfl | ⟨4, _⟩ => rfl | ⟨5, _⟩ => rfl | ⟨6, _⟩ => rfl)]
  refine Finset.sum_congr rfl fun j _ => ?_
  show _ * _ = _
  congr 1
  · rw [bcast_at _ h9 _ _ (ix7 a b h 0 r j 0) (fun c => match c with | ⟨0, _⟩ => .inr rfl | ⟨1, _⟩ => .inr rfl | ⟨2, _⟩ => .inr rfl | ⟨3, _⟩ => .inl rfl | ⟨4, _⟩ => .inr rfl | ⟨5, _⟩ => .inr rfl | ⟨6, _⟩ => .inl rfl),
      bcast_at _ h7 _ _ (ix5 a b h r j) (fun c => match c with | ⟨0, _⟩ => .inr rfl | ⟨1, _⟩ => .inr rfl | ⟨2, _⟩ => .inr rfl | ⟨3, _⟩ => .inr rfl | ⟨4, _⟩ => .inr rfl),
      sum_at _ _ h6 (Nat.succ_pos _) hu hz _ (fun n => ix6 a b h n r j)
        (fun n c => match c with | ⟨0, _⟩ => rfl | ⟨1, _⟩ => rfl | ⟨2, _⟩ => rfl | ⟨3, _⟩ => rfl | ⟨4, _⟩ => rfl | ⟨5, _⟩ => rfl)]
    refine Finset.sum_congr rfl fun i _ => ?_
    show _ * _ = _
    congr 1
    · rw [bcast_at _ h3 _ _ (ix6 a b 0 i 0 j) (fun c => match c with | ⟨0, _⟩ => .inr rfl | ⟨1, _⟩ => .inr rfl | ⟨2, _⟩ => .inl rfl | ⟨3, _⟩ => .inr rfl | ⟨4, _⟩ => .inl rfl | ⟨5, _⟩ => .inr rfl),
        bcast_at _ h1 _ _ (ix4 a b i j) (fun c => match c with | ⟨0, _⟩ => .inr rfl | ⟨1, _⟩ => .inr rfl | ⟨2, _⟩ => .inr rfl | ⟨3, _⟩ => .inr rfl)]
    · rw [bcast_at _ h4 _ _ (ix6 0 0 h i r 0) (fun c => match c with | ⟨0, _⟩ => .inl rfl | ⟨1, _⟩ => .inl rfl | ⟨2, _⟩ => .inr rfl | ⟨3, _⟩ => .inr rfl | ⟨4, _⟩ => .inr rfl | ⟨5, _⟩ => .inl rfl),
        bcast_at _ h2 _ _ (ix3 h i r) (fun c => match c with | ⟨0, _⟩ => .inr rfl | ⟨1, _⟩ => .inr rfl | ⟨2, _⟩ => .inr rfl)]
  · rw [bcast_at _ h10 _ _ (ix7 0 0 0 v 0 j t) (fun c => match c with | ⟨0, _⟩ => .inl rfl | ⟨1, _⟩ => .inl rfl | ⟨2, _⟩ => .inl rfl | ⟨3, _⟩ => .inr rfl | ⟨4, _⟩ => .inl rfl | ⟨5, _⟩ => .inr rfl | ⟨6, _⟩ => .inr rfl),
      bcast_at _ h8 _ _ (ix3 v j t) (fun c => match c with | ⟨0, _⟩ => .inr rfl | ⟨1, _⟩ => .inr rfl | ⟨2, _⟩ => .inr rfl)]

end

/-- A row-major reshape, read where both positions are the same. -/
theorem reshape_at {α : Type} {s t : Shape} (x : s.Idx → α) (h : s.ShapeCasts t) (j : t.Idx) (k : s.Idx)
    (hk : (s.rowMajor k).val = (t.rowMajor j).val) : shapeCast t x h j = x k := by
  exact congrArg x (Shape.reshapeEquiv_eq_of_vals h j k _ _ rfl rfl hk)

section
variable {A B H N K L : Nat}

/-- The matrix of a layer: the selected weights with the input's axes first, flattened. -/
theorem flat_at {α : Type} (m : (⟨6, ![A, B, H, H, N, N]⟩ : Shape).Idx → α)
    (ht : (⟨6, ![A, B, H, H, N, N]⟩ : Shape).Transposes [1, 2, 3, 0, 4, 5] ⟨6, ![B, H, H, A, N, N]⟩)
    (hs : (⟨6, ![B, H, H, A, N, N]⟩ : Shape).ShapeCasts ⟨2, ![K, L]⟩) (hL : A * N * N = L)
    (a : Fin A) (b : Fin B) (h v : Fin H) (r t : Fin N) (k : Fin K) (l : Fin L)
    (hk : k.val = (b.val * H + h.val) * H + v.val) (hl : l.val = (a.val * N + r.val) * N + t.val) :
    shapeCast ⟨2, ![K, L]⟩ (transpose ⟨6, ![B, H, H, A, N, N]⟩ [1, 2, 3, 0, 4, 5] m ht) hs (ix2 k l) = m (ix6 a b h v r t) := by
  rw [reshape_at _ hs (ix2 k l) (ix6 b h v a r t) (by
    rw [rowMajor_val6 _ _ _ _ _ _ rfl rfl rfl rfl rfl, rowMajor_val2 _ _ rfl]
    show b.val * (H * (H * (A * (N * N)))) + h.val * (H * (A * (N * N))) + v.val * (A * (N * N)) + a.val * (N * N) + r.val * N + t.val = k.val * L + l.val
    rw [hk, hl, ← hL]; ring)]
  exact congrArg m (funext fun c => match c with | ⟨0, _⟩ => rfl | ⟨1, _⟩ => rfl | ⟨2, _⟩ => rfl | ⟨3, _⟩ => rfl | ⟨4, _⟩ => rfl | ⟨5, _⟩ => rfl)

/-- The same for a transposed layer, whose weights have the input's channel first already. -/
theorem flatT_at {α : Type} (m : (⟨6, ![A, B, H, H, N, N]⟩ : Shape).Idx → α)
    (ht : (⟨6, ![A, B, H, H, N, N]⟩ : Shape).Transposes [0, 2, 3, 1, 4, 5] ⟨6, ![A, H, H, B, N, N]⟩)
    (hs : (⟨6, ![A, H, H, B, N, N]⟩ : Shape).ShapeCasts ⟨2, ![K, L]⟩) (hL : B * N * N = L)
    (a : Fin A) (b : Fin B) (h v : Fin H) (r t : Fin N) (k : Fin K) (l : Fin L)
    (hk : k.val = (a.val * H + h.val) * H + v.val) (hl : l.val = (b.val * N + r.val) * N + t.val) :
    shapeCast ⟨2, ![K, L]⟩ (transpose ⟨6, ![A, H, H, B, N, N]⟩ [0, 2, 3, 1, 4, 5] m ht) hs (ix2 k l) = m (ix6 a b h v r t) := by
  rw [reshape_at _ hs (ix2 k l) (ix6 a h v b r t) (by
    rw [rowMajor_val6 _ _ _ _ _ _ rfl rfl rfl rfl rfl, rowMajor_val2 _ _ rfl]
    show a.val * (H * (H * (B * (N * N)))) + h.val * (H * (B * (N * N))) + v.val * (B * (N * N)) + b.val * (N * N) + r.val * N + t.val = k.val * L + l.val
    rw [hk, hl, ← hL]; ring)]
  exact congrArg m (funext fun c => match c with | ⟨0, _⟩ => rfl | ⟨1, _⟩ => rfl | ⟨2, _⟩ => rfl | ⟨3, _⟩ => rfl | ⟨4, _⟩ => rfl | ⟨5, _⟩ => rfl)

end

section
variable {B H T C O n : Nat}

/-- The padded (and dilated) array holds the input's value where an input position lies there, and 0 elsewhere. -/
theorem padded_at (q q' e : Nat) (x : (⟨4, ![B, H, H, C]⟩ : Shape).Idx → EReal) {u : Shape} (z : u.Idx → EReal) (hu : 0 < u.numel)
    (hz : z (Shape.Idx.first hu) = 0) (hp : (⟨4, ![B, H, H, C]⟩ : Shape).Pads ![0, q, q, 0] ![0, q', q', 0] ![0, e, e, 0] ⟨4, ![B, T, T, C]⟩)
    (b : Fin B) (P Q : Fin T) (c : Fin C) :
    pad ⟨4, ![B, T, T, C]⟩ ![0, q, q, 0] ![0, q', q', 0] ![0, e, e, 0] x z hp hu (ix4 b P Q c)
      = ∑ h : Fin H, ∑ v : Fin H, if P.val = q + h.val * (e + 1) ∧ Q.val = q + v.val * (e + 1) then x (ix4 b h v c) else 0 := by
  by_cases hin : ∃ h v : Fin H, P.val = q + h.val * (e + 1) ∧ Q.val = q + v.val * (e + 1)
  · obtain ⟨h, v, hP, hQ⟩ := hin
    rw [pad_apply_of_inside _ _ _ x z hp hu _ (ix4 b h v c) (fun a => match a with
      | ⟨0, _⟩ => by show b.val = 0 + b.val * (0 + 1); omega
      | ⟨1, _⟩ => hP | ⟨2, _⟩ => hQ
      | ⟨3, _⟩ => by show c.val = 0 + c.val * (0 + 1); omega)]
    have key : ∀ (R : Fin T) (g g' : Fin H), R.val = q + g.val * (e + 1) → R.val = q + g'.val * (e + 1) → g' = g := fun R g g' h1 h2 =>
      Fin.ext (Nat.eq_of_mul_eq_mul_right (Nat.succ_pos e) (Nat.add_left_cancel (h2.symm.trans h1)))
    rw [Finset.sum_eq_single h (fun h' _ hne => Finset.sum_eq_zero fun v' _ => if_neg fun h2 => hne (key P h h' hP h2.1))
      (fun hn => absurd (Finset.mem_univ h) hn),
      Finset.sum_eq_single v (fun v' _ hne => if_neg fun h2 => hne (key Q v v' hQ h2.2)) (fun hn => absurd (Finset.mem_univ v) hn),
      if_pos ⟨hP, hQ⟩]
  · rw [Finset.sum_eq_zero fun h _ => Finset.sum_eq_zero fun v _ => if_neg fun h2 => hin ⟨h, v, h2⟩]
    have div : ∀ R : Fin T, q ≤ R.val → (R.val - q) % (e + 1) = 0 → R.val = q + (R.val - q) / (e + 1) * (e + 1) := fun R h1 h2 => by
      have := Nat.div_add_mod (R.val - q) (e + 1)
      rw [h2, Nat.add_zero, Nat.mul_comm] at this
      omega
    by_cases hP : q ≤ P.val ∧ (P.val - q) % (e + 1) = 0 ∧ (P.val - q) / (e + 1) < H
    · by_cases hQ : q ≤ Q.val ∧ (Q.val - q) % (e + 1) = 0 ∧ (Q.val - q) / (e + 1) < H
      · exact absurd ⟨⟨_, hP.2.2⟩, ⟨_, hQ.2.2⟩, div P hP.1 hP.2.1, div Q hQ.1 hQ.2.1⟩ hin
      · rw [pad_apply_of_not_inside _ _ _ x z hp hu (ix4 b P Q c) (2 : Fin 4) hQ, hz]
    · rw [pad_apply_of_not_inside _ _ _ x z hp hu (ix4 b P Q c) (1 : Fin 4) hP, hz]

/-- The windows of an array, gathered at the table's corner positions. -/
theorem windows_at {α : Type} (s : Nat) (d : GatherDims ⟨4, ![B, T, T, C]⟩ ⟨3, ![n, n, 2]⟩ ⟨6, ![B, n, n, 5, 5, C]⟩)
    (e1 : d.offsetDims = [0, 3, 4, 5]) (e2 : d.collapsedSliceDims = []) (e3 : d.operandBatchingDims = [])
    (e4 : d.startIndicesBatchingDims = []) (e5 : d.startIndexMap = [1, 2]) (e6 : d.indexVectorDim = 2) (e7 : d.sliceSizes = ![B, 5, 5, C])
    (x : (⟨4, ![B, T, T, C]⟩ : Shape).Idx → α) (idx : IVec ⟨3, ![n, n, 2]⟩ 32)
    (hidx : ∀ r t : Fin n, (idx (ix3 r t 0)).toInt.toNat = s * r.val ∧ (idx (ix3 r t 1)).toInt.toNat = s * t.val)
    (hT : ∀ r : Fin n, s * r.val + 5 ≤ T) (b : Fin B) (r t : Fin n) (i j : Fin 5) (c : Fin C) :
    Host.gather d x idx (ix6 b r t i j c)
      = x (ix4 b ⟨s * r.val + i.val, by have := hT r; omega⟩ ⟨s * t.val + j.val, by have := hT t; omega⟩ c) := by
  rcases d with ⟨od, cd, ob, sb, sm, iv, ss, wf⟩
  simp only at e1 e2 e3 e4 e5 e6 e7
  subst e1 e2 e3 e4 e5 e6 e7
  unfold Host.gather
  refine congrArg x (funext fun a => Fin.ext ?_)
  have h1 := (hidx r t).1
  have h2 := (hidx r t).2
  have hr := hT r
  have ht := hT t
  match a with
  | ⟨0, _⟩ => show 0 + 0 + b.val = b.val; omega
  | ⟨1, _⟩ =>
    refine (congrArg (fun e : BitVec 32 => min e.toInt.toNat (T - 5) + 0 + i.val)
      (congrArg idx (funext fun c => match c with | ⟨0, _⟩ => rfl | ⟨1, _⟩ => rfl | ⟨2, _⟩ => rfl : _ = ix3 r t 0))).trans ?_
    show min (idx (ix3 r t 0)).toInt.toNat (T - 5) + 0 + i.val = s * r.val + i.val
    rw [h1]
    omega
  | ⟨2, _⟩ =>
    refine (congrArg (fun e : BitVec 32 => min e.toInt.toNat (T - 5) + 0 + j.val)
      (congrArg idx (funext fun c => match c with | ⟨0, _⟩ => rfl | ⟨1, _⟩ => rfl | ⟨2, _⟩ => rfl : _ = ix3 r t 1))).trans ?_
    show min (idx (ix3 r t 1)).toInt.toNat (T - 5) + 0 + j.val = s * t.val + j.val
    rw [h2]
    omega
  | ⟨3, _⟩ => show 0 + 0 + c.val = c.val; omega

/-- The positions of a contraction over three axes are the triples of positions on the axes. -/
def triples (l : List Nat) (K₁ K₂ K₃ : Nat) (hl : l = [K₁, K₂, K₃]) : Fin K₁ × Fin K₂ × Fin K₃ ≃ (Shape.ofList l).Idx where
  toFun k := by
    subst hl
    exact fun p => match p with
      | ⟨0, _⟩ => k.1
      | ⟨1, _⟩ => k.2.1
      | ⟨2, _⟩ => k.2.2
  invFun f := by
    subst hl
    exact (f (0 : Fin 3), f (1 : Fin 3), f (2 : Fin 3))
  left_inv k := by subst hl; rfl
  right_inv f := by
    subst hl
    funext p
    match p with
    | ⟨0, _⟩ => rfl
    | ⟨1, _⟩ => rfl
    | ⟨2, _⟩ => rfl

/-- The product of windows and weights: a sum over the window's rows, columns and channels. -/
theorem product_at (d : DotDims ⟨6, ![B, n, n, 5, 5, C]⟩ ⟨4, ![O, C, 5, 5]⟩ ⟨4, ![B, n, n, O]⟩)
    (e1 : d.lhsContracting = [3, 4, 5]) (e2 : d.rhsContracting = [2, 3, 1]) (e3 : d.lhsNonContracting = [0, 1, 2])
    (e4 : d.rhsNonContracting = [0]) (e5 : d.lhsBatch = []) (e6 : d.rhsBatch = [])
    (g : (⟨6, ![B, n, n, 5, 5, C]⟩ : Shape).Idx → EReal) (w : (⟨4, ![O, C, 5, 5]⟩ : Shape).Idx → EReal)
    (b : Fin B) (r t : Fin n) (o : Fin O) :
    Host.dotGeneral (F := Ideal) (φ₁ := .f32) (φ₂ := .f32) d none g w (ix4 b r t o)
      = ∑ i : Fin 5, ∑ j : Fin 5, ∑ c : Fin C, g (ix6 b r t i j c) * w (ix4 o c i j) := by
  rcases d with ⟨lc, rc, ln, rn, lb, rb, wf⟩
  simp only at e1 e2 e3 e4 e5 e6
  subst e1 e2 e3 e4 e5 e6
  simp only [Host.dotGeneral]
  rw [Ideal.dotGeneral_apply]
  refine (Fintype.sum_equiv (triples _ 5 5 C rfl)
    (fun k : Fin 5 × Fin 5 × Fin C => g (ix6 b r t k.1 k.2.1 k.2.2) * w (ix4 o k.2.2 k.1 k.2.1)) _ fun k => ?_).symm.trans ?_
  swap
  · simp only [Fintype.sum_prod_type]
  · exact congrArg₂ (· * ·)
      (congrArg g (funext fun a => match a with | ⟨0, _⟩ => rfl | ⟨1, _⟩ => rfl | ⟨2, _⟩ => rfl | ⟨3, _⟩ => rfl | ⟨4, _⟩ => rfl | ⟨5, _⟩ => rfl))
      (congrArg w (funext fun a => match a with | ⟨0, _⟩ => rfl | ⟨1, _⟩ => rfl | ⟨2, _⟩ => rfl | ⟨3, _⟩ => rfl))

/-- The same product for a transposed layer, whose weights have the input's channel first. -/
theorem productT_at (d : DotDims ⟨6, ![B, n, n, 5, 5, C]⟩ ⟨4, ![C, O, 5, 5]⟩ ⟨4, ![B, n, n, O]⟩)
    (e1 : d.lhsContracting = [3, 4, 5]) (e2 : d.rhsContracting = [2, 3, 0]) (e3 : d.lhsNonContracting = [0, 1, 2])
    (e4 : d.rhsNonContracting = [1]) (e5 : d.lhsBatch = []) (e6 : d.rhsBatch = [])
    (g : (⟨6, ![B, n, n, 5, 5, C]⟩ : Shape).Idx → EReal) (w : (⟨4, ![C, O, 5, 5]⟩ : Shape).Idx → EReal)
    (b : Fin B) (r t : Fin n) (o : Fin O) :
    Host.dotGeneral (F := Ideal) (φ₁ := .f32) (φ₂ := .f32) d none g w (ix4 b r t o)
      = ∑ i : Fin 5, ∑ j : Fin 5, ∑ c : Fin C, g (ix6 b r t i j c) * w (ix4 c o i j) := by
  rcases d with ⟨lc, rc, ln, rn, lb, rb, wf⟩
  simp only at e1 e2 e3 e4 e5 e6
  subst e1 e2 e3 e4 e5 e6
  simp only [Host.dotGeneral]
  rw [Ideal.dotGeneral_apply]
  refine (Fintype.sum_equiv (triples _ 5 5 C rfl)
    (fun k : Fin 5 × Fin 5 × Fin C => g (ix6 b r t k.1 k.2.1 k.2.2) * w (ix4 k.2.2 o k.1 k.2.1)) _ fun k => ?_).symm.trans ?_
  swap
  · simp only [Fintype.sum_prod_type]
  · exact congrArg₂ (· * ·)
      (congrArg g (funext fun a => match a with | ⟨0, _⟩ => rfl | ⟨1, _⟩ => rfl | ⟨2, _⟩ => rfl | ⟨3, _⟩ => rfl | ⟨4, _⟩ => rfl | ⟨5, _⟩ => rfl))
      (congrArg w (funext fun a => match a with | ⟨0, _⟩ => rfl | ⟨1, _⟩ => rfl | ⟨2, _⟩ => rfl | ⟨3, _⟩ => rfl))

end

end Cert.Conv

end
-- ==== Proof.Matrix.lean ====
/-
  A layer as the product with its matrix: the entries of the matrix are the weights between two selectors, and the sum
  over the rows is the double sum over input positions and taps. With it the regrouping of rows or columns by a table.
-/
module

public import proofs.«01_k».proof.Proof.Reads

@[expose] public section

set_option maxRecDepth 16384

noncomputable section

namespace Cert.Conv

open Idealize.ShloMosaic

/-- The weight with which position `(h, v)` enters position `(r, t)`. -/
def sel (s q d : Nat) {H N : Nat} (w : Fin 5 → Fin 5 → EReal) (h v : Fin H) (r t : Fin N) : EReal :=
  ∑ j : Fin 5, (∑ i : Fin 5, w i j * (if tap s q d h i r then 1 else 0)) * (if tap s q d v j t then 1 else 0)

/-- The weights between two tables of selectors. -/
theorem sel_of (s q d : Nat) {H N : Nat} (w : Fin 5 → Fin 5 → EReal) (S : Fin H → Fin 5 → Fin N → EReal)
    (hS : ∀ h i r, S h i r = if tap s q d h i r then 1 else 0) (h v : Fin H) (r t : Fin N) :
    (∑ j : Fin 5, (∑ i : Fin 5, w i j * S h i r) * S v j t) = sel s q d w h v r t := by
  simp only [hS]; rfl

/-- The same where the tables count the taps backwards. -/
theorem sel_of_rev (s q d : Nat) {H N : Nat} (w : Fin 5 → Fin 5 → EReal) (S : Fin H → Fin 5 → Fin N → EReal)
    (hS : ∀ h i r, S h i r = if tap s q d h i.rev r then 1 else 0) (h v : Fin H) (r t : Fin N) :
    (∑ j : Fin 5, (∑ i : Fin 5, w i j * S h i r) * S v j t) = sel s q d (fun i j => w i.rev j.rev) h v r t := by
  rw [selectors_rev]
  simp only [hS, Fin.rev_rev]; rfl

section
variable {s q d : Nat} {C H N K : Nat}

/-- Rows in the order channel, row, column. -/
theorem sum_rows (hK : C * H * H = K) (x : Fin H → Fin H → Fin C → EReal) (w : Fin C → Fin 5 → Fin 5 → EReal) (r t : Fin N)
    (a m : Fin K → EReal)
    (ha : ∀ (c : Fin C) (h v : Fin H) (k : Fin K), k.val = (c.val * H + h.val) * H + v.val → a k = x h v c)
    (hm : ∀ (c : Fin C) (h v : Fin H) (k : Fin K), k.val = (c.val * H + h.val) * H + v.val → m k = sel s q d (w c) h v r t) :
    (∑ k, a k * m k) = lin s q d x w r t := by
  have hlt : ∀ (c : Fin C) (h : Fin H) (v : Fin H), (c.val * H + h.val) * H + v.val < K := fun c h v => by
    have h1 : c.val * H + h.val + 1 ≤ C * H := by nlinarith [c.isLt, h.isLt, Nat.mul_le_mul_right H (Nat.succ_le_of_lt c.isLt)]
    have h2 := Nat.mul_le_mul_right H h1
    have := v.isLt
    rw [hK] at h2
    nlinarith
  rw [sum_chw hK _ hlt, ← matrix_eq_lin x w (fun h i r => if tap s q d h i r then 1 else 0) (fun _ _ _ => rfl) r t]
  refine Finset.sum_congr rfl fun c _ => Finset.sum_congr rfl fun h _ => Finset.sum_congr rfl fun v _ => ?_
  rw [ha c h v _ rfl, hm c h v _ rfl]; rfl

/-- Rows in the order row, column, channel. -/
theorem sum_rows_last (hK : H * H * C = K) (x : Fin H → Fin H → Fin C → EReal) (w : Fin C → Fin 5 → Fin 5 → EReal) (r t : Fin N)
    (a m : Fin K → EReal)
    (ha : ∀ (c : Fin C) (h v : Fin H) (k : Fin K), k.val = (h.val * H + v.val) * C + c.val → a k = x h v c)
    (hm : ∀ (c : Fin C) (h v : Fin H) (k : Fin K), k.val = (h.val * H + v.val) * C + c.val → m k = sel s q d (w c) h v r t) :
    (∑ k, a k * m k) = lin s q d x w r t := by
  have hlt : ∀ (h : Fin H) (v : Fin H) (c : Fin C), (h.val * H + v.val) * C + c.val < K := fun h v c => by
    have h1 : h.val * H + v.val + 1 ≤ H * H := by nlinarith [h.isLt, v.isLt, Nat.mul_le_mul_right H (Nat.succ_le_of_lt h.isLt)]
    have h2 := Nat.mul_le_mul_right C h1
    have := c.isLt
    rw [hK] at h2
    nlinarith
  rw [sum_chw hK _ hlt, ← matrix_eq_lin x w (fun h i r => if tap s q d h i r then 1 else 0) (fun _ _ _ => rfl) r t]
  have e : ∀ h v c, a ⟨(h.val * H + v.val) * C + c.val, hlt h v c⟩ * m ⟨(h.val * H + v.val) * C + c.val, hlt h v c⟩
      = x h v c * sel s q d (w c) h v r t := fun h v c => by rw [ha c h v _ rfl, hm c h v _ rfl]
  simp only [e]
  exact (Finset.sum_congr rfl fun h _ => Finset.sum_comm).trans Finset.sum_comm

end

section
variable {K L : Nat}

/-- Columns taken in the order of a table. -/
theorem columns_at {α : Type} (d : GatherDims ⟨2, ![K, L]⟩ ⟨2, ![L, 1]⟩ ⟨2, ![K, L]⟩)
    (e1 : d.offsetDims = [0]) (e2 : d.collapsedSliceDims = [1]) (e3 : d.operandBatchingDims = [])
    (e4 : d.startIndicesBatchingDims = []) (e5 : d.startIndexMap = [1]) (e6 : d.indexVectorDim = 1) (e7 : d.sliceSizes = ![K, 1])
    (x : (⟨2, ![K, L]⟩ : Shape).Idx → α) (idx : IVec ⟨2, ![L, 1]⟩ 32) (k : Fin K) (l l' : Fin L)
    (h : (idx (ix2 l 0)).toInt.toNat = l'.val) : Host.gather d x idx (ix2 k l) = x (ix2 k l') := by
  rcases d with ⟨od, cd, ob, sb, sm, iv, ss, wf⟩
  simp only at e1 e2 e3 e4 e5 e6 e7
  subst e1 e2 e3 e4 e5 e6 e7
  unfold Host.gather
  refine congrArg x (funext fun a => Fin.ext ?_)
  have hl := l'.isLt
  match a with
  | ⟨0, _⟩ => show 0 + 0 + k.val = k.val; omega
  | ⟨1, _⟩ =>
    refine (congrArg (fun e : BitVec 32 => min e.toInt.toNat (L - 1) + 0 + 0)
      (congrArg idx (funext fun c => match c with | ⟨0, _⟩ => rfl | ⟨1, _⟩ => rfl : _ = ix2 l 0))).trans ?_
    show min (idx (ix2 l 0)).toInt.toNat (L - 1) + 0 + 0 = l'.val
    rw [h]
    omega

/-- Rows taken in the order of a table. -/
theorem rows_at {α : Type} (d : GatherDims ⟨2, ![K, L]⟩ ⟨2, ![K, 1]⟩ ⟨2, ![K, L]⟩)
    (e1 : d.offsetDims = [1]) (e2 : d.collapsedSliceDims = [0]) (e3 : d.operandBatchingDims = [])
    (e4 : d.startIndicesBatchingDims = []) (e5 : d.startIndexMap = [0]) (e6 : d.indexVectorDim = 1) (e7 : d.sliceSizes = ![1, L])
    (x : (⟨2, ![K, L]⟩ : Shape).Idx → α) (idx : IVec ⟨2, ![K, 1]⟩ 32) (k k' : Fin K) (l : Fin L)
    (h : (idx (ix2 k 0)).toInt.toNat = k'.val) : Host.gather d x idx (ix2 k l) = x (ix2 k' l) := by
  rcases d with ⟨od, cd, ob, sb, sm, iv, ss, wf⟩
  simp only at e1 e2 e3 e4 e5 e6 e7
  subst e1 e2 e3 e4 e5 e6 e7
  unfold Host.gather
  refine congrArg x (funext fun a => Fin.ext ?_)
  have hl := k'.isLt
  match a with
  | ⟨0, _⟩ =>
    refine (congrArg (fun e : BitVec 32 => min e.toInt.toNat (K - 1) + 0 + 0)
      (congrArg idx (funext fun c => match c with | ⟨0, _⟩ => rfl | ⟨1, _⟩ => rfl : _ = ix2 k 0))).trans ?_
    show min (idx (ix2 k 0)).toInt.toNat (K - 1) + 0 + 0 = k'.val
    rw [h]
    omega
  | ⟨1, _⟩ => show 0 + 0 + l.val = l.val; omega

end

end Cert.Conv

end
-- ==== Proof.Net.lean ====
/-
  The network, for one image: the four layers of the encoder, the nearest entry of the dictionary at each position, and
  the four layers of the decoder. The programs are both compared with these functions.
-/
module

public import proofs.«01_k».proof.Proof.Sums
public import Idealize.ShloMosaic.PureOps.Ideal

@[expose] public section

noncomputable section

namespace Cert.Net

open Cert.Conv Idealize.ShloMosaic

/-- A layer: the double sum over input positions and taps, plus the bias. -/
def layer (s q d : Nat) {C H O N : Nat} (x : Fin H → Fin H → Fin C → EReal) (w : Fin O → Fin C → Fin 5 → Fin 5 → EReal)
    (b : Fin O → EReal) (r t : Fin N) (o : Fin O) : EReal := lin s q d x (w o) r t + b o

/-- A layer cut off below at 0. -/
def relu (s q d : Nat) {C H O N : Nat} (x : Fin H → Fin H → Fin C → EReal) (w : Fin O → Fin C → Fin 5 → Fin 5 → EReal)
    (b : Fin O → EReal) (r t : Fin N) (o : Fin O) : EReal := max (layer s q d x w b r t o) 0

/-- `j` is the first position where `d` is least. -/
def FirstMin (d : Fin 64 → EReal) (j : Fin 64) : Prop := (∀ k, d j ≤ d k) ∧ ∀ k, k < j → d j < d k

/-- The first position where `d` is least. -/
def near (d : Fin 64 → EReal) : Fin 64 := Classical.epsilon (FirstMin d)

theorem near_eq {d : Fin 64 → EReal} {j : Fin 64} (h : FirstMin d j) : near d = j := by
  have h' : FirstMin d (near d) := Classical.epsilon_spec ⟨j, h⟩
  rcases lt_trichotomy (near d) j with hlt | he | hgt
  · exact absurd (h.2 _ hlt) (not_lt.2 (h'.1 j))
  · exact he
  · exact absurd (h'.2 _ hgt) (not_lt.2 (h.1 _))

/-- The weights of the network: output channel first, the taps of the transposed layers turned round. -/
structure Params where
  w1 : Fin 16 → Fin 1 → Fin 5 → Fin 5 → EReal
  b1 : Fin 16 → EReal
  w2 : Fin 32 → Fin 16 → Fin 5 → Fin 5 → EReal
  b2 : Fin 32 → EReal
  w3 : Fin 64 → Fin 32 → Fin 5 → Fin 5 → EReal
  b3 : Fin 64 → EReal
  w4 : Fin 4 → Fin 64 → Fin 5 → Fin 5 → EReal
  b4 : Fin 4 → EReal
  u1 : Fin 128 → Fin 4 → Fin 5 → Fin 5 → EReal
  c1 : Fin 128 → EReal
  u2 : Fin 64 → Fin 128 → Fin 5 → Fin 5 → EReal
  c2 : Fin 64 → EReal
  u3 : Fin 32 → Fin 64 → Fin 5 → Fin 5 → EReal
  c3 : Fin 32 → EReal
  u4 : Fin 1 → Fin 32 → Fin 5 → Fin 5 → EReal
  c4 : Fin 1 → EReal
  dict : Fin 64 → Fin 4 → EReal

variable (P : Params) (x : Fin 28 → Fin 28 → Fin 1 → EReal)

def y1 : Fin 14 → Fin 14 → Fin 16 → EReal := relu 2 2 1 x P.w1 P.b1
def y2 : Fin 7 → Fin 7 → Fin 32 → EReal := relu 2 2 1 (y1 P x) P.w2 P.b2
def y3 : Fin 4 → Fin 4 → Fin 64 → EReal := relu 2 2 1 (y2 P x) P.w3 P.b3
/-- What the encoder gives. -/
def z : Fin 2 → Fin 2 → Fin 4 → EReal := layer 2 2 1 (y3 P x) P.w4 P.b4
/-- The distance of an encoded position from an entry of the dictionary. -/
def dist (z : Fin 4 → EReal) (n : Fin 64) : EReal := Ideal.sqrt (∑ c, (z c - P.dict n c) * (z c - P.dict n c))
/-- The nearest entry's number. -/
def ind (r t : Fin 2) : Fin 64 := near (dist P (z P x r t))
/-- The nearest entry. -/
def val (r t : Fin 2) (c : Fin 4) : EReal := P.dict (ind P x r t) c
def v1 : Fin 3 → Fin 3 → Fin 128 → EReal := relu 1 2 2 (val P x) P.u1 P.c1
def v2 : Fin 5 → Fin 5 → Fin 64 → EReal := relu 1 2 2 (v1 P x) P.u2 P.c2
def v3 : Fin 13 → Fin 13 → Fin 32 → EReal := relu 1 4 2 (v2 P x) P.u3 P.c3
/-- What the decoder gives. -/
def f : Fin 28 → Fin 28 → Fin 1 → EReal := layer 1 4 2 (v3 P x) P.u4 P.c4

/-- The squared difference of the image from what the decoder gives, summed. -/
def recLoss : EReal := ∑ h, ∑ v, (f P x h v 0 - x h v 0) * (f P x h v 0 - x h v 0)
/-- The squared difference of the encoded positions from the nearest entries, summed. -/
def dictLoss : EReal := ∑ r, ∑ t, ∑ c, (val P x r t c - z P x r t c) * (val P x r t c - z P x r t c)

end Cert.Net

end
-- ==== Proof.Dense.lean ====
/-
  The kernel's own operations, read at one entry: a product of matrices with a bias row, and the same cut off below at 0;
  pieces laid side by side; columns cut out.
-/
module

public import proofs.«01_k».proof.Proof.Gen.KernelIdeal.Skeleton
public import proofs.«01_k».proof.Proof.Matrix
public import proofs.«01_k».proof.Proof.Net
public import Idealize.ShloMosaic.Lib.MatmulPlain
public import Idealize.ShloMosaic.Lib.Pipeline.Value

@[expose] public section

set_option maxRecDepth 16384

noncomputable section

namespace Cert.Blk

open Cert.KernelIdeal Cert.KernelIdeal.Gen Idealize.ShloMosaic Cert.Conv

/-- The shape of a matrix. -/
abbrev M (a b : Nat) : Shape := ⟨2, ![a, b]⟩

section
variable {B K L : Nat}

/-- A product with no starting value. -/
theorem dot_at {φ φ' : FTy} (d : DotDims (M B K) (M K L) (M B L)) (hd : d = DotDims.plain B K L) (a : FVec Ideal (M B K) φ) (m : FVec Ideal (M K L) φ')
    (b : Fin B) (l : Fin L) :
    matmul d none a m (constant (F := Ideal) (M B L) .f32 0x00000000#32) (ix2 b l) = ∑ k : Fin K, a (ix2 b k) * m (ix2 k l) := by
  subst hd
  have hz : constant (F := Ideal) (M B L) .f32 0x00000000#32 (ix2 b l) = 0 := Ideal.ofBits_zero_f32
  exact (Ideal.matmul_plain_apply none a m _ b l).trans
    ((congrArg (· + ∑ k : Fin K, a (ix2 b k) * m (ix2 k l)) hz).trans (zero_add _))

/-- A row under each row of a matrix. -/
theorem row_at {α : Type} (β : (M 1 L).Idx → α) (h : (M 1 L).Broadcasts (M B L)) (b : Fin B) (l : Fin L) :
    broadcastTo (M B L) β h (ix2 b l) = β (ix2 0 l) := by
  refine congrArg β (funext fun a => Fin.ext ?_)
  match a with
  | ⟨0, _⟩ => rfl
  | ⟨1, _⟩ =>
    have := l.isLt
    split
    · next h1 =>
      have e : L = 1 := h1
      show 0 = l.val
      omega
    · rfl

/-- A column beside each column of a matrix. -/
theorem col_at {α : Type} (β : (M B 1).Idx → α) (h : (M B 1).Broadcasts (M B L)) (b : Fin B) (l : Fin L) :
    broadcastTo (M B L) β h (ix2 b l) = β (ix2 b 0) := by
  refine congrArg β (funext fun a => Fin.ext ?_)
  match a with
  | ⟨0, _⟩ =>
    have := b.isLt
    split
    · next h1 =>
      have e : B = 1 := h1
      show 0 = b.val
      omega
    · rfl
  | ⟨1, _⟩ => rfl

/-- A product plus a bias row. -/
theorem lin_at (d : DotDims (M B K) (M K L) (M B L)) (hd : d = DotDims.plain B K L) (a : FVec Ideal (M B K) .bf16) (m : FVec Ideal (M K L) .bf16)
    (hm : (M K L).ShapeCasts (M K L)) (β : FVec Ideal (M 1 L) .f32) (hβ : (M 1 L).ShapeCasts (M 1 L)) (hb : (M 1 L).Broadcasts (M B L))
    (b : Fin B) (l : Fin L) :
    addf (F := Ideal) (φ := .f32) (matmul d none a (shapeCast (M K L) m hm) (constant (F := Ideal) (M B L) .f32 0x00000000#32))
        (broadcastTo (M B L) (shapeCast (M 1 L) β hβ) hb) (ix2 b l)
      = (∑ k : Fin K, a (ix2 b k) * m (ix2 k l)) + β (ix2 0 l) := by
  rw [shapeCast_self, shapeCast_self]
  exact congrArg₂ (· + ·) (dot_at d hd a m b l) (row_at β hb b l)

/-- The same cut off below at 0. -/
theorem relu_at (d : DotDims (M B K) (M K L) (M B L)) (hd : d = DotDims.plain B K L) (a : FVec Ideal (M B K) .bf16) (m : FVec Ideal (M K L) .bf16)
    (hm : (M K L).ShapeCasts (M K L)) (β : FVec Ideal (M 1 L) .f32) (hβ : (M 1 L).ShapeCasts (M 1 L)) (hb : (M 1 L).Broadcasts (M B L))
    (ht : FTy.bits .bf16 < FTy.bits .f32) (b : Fin B) (l : Fin L) :
    truncf (F := Ideal) .bf16 (maximumf (F := Ideal) (φ := .f32)
        (addf (F := Ideal) (φ := .f32) (matmul d none a (shapeCast (M K L) m hm) (constant (F := Ideal) (M B L) .f32 0x00000000#32))
          (broadcastTo (M B L) (shapeCast (M 1 L) β hβ) hb))
        (broadcast (M B L) (Scalar.ofBits (F := Ideal) .f32 0x00000000#32))) ht (ix2 b l)
      = max ((∑ k : Fin K, a (ix2 b k) * m (ix2 k l)) + β (ix2 0 l)) 0 :=
  congrArg₂ max (lin_at d hd a m hm β hβ hb b l) Ideal.ofBits_zero_f32

end

/-- Pieces of one width laid side by side. -/
theorem beside_at {α : Type} {N B K T : Nat} (f : Fin N → (M B K).Idx → α)
    (h : Shape.Concatenates ((List.ofFn fun n : Fin N => (⟨M B K, f n⟩ : (s : Shape) × (s.Idx → α))).map (·.1)) (M B T) 1)
    (b : Fin B) (n : Fin N) (k : Fin K) (j : Fin T) (hj : j.val = n.val * K + k.val) :
    concatenate (M B T) 1 (List.ofFn fun n : Fin N => (⟨M B K, f n⟩ : (s : Shape) × (s.Idx → α))) h (ix2 b j) = f n (ix2 b k) := by
  have hk := k.isLt
  refine concatenate_ofFn_apply (t := M B T) (s₁ := M B K) 1 f h rfl K rfl (ix2 b j) n ?_ (ix2 b k) ?_ ?_
  · show j.val / K = n.val
    rw [hj, Nat.add_comm, Nat.add_mul_div_right _ _ (by omega), Nat.div_eq_of_lt hk, Nat.zero_add]
  · show k.val = j.val % K
    rw [hj, Nat.add_comm, Nat.add_mul_mod_self_right, Nat.mod_eq_of_lt hk]
  · intro a ha
    match a with
    | ⟨0, _⟩ => rfl
    | ⟨1, _⟩ => exact absurd rfl ha

/-- Some columns of a matrix. -/
theorem cut_at {α : Type} {B K L : Nat} (o : Nat) (x : (M B L).Idx → α) (h : (M B L).Slices ![0, o] (M B K)) (b : Fin B) (k : Fin K) (l : Fin L)
    (hl : l.val = o + k.val) : extractStridedSlice (M B K) ![0, o] x h (ix2 b k) = x (ix2 b l) := by
  refine congrArg x (funext fun a => Fin.ext ?_)
  match a with
  | ⟨0, _⟩ => show 0 + b.val = b.val; omega
  | ⟨1, _⟩ => exact hl.symm

/-- A list of numbers as a column. -/
theorem column_at {α : Type} {B : Nat} (x : (⟨1, ![B]⟩ : Shape).Idx → α) (h : (⟨1, ![B]⟩ : Shape).ShapeCasts (M B 1)) (b : Fin B) :
    shapeCast (M B 1) x h (ix2 b 0) = x (ix1 b) := by
  refine reshape_at (s := ⟨1, ![B]⟩) (t := M B 1) x h (ix2 b 0) (ix1 b) ?_
  rw [rowMajor_val1, rowMajor_val2 _ _ rfl]
  show b.val = b.val * 1 + 0
  omega

/-- The sum of a row. -/
theorem rowSum_at {B L : Nat} (x : FVec Ideal (M B L) .f32) (h : (M B L).Reduces [1] ⟨1, ![B]⟩) (hφ : FKind.Formats .f32)
    (hacc : (0x00000000#32 : BitVec 32) = FKind.add.neutral .f32 hφ) (b : Fin B) :
    multiReduction .add [1] ⟨1, ![B]⟩ x 0x00000000#32 h hφ hacc (ix1 b) = ∑ l : Fin L, x (ix2 b l) := by
  refine (Ideal.multiReduction_add_single x _ h hφ hacc (ix1 b)).trans (Finset.sum_congr rfl fun l _ => congrArg x (funext fun a => Fin.ext ?_))
  match a with
  | ⟨0, _⟩ => rfl
  | ⟨1, _⟩ => rfl

/-- The sum of a column. -/
theorem colSum_at {B : Nat} (x : FVec Ideal (M B 1) .f32) (h : (M B 1).Reduces [0] ⟨1, ![1]⟩) (hφ : FKind.Formats .f32)
    (hacc : (0x00000000#32 : BitVec 32) = FKind.add.neutral .f32 hφ) :
    multiReduction .add [0] ⟨1, ![1]⟩ x 0x00000000#32 h hφ hacc (ix1 0) = ∑ b : Fin B, x (ix2 b 0) := by
  refine (Ideal.multiReduction_add_single x _ h hφ hacc (ix1 0)).trans (Finset.sum_congr rfl fun l _ => congrArg x (funext fun a => Fin.ext ?_))
  match a with
  | ⟨0, _⟩ => rfl
  | ⟨1, _⟩ => rfl

end Cert.Blk

end
-- ==== Proof.BlkEnc.lean ====
/-
  The encoder of the kernel, for a block of 128 images: the arrays a block is computed from, and what the first four layers
  leave, read as the network.
-/
module

public import proofs.«01_k».proof.Proof.Dense

@[expose] public section

set_option maxRecDepth 16384

noncomputable section

namespace Cert.Blk

open Cert.KernelIdeal Cert.KernelIdeal.Gen Idealize.ShloMosaic Cert.Conv

/-- A layer through its matrix, rows by channel. -/
theorem through {C H O N K : Nat} (hK : C * H * H = K) {s q d : Nat} (x : Fin H → Fin H → Fin C → EReal) (w : Fin O → Fin C → Fin 5 → Fin 5 → EReal)
    (bias : Fin O → EReal) (r t : Fin N) (o : Fin O) (a m : Fin K → EReal) (β : EReal)
    (ha : ∀ (c : Fin C) (h v : Fin H) (k : Fin K), k.val = (c.val * H + h.val) * H + v.val → a k = x h v c)
    (hm : ∀ (c : Fin C) (h v : Fin H) (k : Fin K), k.val = (c.val * H + h.val) * H + v.val → m k = sel s q d (w o c) h v r t)
    (hβ : β = bias o) : (∑ k, a k * m k) + β = Net.layer s q d x w bias r t o :=
  congrArg₂ (· + ·) (sum_rows hK x (w o) r t a m ha hm) hβ

/-- A layer through its matrix, rows by position. -/
theorem through_last {C H O N K : Nat} (hK : H * H * C = K) {s q d : Nat} (x : Fin H → Fin H → Fin C → EReal) (w : Fin O → Fin C → Fin 5 → Fin 5 → EReal)
    (bias : Fin O → EReal) (r t : Fin N) (o : Fin O) (a m : Fin K → EReal) (β : EReal)
    (ha : ∀ (c : Fin C) (h v : Fin H) (k : Fin K), k.val = (h.val * H + v.val) * C + c.val → a k = x h v c)
    (hm : ∀ (c : Fin C) (h v : Fin H) (k : Fin K), k.val = (h.val * H + v.val) * C + c.val → m k = sel s q d (w o c) h v r t)
    (hβ : β = bias o) : (∑ k, a k * m k) + β = Net.layer s q d x w bias r t o :=
  congrArg₂ (· + ·) (sum_rows_last hK x (w o) r t a m ha hm) hβ

/-- A matrix holds the selected weights of a layer, its rows by channel and its columns by output channel. -/
def Holds (s q d : Nat) {C H O N K L : Nat} (w : Fin O → Fin C → Fin 5 → Fin 5 → EReal) (m : (M K L).Idx → EReal) : Prop :=
  ∀ (o : Fin O) (c : Fin C) (h v : Fin H) (r t : Fin N) (k : Fin K) (l : Fin L), k.val = (c.val * H + h.val) * H + v.val →
    l.val = (o.val * N + r.val) * N + t.val → m (ix2 k l) = sel s q d (w o c) h v r t

/-- The arrays of a block hold these images and weights. -/
structure Reads (P : Net.Params) (X : Fin 128 → Fin 28 → Fin 28 → Fin 1 → EReal)
    (x0 : Vec Ideal S128x784 .f32) (x1 : Vec Ideal S784x3136 .bf16) (x2 : Vec Ideal S1x3136 .f32) (x3 : Vec Ideal S3136x1568 .bf16)
    (x4 : Vec Ideal S1x1568 .f32) (x5 : Vec Ideal S1568x1024 .bf16) (x6 : Vec Ideal S1x1024 .f32) (x7 : Vec Ideal S1600x4 .bf16)
    (x8 : Vec Ideal S1x4 .f32) (x9 : Vec Ideal S16x1152 .bf16) (x10 : Vec Ideal S1x1152 .f32) (x11 : Vec Ideal S1152x1600 .bf16)
    (x12 : Vec Ideal S1x1600 .f32) (x13 : Vec Ideal S1600x5408 .bf16) (x14 : Vec Ideal S1x5408 .f32) (x15 : Vec Ideal S5408x784 .bf16)
    (x16 : Vec Ideal S1x784 .f32) (x17 : Vec Ideal S1x256 .f32) (x18 : Vec Ideal S64x4 .f32) : Prop where
  img : ∀ (b : Fin 128) (h v : Fin 28) (k : Fin 784), k.val = h.val * 28 + v.val → (x0 : S128x784.Idx → EReal) (ix2 b k) = X b h v 0
  m1 : Holds (H := 28) (N := 14) 2 2 1 P.w1 (x1 : S784x3136.Idx → EReal)
  b1 : ∀ (o : Fin 16) (p : Fin 196) (l : Fin 3136), l.val = o.val * 196 + p.val → (x2 : S1x3136.Idx → EReal) (ix2 0 l) = P.b1 o
  m2 : Holds (H := 14) (N := 7) 2 2 1 P.w2 (x3 : S3136x1568.Idx → EReal)
  b2 : ∀ (o : Fin 32) (p : Fin 49) (l : Fin 1568), l.val = o.val * 49 + p.val → (x4 : S1x1568.Idx → EReal) (ix2 0 l) = P.b2 o
  m3 : ∀ (o : Fin 64) (c : Fin 32) (h v : Fin 7) (r t : Fin 4) (k : Fin 1568) (l : Fin 1024), k.val = (c.val * 7 + h.val) * 7 + v.val →
    l.val = (r.val * 4 + t.val) * 64 + o.val → (x5 : S1568x1024.Idx → EReal) (ix2 k l) = sel 2 2 1 (P.w3 o c) h v r t
  b3 : ∀ (p : Fin 16) (o : Fin 64) (l : Fin 1024), l.val = p.val * 64 + o.val → (x6 : S1x1024.Idx → EReal) (ix2 0 l) = P.b3 o
  m4 : ∀ (i j : Fin 5) (c : Fin 64) (o : Fin 4) (k : Fin 1600), k.val = (i.val * 5 + j.val) * 64 + c.val →
    (x7 : S1600x4.Idx → EReal) (ix2 k o) = P.w4 o c i j
  b4 : ∀ o : Fin 4, (x8 : S1x4.Idx → EReal) (ix2 0 o) = P.b4 o
  t1 : ∀ (o : Fin 128) (c : Fin 4) (h v : Fin 2) (r t : Fin 3) (k : Fin 16) (l : Fin 1152), k.val = (h.val * 2 + v.val) * 4 + c.val →
    l.val = (o.val * 3 + r.val) * 3 + t.val → (x9 : S16x1152.Idx → EReal) (ix2 k l) = sel 1 2 2 (P.u1 o c) h v r t
  c1 : ∀ (o : Fin 128) (p : Fin 9) (l : Fin 1152), l.val = o.val * 9 + p.val → (x10 : S1x1152.Idx → EReal) (ix2 0 l) = P.c1 o
  t2 : Holds (H := 3) (N := 5) 1 2 2 P.u2 (x11 : S1152x1600.Idx → EReal)
  c2 : ∀ (o : Fin 64) (p : Fin 25) (l : Fin 1600), l.val = o.val * 25 + p.val → (x12 : S1x1600.Idx → EReal) (ix2 0 l) = P.c2 o
  t3 : Holds (H := 5) (N := 13) 1 4 2 P.u3 (x13 : S1600x5408.Idx → EReal)
  c3 : ∀ (o : Fin 32) (p : Fin 169) (l : Fin 5408), l.val = o.val * 169 + p.val → (x14 : S1x5408.Idx → EReal) (ix2 0 l) = P.c3 o
  t4 : Holds (H := 13) (N := 28) 1 4 2 P.u4 (x15 : S5408x784.Idx → EReal)
  c4 : ∀ (o : Fin 1) (p : Fin 784) (l : Fin 784), l.val = o.val * 784 + p.val → (x16 : S1x784.Idx → EReal) (ix2 0 l) = P.c4 o
  flat : ∀ (c : Fin 4) (n : Fin 64) (l : Fin 256), l.val = c.val * 64 + n.val → (x17 : S1x256.Idx → EReal) (ix2 0 l) = P.dict n c
  dict : ∀ (n : Fin 64) (c : Fin 4), (x18 : S64x4.Idx → EReal) (ix2 n c) = P.dict n c

section
variable {P : Net.Params} {X : Fin 128 → Fin 28 → Fin 28 → Fin 1 → EReal}
  {x0 : Vec Ideal S128x784 .f32} {x1 : Vec Ideal S784x3136 .bf16} {x2 : Vec Ideal S1x3136 .f32} {x3 : Vec Ideal S3136x1568 .bf16}
  {x4 : Vec Ideal S1x1568 .f32} {x5 : Vec Ideal S1568x1024 .bf16} {x6 : Vec Ideal S1x1024 .f32} {x7 : Vec Ideal S1600x4 .bf16}
  {x8 : Vec Ideal S1x4 .f32} {x9 : Vec Ideal S16x1152 .bf16} {x10 : Vec Ideal S1x1152 .f32} {x11 : Vec Ideal S1152x1600 .bf16}
  {x12 : Vec Ideal S1x1600 .f32} {x13 : Vec Ideal S1600x5408 .bf16} {x14 : Vec Ideal S1x5408 .f32} {x15 : Vec Ideal S5408x784 .bf16}
  {x16 : Vec Ideal S1x784 .f32} {x17 : Vec Ideal S1x256 .f32} {x18 : Vec Ideal S64x4 .f32}

/-- The third layer of a block, its columns by position. -/
theorem third_at (R : Reads P X x0 x1 x2 x3 x4 x5 x6 x7 x8 x9 x10 x11 x12 x13 x14 x15 x16 x17 x18) (b : Fin 128) (o : Fin 64) (r t : Fin 4) (l : Fin 1024) (hl : l.val = (r.val * 4 + t.val) * 64 + o.val) :
    (k0_pay4 (F := Ideal) x0 x1 x2 x3 x4 x5 x6 : S128x1024.Idx → EReal) (ix2 b l) = Net.y3 P (X b) r t o := by
  unfold k0_pay4 k0_pay3
  dsimp only
  refine (relu_at _ rfl _ _ _ _ _ _ _ b l).trans ?_
  refine congrArg (max · 0) (through (C := 32) (H := 7) rfl (Net.y2 P (X b)) P.w3 P.b3 r t o _ _ _ (fun c h v k hk => ?_) (fun c h v k hk => R.m3 o c h v r t k l hk hl)
    (R.b3 ⟨r.val * 4 + t.val, by omega⟩ o l hl))
  refine (relu_at _ rfl _ _ _ _ _ _ _ b k).trans ?_
  refine congrArg (max · 0) (through (C := 16) (H := 14) rfl (Net.y1 P (X b)) P.w2 P.b2 h v c _ _ _ (fun c' h' v' k' hk' => ?_) (fun c' h' v' k' hk' => R.m2 c c' h' v' h v k' k hk' hk)
    (R.b2 c ⟨h.val * 7 + v.val, by omega⟩ k (by show k.val = c.val * 49 + (h.val * 7 + v.val); omega)))
  refine (relu_at _ rfl _ _ _ _ _ _ _ b k').trans ?_
  refine congrArg (max · 0) (through (C := 1) (H := 28) rfl (X b) P.w1 P.b1 h' v' c' _ _ _ (fun c'' h'' v'' k'' hk'' => ?_)
    (fun c'' h'' v'' k'' hk'' => R.m1 c' c'' h'' v'' h' v' k'' k' hk'' hk')
    (R.b1 c' ⟨h'.val * 14 + v'.val, by omega⟩ k' (by show k'.val = c'.val * 196 + (h'.val * 14 + v'.val); omega)))
  obtain rfl : c'' = 0 := Fin.ext (by omega)
  refine Eq.trans ?_ (R.img b h'' v'' k'' (by rw [hk'']; show (0 * 28 + h''.val) * 28 + v''.val = _; omega))
  rw [shapeCast_self]
  rfl

end

/-! ## The fourth layer, through its windows -/

/-- A position's 64 columns lie among the 1024. -/
theorem fits (p : Fin 16) : S128x1024.Slices ![0, 64 * p.val] S128x64 := ⟨rfl, fun a => by
  have hp := p.isLt
  match a with
  | ⟨0, _⟩ => exact Nat.le_refl _
  | ⟨1, _⟩ => show 64 * p.val + 64 ≤ 1024; omega⟩

/-- The piece of a window at one tap: 64 columns of the third layer, or zeros outside it. -/
def piece (y : FVec Ideal S128x1024 .bf16) : Option (Fin 16) → FVec Ideal S128x64 .bf16
  | none => k0_pay5
  | some p => extractStridedSlice S128x64 ![0, 64 * p.val] y (fits p)

/-- Which position of the third layer lies at tap `n` of the window of output position `(r, t)`. -/
def src (r t : Fin 2) (n : Fin 25) : Option (Fin 16) :=
  let i := n.val / 5
  let j := n.val % 5
  cond (Nat.ble 2 (2 * r.val + i) && Nat.ble (2 * r.val + i) 5 && (Nat.ble 2 (2 * t.val + j) && Nat.ble (2 * t.val + j) 5))
    (some (Fin.ofNat 16 ((2 * r.val + i - 2) * 4 + (2 * t.val + j - 2)))) none

theorem piece_at (y : FVec Ideal S128x1024 .bf16) (x : Fin 4 → Fin 4 → Fin 64 → EReal) (b : Fin 128)
    (hy : ∀ (o : Fin 64) (r t : Fin 4) (l : Fin 1024), l.val = (r.val * 4 + t.val) * 64 + o.val → (y : S128x1024.Idx → EReal) (ix2 b l) = x r t o)
    (r t : Fin 2) (n : Fin 25) (i j : Fin 5) (hn : n.val = i.val * 5 + j.val) (c : Fin 64) :
    (piece y (src r t n) : S128x64.Idx → EReal) (ix2 b c) = ∑ h, ∑ v, if tap 2 2 1 h i r ∧ tap 2 2 1 v j t then x h v c else 0 := by
  have hi : n.val / 5 = i.val := by omega
  have hj : n.val % 5 = j.val := by omega
  by_cases hin : (2 ≤ 2 * r.val + i.val ∧ 2 * r.val + i.val ≤ 5) ∧ (2 ≤ 2 * t.val + j.val ∧ 2 * t.val + j.val ≤ 5)
  · obtain ⟨⟨h1, h2⟩, h3, h4⟩ := hin
    have hs : src r t n = some (Fin.ofNat 16 ((2 * r.val + i.val - 2) * 4 + (2 * t.val + j.val - 2))) := by
      unfold src
      simp only [hi, hj, Nat.ble_eq_true_of_le h1, Nat.ble_eq_true_of_le h2, Nat.ble_eq_true_of_le h3, Nat.ble_eq_true_of_le h4, Bool.and_self, cond_true]
    rw [hs]
    rw [Finset.sum_eq_single (⟨2 * r.val + i.val - 2, by omega⟩ : Fin 4), Finset.sum_eq_single (⟨2 * t.val + j.val - 2, by omega⟩ : Fin 4), if_pos]
    · have hl : ((2 * r.val + i.val - 2) * 4 + (2 * t.val + j.val - 2)) * 64 + c.val < 1024 := by omega
      refine Eq.trans (α := EReal) (cut_at _ _ (fits _) b c ⟨_, hl⟩ ?_) (hy c _ _ _ rfl)
      show _ = 64 * (((2 * r.val + i.val - 2) * 4 + (2 * t.val + j.val - 2)) % 16) + c.val
      rw [Nat.mod_eq_of_lt (by omega)]
      ring
    · exact ⟨by show 2 * r.val + i.val = 2 + (2 * r.val + i.val - 2) * 1; omega, by show 2 * t.val + j.val = 2 + (2 * t.val + j.val - 2) * 1; omega⟩
    · intro v _ hv
      refine if_neg fun e => hv (Fin.ext ?_)
      have e2 : 2 * t.val + j.val = 2 + v.val * 1 := e.2
      show v.val = 2 * t.val + j.val - 2
      omega
    · intro hm
      exact absurd (Finset.mem_univ _) hm
    · intro h _ hh
      refine Finset.sum_eq_zero fun v _ => if_neg fun e => hh (Fin.ext ?_)
      have e1 : 2 * r.val + i.val = 2 + h.val * 1 := e.1
      show h.val = 2 * r.val + i.val - 2
      omega
    · intro hm
      exact absurd (Finset.mem_univ _) hm
  · have hs : src r t n = none := by
      unfold src
      simp only [hi, hj]
      cases hc : (Nat.ble 2 (2 * r.val + i.val) && Nat.ble (2 * r.val + i.val) 5 && (Nat.ble 2 (2 * t.val + j.val) && Nat.ble (2 * t.val + j.val) 5))
      · rfl
      · simp only [Bool.and_eq_true, Nat.ble_eq] at hc
        exact absurd hc hin
    rw [hs]
    refine Eq.trans (b := (0 : EReal)) ?_ (Eq.symm (Finset.sum_eq_zero fun h _ => Finset.sum_eq_zero fun v _ => if_neg fun e => hin ?_))
    · show Ideal.ofBits .bf16 0x0000#16 = 0
      simp [Ideal.ofBits, Ideal.ieee]
    · have e1 : 2 * r.val + i.val = 2 + h.val * 1 := e.1
      have e2 : 2 * t.val + j.val = 2 + v.val * 1 := e.2
      have := h.isLt
      have := v.isLt
      omega

/-- The 25 pieces of the window of one output position. -/
def window (y : FVec Ideal S128x1024 .bf16) (r t : Fin 2) : List ((s : Shape) × (s.Idx → EReal)) :=
  List.ofFn fun n : Fin 25 => ⟨S128x64, piece y (src r t n)⟩

/-- The fourth layer at one position. -/
theorem fourth_at (y : FVec Ideal S128x1024 .bf16) (P : Net.Params) (x : Fin 4 → Fin 4 → Fin 64 → EReal) (b : Fin 128)
    (hy : ∀ (o : Fin 64) (r t : Fin 4) (l : Fin 1024), l.val = (r.val * 4 + t.val) * 64 + o.val → (y : S128x1024.Idx → EReal) (ix2 b l) = x r t o)
    (x7 : Vec Ideal S1600x4 .bf16) (x8 : Vec Ideal S1x4 .f32)
    (m4 : ∀ (i j : Fin 5) (c : Fin 64) (o : Fin 4) (k : Fin 1600), k.val = (i.val * 5 + j.val) * 64 + c.val →
      (x7 : S1600x4.Idx → EReal) (ix2 k o) = P.w4 o c i j)
    (b4 : ∀ o : Fin 4, (x8 : S1x4.Idx → EReal) (ix2 0 o) = P.b4 o) (r t : Fin 2)
    (g : FVec Ideal S128x1600 .bf16) (hc : Shape.Concatenates ((window y r t).map (·.1)) S128x1600 1)
    (hg : g = concatenate S128x1600 1 (window y r t) hc)
    (h7 : S1600x4.ShapeCasts S1600x4) (h8 : S1x4.ShapeCasts S1x4) (hb : S1x4.Broadcasts S128x4) (o : Fin 4) :
    (addf (F := Ideal) (φ := .f32) (matmul dot_S128x1600_S1600x4_S128x4_1_0_0_1_n_n none g (shapeCast S1600x4 x7 h7 : FVec Ideal S1600x4 .bf16) (constant (F := Ideal) S128x4 .f32 0x00000000#32))
      (broadcastTo S128x4 (shapeCast S1x4 x8 h8) hb) : S128x4.Idx → EReal) (ix2 b o) = Net.layer 2 2 1 x P.w4 P.b4 r t o := by
  refine (lin_at _ rfl g x7 h7 x8 h8 hb b o).trans (congrArg₂ (· + ·) ?_ (b4 o))
  have hlt : ∀ (i : Fin 5) (j : Fin 5) (c : Fin 64), (i.val * 5 + j.val) * 64 + c.val < 1600 := fun i j c => by omega
  rw [sum_chw (C := 5) (H := 5) (W := 64) rfl _ hlt]
  refine Eq.trans ?_ (windows_eq_lin (d := 1) (by norm_num) x (P.w4 o) r t (fun i j c => g (ix2 b ⟨_, hlt i j c⟩)) fun i j c => ?_)
  · exact Finset.sum_congr rfl fun i _ => Finset.sum_congr rfl fun j _ => Finset.sum_congr rfl fun c _ => congrArg (g (ix2 b ⟨_, hlt i j c⟩) * ·) (m4 i j c o _ rfl)
  · rw [hg]
    exact (beside_at (fun n => piece y (src r t n)) hc b ⟨i.val * 5 + j.val, by omega⟩ c ⟨_, hlt i j c⟩ rfl).trans
      (piece_at y x b hy r t _ i j rfl c)

section
variable {P : Net.Params} {X : Fin 128 → Fin 28 → Fin 28 → Fin 1 → EReal}
  {x0 : Vec Ideal S128x784 .f32} {x1 : Vec Ideal S784x3136 .bf16} {x2 : Vec Ideal S1x3136 .f32} {x3 : Vec Ideal S3136x1568 .bf16}
  {x4 : Vec Ideal S1x1568 .f32} {x5 : Vec Ideal S1568x1024 .bf16} {x6 : Vec Ideal S1x1024 .f32} {x7 : Vec Ideal S1600x4 .bf16}
  {x8 : Vec Ideal S1x4 .f32} {x9 : Vec Ideal S16x1152 .bf16} {x10 : Vec Ideal S1x1152 .f32} {x11 : Vec Ideal S1152x1600 .bf16}
  {x12 : Vec Ideal S1x1600 .f32} {x13 : Vec Ideal S1600x5408 .bf16} {x14 : Vec Ideal S1x5408 .f32} {x15 : Vec Ideal S5408x784 .bf16}
  {x16 : Vec Ideal S1x784 .f32} {x17 : Vec Ideal S1x256 .f32} {x18 : Vec Ideal S64x4 .f32}

variable (x0 x1 x2 x3 x4 x5 x6 x7 x8) in
/-- What the encoder leaves of a block: four columns for each position. -/
def zBlk : FVec Ideal S128x16 .f32 :=
  k0_pay14 (k0_pay4 x0 x1 x2 x3 x4 x5 x6) k0_pay5
    (k0_pay10 (k0_pay4 x0 x1 x2 x3 x4 x5 x6) k0_pay5 (k0_pay6 x0 x1 x2 x3 x4 x5 x6) (k0_pay7 x0 x1 x2 x3 x4 x5 x6) (k0_pay8 x0 x1 x2 x3 x4 x5 x6) (k0_pay9 x0 x1 x2 x3 x4 x5 x6) x7 x8)
    (k0_pay11 (k0_pay4 x0 x1 x2 x3 x4 x5 x6) k0_pay5 x7 x8) (k0_pay12 (k0_pay4 x0 x1 x2 x3 x4 x5 x6) k0_pay5) (k0_pay13 x7) x8 x7 x8

theorem z_at (R : Reads P X x0 x1 x2 x3 x4 x5 x6 x7 x8 x9 x10 x11 x12 x13 x14 x15 x16 x17 x18) (b : Fin 128) (r t : Fin 2) (c : Fin 4) (k : Fin 16)
    (hk : k.val = (r.val * 2 + t.val) * 4 + c.val) :
    (zBlk x0 x1 x2 x3 x4 x5 x6 x7 x8 : S128x16.Idx → EReal) (ix2 b k) = Net.z P (X b) r t c := by
  have hy := third_at R b
  unfold zBlk k0_pay6 k0_pay7 k0_pay8 k0_pay9
  generalize (k0_pay4 x0 x1 x2 x3 x4 x5 x6 : FVec Ideal S128x1024 .bf16) = y at *
  have f := fourth_at y P (Net.y3 P (X b)) b hy x7 x8 R.m4 R.b4
  unfold k0_pay14
  dsimp only
  refine (beside_at (N := 4) (K := 4) ![_, _, _, _] concatenates_S128x4_S128x4_S128x4_S128x4_S128x16_d1 b ⟨r.val * 2 + t.val, by omega⟩ c k hk).trans ?_
  match r, t with
  | ⟨0, _⟩, ⟨0, _⟩ => exact f 0 0 _ (by exact concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x1600_d1) rfl _ _ _ c
  | ⟨0, _⟩, ⟨1, _⟩ => exact f 0 1 _ (by exact concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x1600_d1) rfl _ _ _ c
  | ⟨1, _⟩, ⟨0, _⟩ => exact f 1 0 _ (by exact concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x1600_d1) rfl _ _ _ c
  | ⟨1, _⟩, ⟨1, _⟩ => exact f 1 1 _ (by exact concatenates_S128x64_S128x64_S128x64_S128x64_S128x64_S128x64_S128x64_S128x64_S128x64_S128x64_S128x64_S128x64_S128x64_S128x64_S128x64_S128x64_S128x64_S128x64_S128x64_S128x64_S128x64_S128x64_S128x64_S128x64_S128x64_S128x1600_d1) rfl _ _ _ c

end

end Cert.Blk

end
-- ==== Proof.FirstMin.lean ====
/-
  The host's arg-min over a row of 64 values gives the first position where they are least.
-/
module

public import proofs.«01_k».proof.Proof.Net
public import proofs.«01_k».proof.Proof.Gen.ReferenceIdeal
public import Idealize.ShloMosaic.Lib.KernelVsHost

@[expose] public section

set_option maxRecDepth 16384

noncomputable section

namespace Cert.Net

open Idealize.ShloMosaic Cert.ReferenceIdeal Cert.ReferenceIdeal.Gen

theorem one_or (q : BitVec 1) : 1#1 ||| q = 1#1 := by revert q; decide

/-- A pair of a value and a position is before another: less, or as great and not later. -/
def Before (a b : EReal × BitVec 32) : Prop := a.1 < b.1 ∨ (a.1 = b.1 ∧ a.2.toInt ≤ b.2.toInt)

theorem Before.refl (a : EReal × BitVec 32) : Before a a := .inr ⟨rfl, le_refl _⟩

theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reducer keeps one of its two pairs, before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have une : FloatOps.cmpf (F := Ideal) (φ := .f32) .une x x = 0#1 := by simp [Ideal.cmpf_def, Ideal.cmp]
  rcases lt_trichotomy x y with hlt | rfl | hgt
  · have e : reducer_argmin_f32_i32 (F := Ideal) (x, i) (y, j) = (x, i) := by
      have h1 : FloatOps.cmpf (F := Ideal) (φ := .f32) .olt x y = 1#1 := by simp [Ideal.cmpf_def, Ideal.cmp, hlt]
      simp [reducer_argmin_f32_i32, h1, une, Scalar.select, IntOp.ori, one_or]
    rw [e]; exact ⟨.inl rfl, .refl _, .inl hlt⟩
  · have h1 : FloatOps.cmpf (F := Ideal) (φ := .f32) .olt x x = 0#1 := by simp [Ideal.cmpf_def, Ideal.cmp]
    have h2 : FloatOps.cmpf (F := Ideal) (φ := .f32) .oeq x x = 1#1 := by simp [Ideal.cmpf_def, Ideal.cmp]
    by_cases hi : i.toInt < j.toInt
    · have e : reducer_argmin_f32_i32 (F := Ideal) (x, i) (x, j) = (x, i) := by
        have h3 : IntOp.cmpi .slt i j = 1#1 := by simp [IntOp.cmpi, BitVec.slt, hi]
        simp [reducer_argmin_f32_i32, h1, h2, h3, une, Scalar.select, IntOp.ori, IntOp.andi]
      rw [e]; exact ⟨.inl rfl, .refl _, .inr ⟨rfl, hi.le⟩⟩
    · have e : reducer_argmin_f32_i32 (F := Ideal) (x, i) (x, j) = (x, j) := by
        have h3 : IntOp.cmpi .slt i j = 0#1 := by simp [IntOp.cmpi, BitVec.slt, hi]
        simp [reducer_argmin_f32_i32, h1, h2, h3, une, Scalar.select, IntOp.ori, IntOp.andi]
      rw [e]; exact ⟨.inr rfl, .inr ⟨rfl, not_lt.1 hi⟩, .refl _⟩
  · have e : reducer_argmin_f32_i32 (F := Ideal) (x, i) (y, j) = (y, j) := by
      have h1 : FloatOps.cmpf (F := Ideal) (φ := .f32) .olt x y = 0#1 := by simp [Ideal.cmpf_def, Ideal.cmp, not_lt.2 hgt.le]
      have h2 : FloatOps.cmpf (F := Ideal) (φ := .f32) .oeq x y = 0#1 := by simp [Ideal.cmpf_def, Ideal.cmp, hgt.ne']
      simp [reducer_argmin_f32_i32, h1, h2, une, Scalar.select, IntOp.ori, IntOp.andi]
    rw [e]; exact ⟨.inr rfl, .inl hgt, .refl _⟩

/-- Folding the reducer over a list gives the start or one of the list's pairs, before all of them. -/
theorem fold_spec {ι : Type} (p : ι → EReal × BitVec 32) (l : List ι) (a : EReal × BitVec 32) :
    (l.foldl (fun r n => reducer_argmin_f32_i32 (F := Ideal) r (p n)) a = a
        ∨ ∃ n ∈ l, l.foldl (fun r n => reducer_argmin_f32_i32 (F := Ideal) r (p n)) a = p n)
      ∧ Before (l.foldl (fun r n => reducer_argmin_f32_i32 (F := Ideal) r (p n)) a) a
      ∧ ∀ n ∈ l, Before (l.foldl (fun r n => reducer_argmin_f32_i32 (F := Ideal) r (p n)) a) (p n) := by
  induction l generalizing a with
  | nil => exact ⟨.inl rfl, .refl _, fun n h => nomatch h⟩
  | cons k l ih =>
    obtain ⟨h1, h2, h3⟩ := ih (reducer_argmin_f32_i32 (F := Ideal) a (p k))
    obtain ⟨g1, g2, g3⟩ := reducer_spec a (p k)
    rw [List.foldl_cons]
    refine ⟨?_, h2.trans g2, fun n hn => ?_⟩
    · rcases h1 with h1 | ⟨n, hn, h1⟩
      · rcases g1 with g1 | g1
        · exact .inl (h1.trans g1)
        · exact .inr ⟨k, List.mem_cons_self, h1.trans g1⟩
      · exact .inr ⟨n, List.mem_cons_of_mem _ hn, h1⟩
    · rcases List.mem_cons.1 hn with rfl | hn
      · exact h2.trans g3
      · exact h3 n hn

theorem toInt_ofNat (k : Fin 64) : (BitVec.ofNat 32 k.val).toInt = k.val := by
  revert k; decide

/-- A pair of the row before all of them is at the first least position. -/
theorem near_of_before (d : Fin 64 → EReal) (res : EReal × BitVec 32) (all : ∀ n : Fin 64, Before res (d n, BitVec.ofNat 32 n.val))
    (one : res = (⊤, 0#32) ∨ ∃ n : Fin 64, res = (d n, BitVec.ofNat 32 n.val)) : res.2 = BitVec.ofNat 32 (near d).val := by
  obtain ⟨v, i⟩ := res
  have all' : ∀ n : Fin 64, v < d n ∨ (v = d n ∧ i.toInt ≤ n.val) := fun n => by
    rw [← toInt_ofNat n]; exact all n
  have least : ∀ j : Fin 64, v = d j → i = BitVec.ofNat 32 j.val → i = BitVec.ofNat 32 (near d).val := by
    intro j e e'
    rw [near_eq (j := j) ⟨fun k => ?_, fun k hk => ?_⟩, e']
    · rcases all' k with h | ⟨h, -⟩
      · exact (e ▸ h).le
      · exact (e.symm.trans h).le
    · rcases all' k with h | ⟨h, hi⟩
      · exact e ▸ h
      · rw [e', toInt_ofNat] at hi
        have : k.val < j.val := hk
        omega
  rcases one with e | ⟨j, e⟩
  · obtain ⟨rfl, rfl⟩ := Prod.mk.inj e
    refine least 0 ?_ rfl
    rcases all' 0 with h | ⟨h, -⟩
    · exact absurd h (not_lt.2 le_top)
    · exact h
  · obtain ⟨e1, e2⟩ := Prod.mk.inj e
    exact least j e1 e2

/-- The arg-min of the last axis. -/
theorem argmin_at (x : S2048x2x2x64.Idx → EReal) (y : S2048x2x2x64.Idx → BitVec 32) (hy : ∀ b r t n, y (ix4 b r t n) = BitVec.ofNat 32 n.val)
    (ix : S_.Idx → EReal) (iy : S_.Idx → BitVec 32) (hx0 : ix (Shape.Idx.first h_S_) = ⊤) (hy0 : iy (Shape.Idx.first h_S_) = 0#32)
    (b : Fin 2048) (r t : Fin 2) :
    (Host.argReduce (F := Ideal) (φ := .f32) reducer_argmin_f32_i32 x y ix iy reducesTo_S2048x2x2x64_S2048x2x2_d3 h_S_ (ix3 b r t)).2
      = BitVec.ofNat 32 (near fun n => x (ix4 b r t n)).val := by
  rw [Ideal.argReduce_eq_reduce2]
  unfold Host.reduce2
  rw [hx0, hy0]
  obtain ⟨h1, h2, h3⟩ := fold_spec (fun n => (x (S2048x2x2x64.rowMajor.symm n), y (S2048x2x2x64.rowMajor.symm n)))
    ((List.finRange S2048x2x2x64.numel).filter fun n => reducesTo_S2048x2x2x64_S2048x2x2_d3.drop (S2048x2x2x64.rowMajor.symm n) = ix3 b r t) (⊤, 0#32)
  generalize List.foldl _ _ _ = res at *
  have all : ∀ n : Fin 64, Before res (x (ix4 b r t n), BitVec.ofNat 32 n.val) := fun n => by
    have := h3 (S2048x2x2x64.rowMajor (ix4 b r t n)) (List.mem_filter.2 ⟨List.mem_finRange _, by
      rw [Equiv.symm_apply_apply]
      exact decide_eq_true (funext fun a => match a with | ⟨0, _⟩ => rfl | ⟨1, _⟩ => rfl | ⟨2, _⟩ => rfl)⟩)
    simp only [Equiv.symm_apply_apply, hy] at this
    exact this
  have one : res = (⊤, 0#32) ∨ ∃ n : Fin 64, res = (x (ix4 b r t n), BitVec.ofNat 32 n.val) := by
    rcases h1 with h1 | ⟨n, hn, h1⟩
    · exact .inl h1
    · refine .inr ?_
      have hd := of_decide_eq_true (List.mem_filter.1 hn).2
      generalize S2048x2x2x64.rowMajor.symm n = i at *
      have hi : i = ix4 b r t (i 3) := by
        have h0 := congrFun hd 0
        have h1 := congrFun hd 1
        have h2 := congrFun hd 2
        exact funext fun a => match a with
          | ⟨0, _⟩ => Fin.ext (congrArg Fin.val h0) | ⟨1, _⟩ => Fin.ext (congrArg Fin.val h1) | ⟨2, _⟩ => Fin.ext (congrArg Fin.val h2) | ⟨3, _⟩ => rfl
      exact ⟨i 3, h1.trans (Prod.ext (congrArg x hi) ((congrArg y hi).trans (hy b r t (i 3))))⟩
  exact near_of_before (fun n => x (ix4 b r t n)) res all one

end Cert.Net

end
-- ==== Proof.BlkVq.lean ====
/-
  The search of the dictionary for a block of 128 images: squared differences, distances, the first least of them, and the
  entry there.
-/
module

public import proofs.«01_k».proof.Proof.BlkEnc
public import proofs.«01_k».proof.Proof.FirstMin

@[expose] public section

set_option maxRecDepth 16384

noncomputable section

namespace Cert.Blk

open Cert.KernelIdeal Cert.KernelIdeal.Gen Idealize.ShloMosaic Cert.Conv

/-- A fold of an operation that keeps one of its two operands, the earlier in some order: it keeps the earliest. -/
theorem fold_pick {ι α : Type} [DecidableEq ι] (op : α → α → α) [Std.Commutative op] [Std.Associative op] (R : α → α → Prop) (hrefl : ∀ a, R a a)
    (htrans : ∀ a b c, R a b → R b c → R a c) (hpick : ∀ a b, op a b = a ∨ op a b = b) (hl : ∀ a b, R (op a b) a) (hr : ∀ a b, R (op a b) b)
    (s : Finset ι) (a : α) (f : ι → α) :
    (s.fold op a f = a ∨ ∃ i ∈ s, s.fold op a f = f i) ∧ R (s.fold op a f) a ∧ ∀ i ∈ s, R (s.fold op a f) (f i) := by
  induction s using Finset.induction_on with
  | empty => exact ⟨.inl rfl, hrefl a, fun i hi => absurd hi (Finset.notMem_empty i)⟩
  | insert x s hx ih =>
    obtain ⟨h1, h2, h3⟩ := ih
    rw [Finset.fold_insert hx]
    refine ⟨?_, htrans _ _ _ (hr _ _) h2, fun i hi => ?_⟩
    · rcases hpick (f x) (s.fold op a f) with e | e
      · exact .inr ⟨x, Finset.mem_insert_self x s, e⟩
      · rcases h1 with h | ⟨i, hi, h⟩
        · exact .inl (e.trans h)
        · exact .inr ⟨i, Finset.mem_insert_of_mem hi, e.trans h⟩
    · rcases Finset.mem_insert.1 hi with rfl | hi
      · exact hl _ _
      · exact htrans _ _ _ (hr _ _) (h3 i hi)

/-! ## The first least distance of a row -/

/-- The row's first least position, as the kernel finds it. -/
def first (d : FVec Ideal S128x64 .f32) : IVec S128x1 32 :=
  shapeCast S128x1 (multiReductionI .minsi [1] S128
    (select (cmpf .oeq d (broadcastTo S128x64 (shapeCast S128x1 (multiReduction .minimumf [1] S128 d 0x7F800000#32 reduces_S128x64_S128 (.inl rfl) rfl) shapeCasts_S128_S128x1)
        broadcasts_S128x1_S128x64))
      (iota .tc S128x64 32 [1] iota_S128x64_d1_w32) (broadcast S128x64 64#32)) 2147483647#32 reduces_S128x64_S128 rfl) shapeCasts_S128_S128x1

theorem lift_at (b : Fin 128) (n : Fin 64) : reduces_S128x64_S128.lift (ix1 b) n = (ix2 b n : S128x64.Idx) := by
  funext a
  match a with
  | ⟨0, _⟩ => rfl
  | ⟨1, _⟩ => rfl

/-- The least value of a row: below all of them, and one of them or the top. -/
theorem least_at (d : FVec Ideal S128x64 .f32) (b : Fin 128) :
    let m : EReal := multiReduction .minimumf [1] S128 d 0x7F800000#32 reduces_S128x64_S128 (.inl rfl) rfl (ix1 b)
    (m = ⊤ ∨ ∃ n : Fin 64, m = (d : S128x64.Idx → EReal) (ix2 b n)) ∧ ∀ n : Fin 64, m ≤ (d : S128x64.Idx → EReal) (ix2 b n) := by
  intro m
  have e : m = (Finset.univ : Finset (Fin 64)).fold (fun a b : EReal => min a b) ⊤ (fun n => (d : S128x64.Idx → EReal) (ix2 b n)) := by
    have ht : Ideal.ofBits .f32 0x7F800000#32 = ⊤ := by simp [Ideal.ofBits, Ideal.ieee]
    refine (multiReduction_minimumf_eq_fold d _ reduces_S128x64_S128 (.inl rfl) rfl (ix1 b)).trans ?_
    refine (Shape.Reduces.fold_filter_drop_single reduces_S128x64_S128 _ _ d (ix1 b)).trans ?_
    have hf : d ∘ reduces_S128x64_S128.lift (ix1 b) = fun n : Fin 64 => d (ix2 b n) := funext fun n => congrArg d (lift_at b n)
    rw [hf]
    exact congrArg (fun z => (Finset.univ : Finset (Fin 64)).fold (fun a b : EReal => min a b) z (fun n => (d : S128x64.Idx → EReal) (ix2 b n))) ht
  obtain ⟨h1, -, h3⟩ := fold_pick (fun a b : EReal => min a b) (· ≤ ·) le_refl (fun _ _ _ => le_trans) (fun a b => min_choice a b) (fun a b => min_le_left a b)
    (fun a b => min_le_right a b) (Finset.univ : Finset (Fin 64)) ⊤ (fun n => (d : S128x64.Idx → EReal) (ix2 b n))
  rw [← e] at h1 h3
  exact ⟨h1.imp id fun ⟨n, _, h⟩ => ⟨n, h⟩, fun n => h3 n (Finset.mem_univ n)⟩

/-- The least of a row of numbers. -/
theorem leastI_at (x : IVec S128x64 32) (b : Fin 128) :
    let m := multiReductionI .minsi [1] S128 x 2147483647#32 reduces_S128x64_S128 rfl (ix1 b)
    (m = 2147483647#32 ∨ ∃ n : Fin 64, m = x (ix2 b n)) ∧ ∀ n : Fin 64, m.toInt ≤ (x (ix2 b n)).toInt := by
  intro m
  have hp : ∀ a b : BitVec 32, (IKind.minsi.op a b = a ∨ IKind.minsi.op a b = b) ∧ (IKind.minsi.op a b).toInt ≤ a.toInt ∧ (IKind.minsi.op a b).toInt ≤ b.toInt := by
    intro a b
    have e : IKind.minsi.op a b = if a.slt b then a else b := rfl
    rw [e]
    by_cases h : a.slt b
    · rw [if_pos h]
      exact ⟨.inl rfl, le_refl _, le_of_lt (BitVec.slt_iff_toInt_lt.1 h)⟩
    · rw [if_neg h]
      exact ⟨.inr rfl, not_lt.1 fun h' => h (BitVec.slt_iff_toInt_lt.2 h'), le_refl _⟩
  have e : m = (Finset.univ : Finset (Fin 64)).fold IKind.minsi.op 2147483647#32 (fun n => x (ix2 b n)) := by
    refine (multiReductionI_eq_fold .minsi x _ reduces_S128x64_S128 rfl (ix1 b)).trans ?_
    refine (Shape.Reduces.fold_filter_drop_single reduces_S128x64_S128 _ _ x (ix1 b)).trans ?_
    have hf : x ∘ reduces_S128x64_S128.lift (ix1 b) = fun n : Fin 64 => x (ix2 b n) := funext fun n => congrArg x (lift_at b n)
    rw [hf]
    rfl
  obtain ⟨h1, -, h3⟩ := fold_pick IKind.minsi.op (fun a b : BitVec 32 => a.toInt ≤ b.toInt) (fun a => le_refl _) (fun _ _ _ => le_trans) (fun a b => (hp a b).1)
    (fun a b => (hp a b).2.1) (fun a b => (hp a b).2.2) (Finset.univ : Finset (Fin 64)) 2147483647#32 (fun n => x (ix2 b n))
  rw [← e] at h1 h3
  exact ⟨h1.imp id fun ⟨n, _, h⟩ => ⟨n, h⟩, fun n => h3 n (Finset.mem_univ n)⟩

theorem first_at (d : FVec Ideal S128x64 .f32) (b : Fin 128) :
    first d (ix2 b 0) = BitVec.ofNat 32 (Net.near fun n => (d : S128x64.Idx → EReal) (ix2 b n)).val := by
  unfold first
  refine (column_at _ shapeCasts_S128_S128x1 b).trans ?_
  obtain ⟨h1, h2⟩ := least_at d b
  generalize hm : (multiReduction .minimumf [1] S128 d 0x7F800000#32 reduces_S128x64_S128 (.inl rfl) rfl : S128.Idx → EReal) = mins at h1 h2 ⊢
  have hsel : ∀ n : Fin 64, select (cmpf (F := Ideal) (φ := .f32) .oeq d (broadcastTo S128x64 (shapeCast S128x1 mins shapeCasts_S128_S128x1) broadcasts_S128x1_S128x64))
      (iota .tc S128x64 32 [1] iota_S128x64_d1_w32) (broadcast S128x64 64#32) (ix2 b n)
        = if (d : S128x64.Idx → EReal) (ix2 b n) = mins (ix1 b) then BitVec.ofNat 32 n.val else 64#32 := by
    intro n
    have hb : broadcastTo S128x64 (shapeCast S128x1 mins shapeCasts_S128_S128x1) broadcasts_S128x1_S128x64 (ix2 b n) = mins (ix1 b) :=
      (col_at _ broadcasts_S128x1_S128x64 b n).trans (column_at mins _ b)
    show (if (FloatOps.cmpf (F := Ideal) (φ := .f32) .oeq (d (ix2 b n)) (broadcastTo S128x64 (shapeCast S128x1 mins shapeCasts_S128_S128x1) broadcasts_S128x1_S128x64 (ix2 b n))) = 1#1
      then _ else _) = _
    rw [hb]
    have hi : iota .tc S128x64 32 [1] iota_S128x64_d1_w32 (ix2 b n) = BitVec.ofNat 32 n.val := by
      simp [iota_apply]
    rw [hi]
    by_cases hc : (d : S128x64.Idx → EReal) (ix2 b n) = mins (ix1 b)
    · rw [if_pos hc, if_pos]
      simp [Ideal.cmpf_def, Ideal.cmp, hc]
    · rw [if_neg hc, if_neg]
      · rfl
      · simp [Ideal.cmpf_def, Ideal.cmp, hc]
  obtain ⟨i1, i2⟩ := leastI_at (select (cmpf (F := Ideal) (φ := .f32) .oeq d (broadcastTo S128x64 (shapeCast S128x1 mins shapeCasts_S128_S128x1) broadcasts_S128x1_S128x64))
      (iota .tc S128x64 32 [1] iota_S128x64_d1_w32) (broadcast S128x64 64#32)) b
  simp only [hsel] at i1 i2
  generalize multiReductionI .minsi [1] S128 _ 2147483647#32 reduces_S128x64_S128 rfl (ix1 b) = res at i1 i2 ⊢
  obtain ⟨k0, hk0⟩ : ∃ n : Fin 64, (d : S128x64.Idx → EReal) (ix2 b n) = mins (ix1 b) := by
    rcases h1 with h | ⟨n, h⟩
    · exact ⟨0, le_antisymm (by rw [h]; exact le_top) (h2 0)⟩
    · exact ⟨n, h.symm⟩
  have hle : res.toInt ≤ k0.val := by
    have := i2 k0
    rwa [if_pos hk0, Net.toInt_ofNat] at this
  have hk : k0.val < 64 := k0.isLt
  obtain ⟨n, hn, rfl⟩ : ∃ n : Fin 64, (d : S128x64.Idx → EReal) (ix2 b n) = mins (ix1 b) ∧ res = BitVec.ofNat 32 n.val := by
    rcases i1 with h | ⟨n, h⟩
    · rw [h] at hle
      have : (2147483647#32 : BitVec 32).toInt = 2147483647 := by decide
      omega
    · by_cases hc : (d : S128x64.Idx → EReal) (ix2 b n) = mins (ix1 b)
      · exact ⟨n, hc, by rw [h, if_pos hc]⟩
      · rw [h, if_neg hc] at hle
        have : (64#32 : BitVec 32).toInt = 64 := by decide
        omega
  refine Net.near_of_before (fun n => (d : S128x64.Idx → EReal) (ix2 b n)) (mins (ix1 b), BitVec.ofNat 32 n.val) (fun k => ?_) (.inr ⟨n, by rw [hn]⟩)
  rcases lt_or_eq_of_le (h2 k) with h | h
  · exact .inl h
  · refine .inr ⟨h, ?_⟩
    have := i2 k
    rw [if_pos h.symm] at this
    exact this

/-! ## The entry there -/

/-- The dictionary's entry of a row's number, as the kernel looks it up. -/
def look (i : IVec S128x1 32) (e : Vec Ideal S64x4 .f32) : FVec Ideal S128x4 .f32 :=
  matmul (φ₁ := .f32) (φ₂ := .f32) dot_S128x64_S64x4_S128x4_1_0_0_1_n_n none
    (sitofp (F := Ideal) .f32 (extui 32 (cmpi .eq (iota .tc S128x64 32 [1] iota_S128x64_d1_w32) (broadcastTo S128x64 i broadcasts_S128x1_S128x64)) natLt_1_32))
    (e : FVec Ideal S64x4 .f32) (constant S128x4 .f32 0x00000000#32)

theorem look_at (i : IVec S128x1 32) (e : Vec Ideal S64x4 .f32) (b : Fin 128) (k : Fin 64) (hi : i (ix2 b 0) = BitVec.ofNat 32 k.val) (c : Fin 4) :
    (look i e : S128x4.Idx → EReal) (ix2 b c) = (e : S64x4.Idx → EReal) (ix2 k c) := by
  unfold look
  refine (dot_at _ rfl _ (e : FVec Ideal S64x4 .f32) b c).trans ?_
  have h : ∀ n : Fin 64, (sitofp (F := Ideal) .f32 (extui 32 (cmpi .eq (iota .tc S128x64 32 [1] iota_S128x64_d1_w32) (broadcastTo S128x64 i broadcasts_S128x1_S128x64)) natLt_1_32)
      : S128x64.Idx → EReal) (ix2 b n) = if n = k then 1 else 0 := by
    intro n
    have hb : broadcastTo S128x64 i broadcasts_S128x1_S128x64 (ix2 b n) = BitVec.ofNat 32 k.val := (col_at i broadcasts_S128x1_S128x64 b n).trans hi
    have hio : iota .tc S128x64 32 [1] iota_S128x64_d1_w32 (ix2 b n) = BitVec.ofNat 32 n.val := by
      simp [iota_apply]
    show (((BitVec.setWidth 32 (IntOp.cmpi .eq (iota .tc S128x64 32 [1] iota_S128x64_d1_w32 (ix2 b n)) (broadcastTo S128x64 i broadcasts_S128x1_S128x64 (ix2 b n)))).toInt : ℝ) : EReal) = _
    rw [hb, hio]
    by_cases hn : n = k
    · subst hn
      simp [IntOp.cmpi]
    · have hne : BitVec.ofNat 32 n.val ≠ BitVec.ofNat 32 k.val := fun he => hn (by
        have := congrArg BitVec.toInt he
        rw [Net.toInt_ofNat, Net.toInt_ofNat] at this
        exact Fin.ext (by exact_mod_cast this))
      have hf : (BitVec.ofNat 32 n.val == BitVec.ofNat 32 k.val) = false := beq_eq_false_iff_ne.mpr hne
      simp [IntOp.cmpi, hn, hf]
  simp only [h]
  rw [Finset.sum_eq_single k]
  · rw [if_pos rfl, one_mul]
  · intro n _ hn
    rw [if_neg hn, zero_mul]
  · intro hn
    exact absurd (Finset.mem_univ k) hn

/-! ## The distances -/

/-- One column of the four of a position, beside 64 columns. -/
def spread (z : FVec Ideal S128x16 .f32) (o c : Nat) (ho : S128x16.Slices ![0, o] S128x4) (hc : S128x4.Slices ![0, c] S128x1) : FVec Ideal S128x64 .f32 :=
  broadcastTo S128x64 (shapeCast S128x1 (extractStridedSlice S128x1 ![0, c] (extractStridedSlice S128x4 ![0, o] z ho) hc) shapeCasts_S128x1_S128x1) broadcasts_S128x1_S128x64

/-- The squared differences of a position's values from the dictionary, four times 64 columns. -/
def squares (z : FVec Ideal S128x16 .f32) (df : FVec Ideal S1x256 .f32) (o : Nat) (ho : S128x16.Slices ![0, o] S128x4) : FVec Ideal S128x256 .f32 :=
  let x := subf (F := Ideal) (φ := .f32) (concatenate S128x256 1 [⟨S128x64, spread z o 0 ho slices_S128x4_o0_0_S128x1⟩, ⟨S128x64, spread z o 1 ho slices_S128x4_o0_1_S128x1⟩,
    ⟨S128x64, spread z o 2 ho slices_S128x4_o0_2_S128x1⟩, ⟨S128x64, spread z o 3 ho slices_S128x4_o0_3_S128x1⟩] concatenates_S128x64_S128x64_S128x64_S128x64_S128x256_d1)
    (broadcastTo S128x256 df broadcasts_S1x256_S128x256)
  mulf x x

/-- The distances: the square root of the four squares' sum. -/
def dists (s : FVec Ideal S128x256 .f32) : FVec Ideal S128x64 .f32 :=
  sqrt (F := Ideal) (φ := .f32) (addf (addf (addf (extractStridedSlice S128x64 ![0, 0] s slices_S128x256_o0_0_S128x64) (extractStridedSlice S128x64 ![0, 64] s slices_S128x256_o0_64_S128x64))
    (extractStridedSlice S128x64 ![0, 128] s slices_S128x256_o0_128_S128x64)) (extractStridedSlice S128x64 ![0, 192] s slices_S128x256_o0_192_S128x64))

theorem spread_at (z : FVec Ideal S128x16 .f32) (o : Nat) (c : Fin 4) (ho : S128x16.Slices ![0, o] S128x4) (hc : S128x4.Slices ![0, c.val] S128x1)
    (b : Fin 128) (n : Fin 64) (k : Fin 16) (hk : k.val = o + c.val) :
    (spread z o c.val ho hc : S128x64.Idx → EReal) (ix2 b n) = (z : S128x16.Idx → EReal) (ix2 b k) := by
  unfold spread
  rw [shapeCast_self]
  exact (col_at _ broadcasts_S128x1_S128x64 b n).trans ((cut_at _ _ hc b 0 c rfl).trans (cut_at _ z ho b c k hk))

theorem dists_at (z : FVec Ideal S128x16 .f32) (df : FVec Ideal S1x256 .f32) (P : Net.Params)
    (flat : ∀ (c : Fin 4) (n : Fin 64) (l : Fin 256), l.val = c.val * 64 + n.val → (df : S1x256.Idx → EReal) (ix2 0 l) = P.dict n c)
    (o : Nat) (ho : S128x16.Slices ![0, o] S128x4) (b : Fin 128) (x : Fin 4 → EReal)
    (hx : ∀ (c : Fin 4) (k : Fin 16), k.val = o + c.val → (z : S128x16.Idx → EReal) (ix2 b k) = x c) (n : Fin 64) :
    (dists (squares z df o ho) : S128x64.Idx → EReal) (ix2 b n) = Net.dist P x n := by
  have hko : ∀ c : Fin 4, o + c.val < 16 := fun c => by
    have := ho.2 ⟨1, by decide⟩
    have h16 : o + 4 ≤ 16 := this
    omega
  have sq : ∀ (c : Fin 4) (l : Fin 256), l.val = c.val * 64 + n.val → (squares z df o ho : S128x256.Idx → EReal) (ix2 b l) = (x c - P.dict n c) * (x c - P.dict n c) := by
    intro c l hl
    have h1 : concatenate S128x256 1 [⟨S128x64, spread z o 0 ho slices_S128x4_o0_0_S128x1⟩, ⟨S128x64, spread z o 1 ho slices_S128x4_o0_1_S128x1⟩,
        ⟨S128x64, spread z o 2 ho slices_S128x4_o0_2_S128x1⟩, ⟨S128x64, spread z o 3 ho slices_S128x4_o0_3_S128x1⟩] concatenates_S128x64_S128x64_S128x64_S128x64_S128x256_d1 (ix2 b l) = x c := by
      refine (beside_at (N := 4) (K := 64) ![_, _, _, _] concatenates_S128x64_S128x64_S128x64_S128x64_S128x256_d1 b c n l hl).trans ?_
      match c with
      | ⟨0, _⟩ => exact (spread_at z o 0 ho slices_S128x4_o0_0_S128x1 b n ⟨_, hko 0⟩ rfl).trans (hx 0 _ rfl)
      | ⟨1, _⟩ => exact (spread_at z o 1 ho slices_S128x4_o0_1_S128x1 b n ⟨_, hko 1⟩ rfl).trans (hx 1 _ rfl)
      | ⟨2, _⟩ => exact (spread_at z o 2 ho slices_S128x4_o0_2_S128x1 b n ⟨_, hko 2⟩ rfl).trans (hx 2 _ rfl)
      | ⟨3, _⟩ => exact (spread_at z o 3 ho slices_S128x4_o0_3_S128x1 b n ⟨_, hko 3⟩ rfl).trans (hx 3 _ rfl)
    have h2 : broadcastTo S128x256 df broadcasts_S1x256_S128x256 (ix2 b l) = P.dict n c := (row_at df _ b l).trans (flat c n l hl)
    have h3 := congrArg₂ (fun p q : EReal => p - q) h1 h2
    exact congrArg₂ (fun p q : EReal => p * q) h3 h3
  unfold dists Net.dist
  generalize (squares z df o ho : FVec Ideal S128x256 .f32) = s at *
  rw [Fin.sum_univ_four]
  refine congrArg Ideal.sqrt (congrArg₂ (· + ·) (congrArg₂ (· + ·) (congrArg₂ (· + ·) ?_ ?_) ?_) ?_)
  · exact (cut_at 0 s slices_S128x256_o0_0_S128x64 b n ⟨n.val, by omega⟩ (by show n.val = 0 + n.val; omega)).trans (sq 0 _ (by show n.val = 0 * 64 + n.val; omega))
  · exact (cut_at 64 s slices_S128x256_o0_64_S128x64 b n ⟨64 + n.val, by omega⟩ rfl).trans (sq 1 _ (by show 64 + n.val = 1 * 64 + n.val; omega))
  · exact (cut_at 128 s slices_S128x256_o0_128_S128x64 b n ⟨128 + n.val, by omega⟩ rfl).trans (sq 2 _ (by show 128 + n.val = 2 * 64 + n.val; omega))
  · exact (cut_at 192 s slices_S128x256_o0_192_S128x64 b n ⟨192 + n.val, by omega⟩ rfl).trans (sq 3 _ (by show 192 + n.val = 3 * 64 + n.val; omega))

end Cert.Blk

end
-- ==== Proof.BlkOut.lean ====
/-
  The kernel's outputs for a block of 128 images: the entries' numbers, the entries, what the decoder gives of them, and the
  two sums of squares, read as the network.
-/
module

public import proofs.«01_k».proof.Proof.BlkEnc
public import proofs.«01_k».proof.Proof.BlkVq

@[expose] public section

set_option maxRecDepth 16384

noncomputable section

namespace Cert.Blk

open Cert.KernelIdeal Cert.KernelIdeal.Gen Idealize.ShloMosaic Cert.Conv

/-! ## The entries -/

/-- The numbers of the nearest entries at the position whose columns start at `o`. -/
def numbers (z : FVec Ideal S128x16 .f32) (df : FVec Ideal S1x256 .f32) (o : Nat) (ho : S128x16.Slices ![0, o] S128x4) : IVec S128x1 32 :=
  first (dists (squares z df o ho))

/-- The numbers of the nearest entries at the four positions. -/
def index (z : FVec Ideal S128x16 .f32) (df : FVec Ideal S1x256 .f32) : IVec S128x4 32 :=
  concatenate S128x4 1 [⟨S128x1, numbers z df 0 slices_S128x16_o0_0_S128x4⟩, ⟨S128x1, numbers z df 4 slices_S128x16_o0_4_S128x4⟩,
    ⟨S128x1, numbers z df 8 slices_S128x16_o0_8_S128x4⟩, ⟨S128x1, numbers z df 12 slices_S128x16_o0_12_S128x4⟩] concatenates_S128x1_S128x1_S128x1_S128x1_S128x4_d1

/-- The nearest entries at the four positions. -/
def entries (z : FVec Ideal S128x16 .f32) (df : FVec Ideal S1x256 .f32) (e : Vec Ideal S64x4 .f32) : FVec Ideal S128x16 .f32 :=
  concatenate S128x16 1 [⟨S128x4, look (numbers z df 0 slices_S128x16_o0_0_S128x4) e⟩, ⟨S128x4, look (numbers z df 4 slices_S128x16_o0_4_S128x4) e⟩,
    ⟨S128x4, look (numbers z df 8 slices_S128x16_o0_8_S128x4) e⟩, ⟨S128x4, look (numbers z df 12 slices_S128x16_o0_12_S128x4) e⟩]
    concatenates_S128x4_S128x4_S128x4_S128x4_S128x16_d1

/-! ## Sums of squares -/

/-- The sum of all of a block, as the kernel takes it. -/
theorem total_at {L : Nat} (d : FVec Ideal (M 128 L) .f32) (h1 : (M 128 L).Reduces [1] S128) (h2 : S128.ShapeCasts S128x1) (h3 : S128x1.Reduces [0] S1)
    (h4 : S1.ShapeCasts S1x1) :
    shapeCast S1x1 (multiReduction (F := Ideal) (φ := .f32) .add [0] S1 (shapeCast S128x1 (multiReduction (F := Ideal) (φ := .f32) .add [1] S128 d 0x00000000#32 h1 (.inl rfl) rfl) h2)
      0x00000000#32 h3 (.inl rfl) rfl) h4 (ix2 0 0) = ∑ b : Fin 128, ∑ l : Fin L, (d : (M 128 L).Idx → EReal) (ix2 b l) := by
  refine (column_at _ h4 0).trans ((colSum_at _ h3 (.inl rfl) rfl).trans (Finset.sum_congr rfl fun b _ => ?_))
  exact (column_at _ h2 b).trans (rowSum_at d h1 (.inl rfl) rfl b)

/-- The two rows of sums, and six rows of zeros. -/
def sums (s s' : FVec Ideal S1x1 .f32) : FVec Ideal S8x128 .f32 :=
  concatenate S8x128 0 [⟨S1x128, broadcastTo S1x128 (shapeCast S1x1 s shapeCasts_S1x1_S1x1) broadcasts_S1x1_S1x128⟩,
    ⟨S1x128, broadcastTo S1x128 (shapeCast S1x1 s' shapeCasts_S1x1_S1x1) broadcasts_S1x1_S1x128⟩,
    ⟨S6x128, broadcast S6x128 (Scalar.ofBits (F := Ideal) .f32 0x00000000#32)⟩] concatenates_S1x128_S1x128_S6x128_S8x128_d0

theorem sums_at (s s' : FVec Ideal S1x1 .f32) (l : Fin 128) :
    (sums s s' : S8x128.Idx → EReal) (ix2 0 l) = (s : S1x1.Idx → EReal) (ix2 0 0) ∧ (sums s s' : S8x128.Idx → EReal) (ix2 1 l) = (s' : S1x1.Idx → EReal) (ix2 0 0) := by
  unfold sums
  rw [shapeCast_self, shapeCast_self]
  let xs : List ((s : Shape) × (s.Idx → EReal)) := [⟨S1x128, broadcastTo S1x128 s broadcasts_S1x1_S1x128⟩, ⟨S1x128, broadcastTo S1x128 s' broadcasts_S1x1_S1x128⟩,
    ⟨S6x128, broadcast S6x128 (Scalar.ofBits (F := Ideal) .f32 0x00000000#32)⟩]
  have hi : ∀ (j : S8x128.Idx) (_ : (j 1).val = l.val) (b : Fin S1x128.rank), b.cast (rfl : S1x128.rank = S8x128.rank) ≠ (0 : Fin S8x128.rank) →
      ((ix2 0 l : S1x128.Idx) b).val = (j (b.cast rfl)).val := fun j hj b hb => by
    match b with
    | ⟨0, _⟩ => exact absurd rfl hb
    | ⟨1, _⟩ => exact hj.symm
  exact ⟨Eq.trans (α := EReal) (concatenate_apply_piece (t := S8x128) 0 xs concatenates_S1x128_S1x128_S6x128_S8x128_d0 (ix2 0 l) 0 (by show 0 < 3; omega) S1x128 _ rfl rfl 0 rfl
      (ix2 0 l) (hi _ rfl) rfl) (col_at s _ 0 l),
    Eq.trans (α := EReal) (concatenate_apply_piece (t := S8x128) 0 xs concatenates_S1x128_S1x128_S6x128_S8x128_d0 (ix2 1 l) 1 (by show 1 < 3; omega) S1x128 _ rfl rfl 1 rfl
      (ix2 0 l) (hi _ rfl) rfl) (col_at s' _ 0 l)⟩

section
variable {P : Net.Params} {X : Fin 128 → Fin 28 → Fin 28 → Fin 1 → EReal}
  {x0 : Vec Ideal S128x784 .f32} {x1 : Vec Ideal S784x3136 .bf16} {x2 : Vec Ideal S1x3136 .f32} {x3 : Vec Ideal S3136x1568 .bf16}
  {x4 : Vec Ideal S1x1568 .f32} {x5 : Vec Ideal S1568x1024 .bf16} {x6 : Vec Ideal S1x1024 .f32} {x7 : Vec Ideal S1600x4 .bf16}
  {x8 : Vec Ideal S1x4 .f32} {x9 : Vec Ideal S16x1152 .bf16} {x10 : Vec Ideal S1x1152 .f32} {x11 : Vec Ideal S1152x1600 .bf16}
  {x12 : Vec Ideal S1x1600 .f32} {x13 : Vec Ideal S1600x5408 .bf16} {x14 : Vec Ideal S1x5408 .f32} {x15 : Vec Ideal S5408x784 .bf16}
  {x16 : Vec Ideal S1x784 .f32} {x17 : Vec Ideal S1x256 .f32} {x18 : Vec Ideal S64x4 .f32}

theorem numbers_at (R : Reads P X x0 x1 x2 x3 x4 x5 x6 x7 x8 x9 x10 x11 x12 x13 x14 x15 x16 x17 x18) (b : Fin 128) (r t : Fin 2) (o : Nat)
    (ho : S128x16.Slices ![0, o] S128x4) (h : o = (r.val * 2 + t.val) * 4) :
    numbers (zBlk x0 x1 x2 x3 x4 x5 x6 x7 x8) x17 o ho (ix2 b 0) = BitVec.ofNat 32 (Net.ind P (X b) r t).val := by
  unfold numbers Net.ind
  refine (first_at _ b).trans ?_
  have e := fun n => dists_at (zBlk x0 x1 x2 x3 x4 x5 x6 x7 x8) x17 P R.flat o ho b (Net.z P (X b) r t) (fun c k hk => z_at R b r t c k (by rw [hk, h])) n
  rw [funext e]

/-- The numbers of a block's nearest entries. -/
theorem index_at (R : Reads P X x0 x1 x2 x3 x4 x5 x6 x7 x8 x9 x10 x11 x12 x13 x14 x15 x16 x17 x18) (b : Fin 128) (r t : Fin 2) (p : Fin 4) (hp : p.val = r.val * 2 + t.val) :
    index (zBlk x0 x1 x2 x3 x4 x5 x6 x7 x8) x17 (ix2 b p) = BitVec.ofNat 32 (Net.ind P (X b) r t).val := by
  have n := fun r t => numbers_at R b r t
  generalize zBlk x0 x1 x2 x3 x4 x5 x6 x7 x8 = z at *
  unfold index
  refine (beside_at (N := 4) (K := 1) ![_, _, _, _] concatenates_S128x1_S128x1_S128x1_S128x1_S128x4_d1 b ⟨r.val * 2 + t.val, by omega⟩ 0 p (by
    show p.val = (r.val * 2 + t.val) * 1 + 0
    omega)).trans ?_
  match r, t with
  | ⟨0, _⟩, ⟨0, _⟩ => exact n 0 0 0 _ rfl
  | ⟨0, _⟩, ⟨1, _⟩ => exact n 0 1 4 _ rfl
  | ⟨1, _⟩, ⟨0, _⟩ => exact n 1 0 8 _ rfl
  | ⟨1, _⟩, ⟨1, _⟩ => exact n 1 1 12 _ rfl

/-- A block's nearest entries. -/
theorem entries_at (R : Reads P X x0 x1 x2 x3 x4 x5 x6 x7 x8 x9 x10 x11 x12 x13 x14 x15 x16 x17 x18) (b : Fin 128) (r t : Fin 2) (c : Fin 4) (k : Fin 16)
    (hk : k.val = (r.val * 2 + t.val) * 4 + c.val) :
    (entries (zBlk x0 x1 x2 x3 x4 x5 x6 x7 x8) x17 x18 : S128x16.Idx → EReal) (ix2 b k) = Net.val P (X b) r t c := by
  have n := fun r t o ho h => (look_at (numbers (zBlk x0 x1 x2 x3 x4 x5 x6 x7 x8) x17 o ho) x18 b (Net.ind P (X b) r t) (numbers_at R b r t o ho h) c).trans (R.dict _ c)
  generalize zBlk x0 x1 x2 x3 x4 x5 x6 x7 x8 = z at *
  unfold entries
  refine (beside_at (N := 4) (K := 4) ![_, _, _, _] concatenates_S128x4_S128x4_S128x4_S128x4_S128x16_d1 b ⟨r.val * 2 + t.val, by omega⟩ c k hk).trans ?_
  match r, t with
  | ⟨0, _⟩, ⟨0, _⟩ => exact n 0 0 0 _ rfl
  | ⟨0, _⟩, ⟨1, _⟩ => exact n 0 1 4 _ rfl
  | ⟨1, _⟩, ⟨0, _⟩ => exact n 1 0 8 _ rfl
  | ⟨1, _⟩, ⟨1, _⟩ => exact n 1 1 12 _ rfl

variable (x0 x1 x2 x3 x4 x5 x6 x7 x8 x17 x18) in
/-- The sum of the squared differences of a block's entries from what the encoder leaves. -/
def entrySum : FVec Ideal S1x1 .f32 :=
  let z := zBlk x0 x1 x2 x3 x4 x5 x6 x7 x8
  let d := subf (F := Ideal) (φ := .f32) (entries z x17 x18) z
  shapeCast S1x1 (multiReduction (F := Ideal) (φ := .f32) .add [0] S1 (shapeCast S128x1 (multiReduction (F := Ideal) (φ := .f32) .add [1] S128 (mulf d d) 0x00000000#32
    reduces_S128x16_S128 (.inl rfl) rfl) shapeCasts_S128_S128x1) 0x00000000#32 reduces_S128x1_S1 (.inl rfl) rfl) shapeCasts_S1_S1x1

theorem entrySum_at (R : Reads P X x0 x1 x2 x3 x4 x5 x6 x7 x8 x9 x10 x11 x12 x13 x14 x15 x16 x17 x18) :
    (entrySum x0 x1 x2 x3 x4 x5 x6 x7 x8 x17 x18 : S1x1.Idx → EReal) (ix2 0 0) = ∑ b, Net.dictLoss P (X b) := by
  unfold entrySum Net.dictLoss
  refine (total_at (L := 16) _ _ _ _ _).trans (Finset.sum_congr rfl fun b _ => ?_)
  refine (sum_chw (C := 2) (H := 2) (W := 4) rfl _ (fun r t c => by omega)).trans
    (Finset.sum_congr rfl fun r _ => Finset.sum_congr rfl fun t _ => Finset.sum_congr rfl fun c _ => ?_)
  have h := congrArg₂ (fun p q : EReal => p - q) (entries_at R b r t c ⟨_, by omega⟩ rfl) (z_at R b r t c ⟨(r.val * 2 + t.val) * 4 + c.val, by omega⟩ rfl)
  exact congrArg₂ (fun p q : EReal => p * q) h h

variable (x0 x1 x2 x3 x4 x5 x6 x7 x8 x9 x10 x11 x12 x13 x14 x15 x16 x17 x18) in
/-- What the decoder gives for a block. -/
def image : FVec Ideal S128x784 .f32 :=
  addf (F := Ideal) (φ := .f32) (k0_pay29 (entries (zBlk x0 x1 x2 x3 x4 x5 x6 x7 x8) x17 x18) x9 x10 x11 x12 x13 x14 x15) (k0_pay30 x16)

set_option maxHeartbeats 2000000 in
theorem image_at (R : Reads P X x0 x1 x2 x3 x4 x5 x6 x7 x8 x9 x10 x11 x12 x13 x14 x15 x16 x17 x18) (b : Fin 128) (h v : Fin 28) (l : Fin 784) (hl : l.val = h.val * 28 + v.val) :
    (image x0 x1 x2 x3 x4 x5 x6 x7 x8 x9 x10 x11 x12 x13 x14 x15 x16 x17 x18 : S128x784.Idx → EReal) (ix2 b l) = Net.f P (X b) h v 0 := by
  have he := entries_at R b
  unfold image
  generalize (entries (zBlk x0 x1 x2 x3 x4 x5 x6 x7 x8) x17 x18) = e at *
  unfold k0_pay29 k0_pay30
  dsimp only
  have hl' : l.val = ((0 : Fin 1).val * 28 + h.val) * 28 + v.val := by rw [hl]; show _ = (0 * 28 + h.val) * 28 + v.val; omega
  refine (lin_at _ rfl _ _ _ _ _ _ b l).trans ?_
  refine through (C := 32) (H := 13) rfl (Net.v3 P (X b)) P.u4 P.c4 h v 0 _ _ _ (fun c3 h3 v3 k3 hk3 => ?_) (fun c3 h3 v3 k3 hk3 => R.t4 0 c3 h3 v3 h v k3 l hk3 hl')
    (R.c4 0 l l (by show l.val = 0 * 784 + l.val; omega))
  refine (relu_at _ rfl _ _ _ _ _ _ _ b k3).trans ?_
  refine congrArg (max · 0) (through (C := 64) (H := 5) rfl (Net.v2 P (X b)) P.u3 P.c3 h3 v3 c3 _ _ _ (fun c2 h2 v2 k2 hk2 => ?_)
    (fun c2 h2 v2 k2 hk2 => R.t3 c3 c2 h2 v2 h3 v3 k2 k3 hk2 hk3)
    (R.c3 c3 ⟨h3.val * 13 + v3.val, by omega⟩ k3 (by show k3.val = c3.val * 169 + (h3.val * 13 + v3.val); omega)))
  refine (relu_at _ rfl _ _ _ _ _ _ _ b k2).trans ?_
  refine congrArg (max · 0) (through (C := 128) (H := 3) rfl (Net.v1 P (X b)) P.u2 P.c2 h2 v2 c2 _ _ _ (fun c1 h1 v1 k1 hk1 => ?_)
    (fun c1 h1 v1 k1 hk1 => R.t2 c2 c1 h1 v1 h2 v2 k1 k2 hk1 hk2)
    (R.c2 c2 ⟨h2.val * 5 + v2.val, by omega⟩ k2 (by show k2.val = c2.val * 25 + (h2.val * 5 + v2.val); omega)))
  refine (relu_at _ rfl _ _ _ _ _ _ _ b k1).trans ?_
  exact congrArg (max · 0) (through_last (C := 4) (H := 2) rfl (Net.val P (X b)) P.u1 P.c1 h1 v1 c1 _ _ _ (fun c0 h0 v0 k0 hk0 => he h0 v0 c0 k0 hk0)
    (fun c0 h0 v0 k0 hk0 => R.t1 c1 c0 h0 v0 h1 v1 k0 k1 hk0 hk1)
    (R.c1 c1 ⟨h1.val * 3 + v1.val, by omega⟩ k1 (by show k1.val = c1.val * 9 + (h1.val * 3 + v1.val); omega)))

variable (x0 x1 x2 x3 x4 x5 x6 x7 x8 x9 x10 x11 x12 x13 x14 x15 x16 x17 x18) in
/-- The sum of the squared differences of a block's images from what the decoder gives. -/
def imageSum : FVec Ideal S1x1 .f32 :=
  let d := subf (F := Ideal) (φ := .f32) (image x0 x1 x2 x3 x4 x5 x6 x7 x8 x9 x10 x11 x12 x13 x14 x15 x16 x17 x18) (k0_pay3 x0)
  shapeCast S1x1 (multiReduction (F := Ideal) (φ := .f32) .add [0] S1 (shapeCast S128x1 (multiReduction (F := Ideal) (φ := .f32) .add [1] S128 (mulf d d) 0x00000000#32
    reduces_S128x784_S128 (.inl rfl) rfl) shapeCasts_S128_S128x1) 0x00000000#32 reduces_S128x1_S1 (.inl rfl) rfl) shapeCasts_S1_S1x1

theorem imageSum_at (R : Reads P X x0 x1 x2 x3 x4 x5 x6 x7 x8 x9 x10 x11 x12 x13 x14 x15 x16 x17 x18) :
    (imageSum x0 x1 x2 x3 x4 x5 x6 x7 x8 x9 x10 x11 x12 x13 x14 x15 x16 x17 x18 : S1x1.Idx → EReal) (ix2 0 0) = ∑ b, Net.recLoss P (X b) := by
  have hf := image_at R
  unfold imageSum Net.recLoss
  generalize image x0 x1 x2 x3 x4 x5 x6 x7 x8 x9 x10 x11 x12 x13 x14 x15 x16 x17 x18 = y at *
  refine (total_at (L := 784) _ _ _ _ _).trans (Finset.sum_congr rfl fun b _ => ?_)
  have hlt : ∀ (c : Fin 1) (h v : Fin 28), (c.val * 28 + h.val) * 28 + v.val < 784 := fun c h v => by omega
  refine (sum_chw (C := 1) (H := 28) (W := 28) rfl _ hlt).trans ((Fin.sum_univ_one _).trans
    (Finset.sum_congr rfl fun h _ => Finset.sum_congr rfl fun v _ => ?_))
  have hk : (0 * 28 + h.val) * 28 + v.val = h.val * 28 + v.val := by omega
  have hx : (k0_pay3 x0 : S128x784.Idx → EReal) (ix2 b ⟨_, hlt 0 h v⟩) = X b h v 0 := by
    unfold k0_pay3
    rw [shapeCast_self]
    exact R.img b h v _ hk
  have e := congrArg₂ (fun p q : EReal => p - q) (hf b h v ⟨_, hlt 0 h v⟩ hk) hx
  exact congrArg₂ (fun p q : EReal => p * q) e e

variable (x0 x1 x2 x3 x4 x5 x6 x7 x8 x9 x10 x11 x12 x13 x14 x15 x16 x17 x18) in
/-- The sums after a block, from those before it. -/
def tally (s : Vec Ideal S8x128 .f32) : FVec Ideal S8x128 .f32 :=
  addf (F := Ideal) (φ := .f32) (shapeCast S8x128 s shapeCasts_S8x128_S8x128)
    (sums (imageSum x0 x1 x2 x3 x4 x5 x6 x7 x8 x9 x10 x11 x12 x13 x14 x15 x16 x17 x18) (entrySum x0 x1 x2 x3 x4 x5 x6 x7 x8 x17 x18))

theorem tally_at (R : Reads P X x0 x1 x2 x3 x4 x5 x6 x7 x8 x9 x10 x11 x12 x13 x14 x15 x16 x17 x18) (s : Vec Ideal S8x128 .f32) (l : Fin 128) :
    (tally x0 x1 x2 x3 x4 x5 x6 x7 x8 x9 x10 x11 x12 x13 x14 x15 x16 x17 x18 s : S8x128.Idx → EReal) (ix2 0 l)
        = (s : S8x128.Idx → EReal) (ix2 0 l) + ∑ b, Net.recLoss P (X b)
      ∧ (tally x0 x1 x2 x3 x4 x5 x6 x7 x8 x9 x10 x11 x12 x13 x14 x15 x16 x17 x18 s : S8x128.Idx → EReal) (ix2 1 l)
        = (s : S8x128.Idx → EReal) (ix2 1 l) + ∑ b, Net.dictLoss P (X b) := by
  unfold tally
  rw [shapeCast_self]
  have hs := sums_at (imageSum x0 x1 x2 x3 x4 x5 x6 x7 x8 x9 x10 x11 x12 x13 x14 x15 x16 x17 x18) (entrySum x0 x1 x2 x3 x4 x5 x6 x7 x8 x17 x18) l
  exact ⟨congrArg (fun q : EReal => (s : S8x128.Idx → EReal) (ix2 0 l) + q) (hs.1.trans (imageSum_at R)),
    congrArg (fun q : EReal => (s : S8x128.Idx → EReal) (ix2 1 l) + q) (hs.2.trans (entrySum_at R))⟩

end

end Cert.Blk

end
-- ==== Proof.KerPay.lean ====
/-
  The values the kernel's body stores, as the functions of a block.
-/
module

public import proofs.«01_k».proof.Proof.BlkOut

@[expose] public section

set_option maxRecDepth 16384
set_option maxHeartbeats 400000

noncomputable section

namespace Cert.KerRun

open Cert.KernelIdeal Cert.KernelIdeal.Gen Idealize.ShloMosaic Cert.Blk

/-! ## The stored values, as the block's functions -/

section
variable (z : FVec Ideal S128x16 .f32) (df : FVec Ideal S1x256 .f32) (e : Vec Ideal S64x4 .f32)

theorem first_row (x : Vec Ideal S1x256 .f32) : k0_pay15 (F := Ideal) x = x := shapeCast_self _ _
theorem number8 : k0_pay23 z df = numbers z df 8 slices_S128x16_o0_8_S128x4 := rfl
theorem number12 : k0_pay25 z df = numbers z df 12 slices_S128x16_o0_12_S128x4 := rfl
theorem number4 : k0_pay21 (iota .tc S128x64 32 [1] iota_S128x64_d1_w32) (k0_pay20 z df) 64#32 = numbers z df 4 slices_S128x16_o0_4_S128x4 := rfl
theorem number0 : k0_pay18 (squares z df 0 slices_S128x16_o0_0_S128x4) (extractStridedSlice S128x64 ![0, 0] (squares z df 0 slices_S128x16_o0_0_S128x4) slices_S128x256_o0_0_S128x64)
    = numbers z df 0 slices_S128x16_o0_0_S128x4 := rfl
theorem entry8 : k0_pay24 z df e = look (k0_pay23 z df) e := rfl
theorem entry4 : k0_pay22 (iota .tc S128x64 32 [1] iota_S128x64_d1_w32) (k0_pay20 z df) 64#32 e
    = look (k0_pay21 (iota .tc S128x64 32 [1] iota_S128x64_d1_w32) (k0_pay20 z df) 64#32) e := rfl
theorem entry0 (s : FVec Ideal S128x256 .f32) (d : FVec Ideal S128x64 .f32) : k0_pay19 s d e = look (k0_pay18 s d) e := rfl
theorem index_eq : k0_pay27 z df (numbers z df 0 slices_S128x16_o0_0_S128x4) (numbers z df 4 slices_S128x16_o0_4_S128x4) (numbers z df 8 slices_S128x16_o0_8_S128x4)
    = index z df := rfl
theorem entries_eq : k0_pay26 z df (look (numbers z df 0 slices_S128x16_o0_0_S128x4) e) (look (numbers z df 4 slices_S128x16_o0_4_S128x4) e) (look (numbers z df 8 slices_S128x16_o0_8_S128x4) e) e
    = entries z df e := rfl
end

section
variable (x0 : Vec Ideal S128x784 .f32) (x1 : Vec Ideal S784x3136 .bf16) (x2 : Vec Ideal S1x3136 .f32) (x3 : Vec Ideal S3136x1568 .bf16) (x4 : Vec Ideal S1x1568 .f32) (x5 : Vec Ideal S1568x1024 .bf16) (x6 : Vec Ideal S1x1024 .f32) (x7 : Vec Ideal S1600x4 .bf16) (x8 : Vec Ideal S1x4 .f32) (x9 : Vec Ideal S16x1152 .bf16) (x10 : Vec Ideal S1x1152 .f32) (x11 : Vec Ideal S1152x1600 .bf16) (x12 : Vec Ideal S1x1600 .f32) (x13 : Vec Ideal S1600x5408 .bf16) (x14 : Vec Ideal S1x5408 .f32) (x15 : Vec Ideal S5408x784 .bf16) (x16 : Vec Ideal S1x784 .f32) (x17 : Vec Ideal S1x256 .f32) (x18 : Vec Ideal S64x4 .f32)

theorem squares_eq : k0_pay16 (k0_pay4 x0 x1 x2 x3 x4 x5 x6) k0_pay5
    (k0_pay10 (k0_pay4 x0 x1 x2 x3 x4 x5 x6) k0_pay5 (k0_pay6 x0 x1 x2 x3 x4 x5 x6) (k0_pay7 x0 x1 x2 x3 x4 x5 x6) (k0_pay8 x0 x1 x2 x3 x4 x5 x6) (k0_pay9 x0 x1 x2 x3 x4 x5 x6) x7 x8)
    (k0_pay11 (k0_pay4 x0 x1 x2 x3 x4 x5 x6) k0_pay5 x7 x8) (k0_pay12 (k0_pay4 x0 x1 x2 x3 x4 x5 x6) k0_pay5) (k0_pay13 x7) x8 x7 x8 x17
    = squares (zBlk x0 x1 x2 x3 x4 x5 x6 x7 x8) x17 0 slices_S128x16_o0_0_S128x4 := by
  unfold zBlk k0_pay16 squares
  dsimp only
  generalize k0_pay14 (F := Ideal) _ _ _ _ _ _ _ _ _ = z
  rw [first_row]
  rfl

theorem cut_eq : k0_pay17 (k0_pay4 x0 x1 x2 x3 x4 x5 x6) k0_pay5
    (k0_pay10 (k0_pay4 x0 x1 x2 x3 x4 x5 x6) k0_pay5 (k0_pay6 x0 x1 x2 x3 x4 x5 x6) (k0_pay7 x0 x1 x2 x3 x4 x5 x6) (k0_pay8 x0 x1 x2 x3 x4 x5 x6) (k0_pay9 x0 x1 x2 x3 x4 x5 x6) x7 x8)
    (k0_pay11 (k0_pay4 x0 x1 x2 x3 x4 x5 x6) k0_pay5 x7 x8) (k0_pay12 (k0_pay4 x0 x1 x2 x3 x4 x5 x6) k0_pay5) (k0_pay13 x7) x8 x7 x8 x17
    = extractStridedSlice S128x64 ![0, 0] (squares (zBlk x0 x1 x2 x3 x4 x5 x6 x7 x8) x17 0 slices_S128x16_o0_0_S128x4) slices_S128x256_o0_0_S128x64 := by
  unfold k0_pay17
  dsimp only
  rw [squares_eq]

theorem code_eq : k0_pay14 (k0_pay4 x0 x1 x2 x3 x4 x5 x6) k0_pay5
    (k0_pay10 (k0_pay4 x0 x1 x2 x3 x4 x5 x6) k0_pay5 (k0_pay6 x0 x1 x2 x3 x4 x5 x6) (k0_pay7 x0 x1 x2 x3 x4 x5 x6) (k0_pay8 x0 x1 x2 x3 x4 x5 x6) (k0_pay9 x0 x1 x2 x3 x4 x5 x6) x7 x8)
    (k0_pay11 (k0_pay4 x0 x1 x2 x3 x4 x5 x6) k0_pay5 x7 x8) (k0_pay12 (k0_pay4 x0 x1 x2 x3 x4 x5 x6) k0_pay5) (k0_pay13 x7) x8 x7 x8
    = zBlk x0 x1 x2 x3 x4 x5 x6 x7 x8 := rfl

theorem entrySum_eq : k0_pay28 (zBlk x0 x1 x2 x3 x4 x5 x6 x7 x8) x17 (look (numbers (zBlk x0 x1 x2 x3 x4 x5 x6 x7 x8) x17 0 slices_S128x16_o0_0_S128x4) x18)
    (look (numbers (zBlk x0 x1 x2 x3 x4 x5 x6 x7 x8) x17 4 slices_S128x16_o0_4_S128x4) x18) (look (numbers (zBlk x0 x1 x2 x3 x4 x5 x6 x7 x8) x17 8 slices_S128x16_o0_8_S128x4) x18) x18
    = entrySum x0 x1 x2 x3 x4 x5 x6 x7 x8 x17 x18 := by
  unfold entrySum k0_pay28
  rw [entries_eq]

theorem tally_eq (s : Vec Ideal S8x128 .f32) : k0_pay2 (k0_pay3 x0) (entrySum x0 x1 x2 x3 x4 x5 x6 x7 x8 x17 x18)
    (k0_pay29 (entries (zBlk x0 x1 x2 x3 x4 x5 x6 x7 x8) x17 x18) x9 x10 x11 x12 x13 x14 x15) (k0_pay30 x16) s
    = tally x0 x1 x2 x3 x4 x5 x6 x7 x8 x9 x10 x11 x12 x13 x14 x15 x16 x17 x18 s := by
  unfold tally imageSum image k0_pay2
  dsimp only
  generalize k0_pay29 (F := Ideal) _ _ _ _ _ _ _ _ = y
  generalize entrySum _ _ _ _ _ _ _ _ _ _ _ = e
  rfl
end

end Cert.KerRun

end
-- ==== Proof.KerPoint.lean ====
/-
  What the kernel's body leaves in its two outputs at a point of the grid, in terms of the arrays it reads there.
-/
module

public import proofs.«01_k».proof.Proof.KerPay
public import proofs.«01_k».proof.Proof.Gen.KernelIdeal.Frame
public import Idealize.ShloMosaic.Lib.Pipeline.Value
public import Idealize.ShloMosaic.Lib.Tactic

@[expose] public section

set_option maxRecDepth 16384
set_option maxHeartbeats 2000000

noncomputable section

namespace Cert.KerRun

open Cert.KernelIdeal Cert.KernelIdeal.Gen Idealize.ShloMosaic Cert.Blk

theorem two_zeros : (![0, 0] : Fin 2 → Nat) = fun _ => 0 := by
  funext a
  match a with
  | ⟨0, _⟩ => rfl
  | ⟨1, _⟩ => rfl

/-- The first of eight rows. -/
def row {L : Nat} (x : Vec Ideal ⟨2, ![8, L]⟩ .f32) (inb : ∀ a, (![0, 0] : Fin 2 → Nat) a + (⟨2, ![1, L]⟩ : Shape).size a ≤ (⟨2, ![8, L]⟩ : Shape).size a) :
    Vec Ideal ⟨2, ![1, L]⟩ .f32 := View.ld x (Rect.unit ![0, 0] (⟨2, ![1, L]⟩ : Shape).size inb)

/-! ## What a point leaves -/

section
variable (c : Dev nD) (i : grid0.Coords) (arg1 : Memref sig .tc .vmem S128x784 .f32) (harg1 : arg1.IsWhole) (arg2 : Memref sig .tc .vmem S784x3136 .bf16) (harg2 : arg2.IsWhole) (arg3 : Memref sig .tc .vmem S8x3136 .f32) (harg3 : arg3.IsWhole) (arg4 : Memref sig .tc .vmem S3136x1568 .bf16) (harg4 : arg4.IsWhole) (arg5 : Memref sig .tc .vmem S8x1568 .f32) (harg5 : arg5.IsWhole) (arg6 : Memref sig .tc .vmem S1568x1024 .bf16) (harg6 : arg6.IsWhole) (arg7 : Memref sig .tc .vmem S8x1024 .f32) (harg7 : arg7.IsWhole) (arg8 : Memref sig .tc .vmem S1600x4 .bf16) (harg8 : arg8.IsWhole) (arg9 : Memref sig .tc .vmem S8x4 .f32) (harg9 : arg9.IsWhole) (arg10 : Memref sig .tc .vmem S16x1152 .bf16) (harg10 : arg10.IsWhole) (arg11 : Memref sig .tc .vmem S8x1152 .f32) (harg11 : arg11.IsWhole) (arg12 : Memref sig .tc .vmem S1152x1600 .bf16) (harg12 : arg12.IsWhole) (arg13 : Memref sig .tc .vmem S8x1600 .f32) (harg13 : arg13.IsWhole) (arg14 : Memref sig .tc .vmem S1600x5408 .bf16) (harg14 : arg14.IsWhole) (arg15 : Memref sig .tc .vmem S8x5408 .f32) (harg15 : arg15.IsWhole) (arg16 : Memref sig .tc .vmem S5408x784 .bf16) (harg16 : arg16.IsWhole) (arg17 : Memref sig .tc .vmem S8x784 .f32) (harg17 : arg17.IsWhole) (arg18 : Memref sig .tc .vmem S8x256 .f32) (harg18 : arg18.IsWhole) (arg19 : Memref sig .tc .vmem S64x4 .f32) (harg19 : arg19.IsWhole) (arg20 : Memref sig .tc .vmem S8x128 .f32) (harg20 : arg20.IsWhole) (arg21 : Memref sig .tc .vmem S128x4 .i32) (harg21 : arg21.IsWhole)
  (x0 : Vec Ideal S128x784 .f32) (x1 : Vec Ideal S784x3136 .bf16) (x2 : Vec Ideal S8x3136 .f32) (x3 : Vec Ideal S3136x1568 .bf16) (x4 : Vec Ideal S8x1568 .f32) (x5 : Vec Ideal S1568x1024 .bf16) (x6 : Vec Ideal S8x1024 .f32) (x7 : Vec Ideal S1600x4 .bf16) (x8 : Vec Ideal S8x4 .f32) (x9 : Vec Ideal S16x1152 .bf16) (x10 : Vec Ideal S8x1152 .f32) (x11 : Vec Ideal S1152x1600 .bf16) (x12 : Vec Ideal S8x1600 .f32) (x13 : Vec Ideal S1600x5408 .bf16) (x14 : Vec Ideal S8x5408 .f32) (x15 : Vec Ideal S5408x784 .bf16) (x16 : Vec Ideal S8x784 .f32) (x17 : Vec Ideal S8x256 .f32) (x18 : Vec Ideal S64x4 .f32)

theorem index_A (hc : cond0_0 i) : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18
    = index (zBlk x0 x1 (row x2 inb_S8x3136_S1x3136_0_0) x3 (row x4 inb_S8x1568_S1x1568_0_0) x5 (row x6 inb_S8x1024_S1x1024_0_0) x7 (row x8 inb_S8x4_S1x4_0_0)) (row x17 inb_S8x256_S1x256_0_0) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18)]
  unfold kernelRun0_A
  dsimp only
  sl_unfold_words
  rw [View.canon_unit_zero two_zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S128x784) two_zeros, View.ld_unit_zero (S := S784x3136) two_zeros, View.ld_unit_zero (S := S3136x1568) two_zeros, View.ld_unit_zero (S := S1568x1024) two_zeros, View.ld_unit_zero (S := S1600x4) two_zeros, View.ld_unit_zero (S := S16x1152) two_zeros, View.ld_unit_zero (S := S1152x1600) two_zeros, View.ld_unit_zero (S := S1600x5408) two_zeros, View.ld_unit_zero (S := S5408x784) two_zeros, View.ld_unit_zero (S := S64x4) two_zeros]
  rw [first_row, code_eq, squares_eq, cut_eq, number0, number4, number8, index_eq]
  rfl

theorem tally_A (hc : cond0_0 i) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18
    = tally x0 x1 (row x2 inb_S8x3136_S1x3136_0_0) x3 (row x4 inb_S8x1568_S1x1568_0_0) x5 (row x6 inb_S8x1024_S1x1024_0_0) x7 (row x8 inb_S8x4_S1x4_0_0) x9 (row x10 inb_S8x1152_S1x1152_0_0) x11 (row x12 inb_S8x1600_S1x1600_0_0) x13 (row x14 inb_S8x5408_S1x5408_0_0) x15 (row x16 inb_S8x784_S1x784_0_0) (row x17 inb_S8x256_S1x256_0_0) x18 (k0_pay1 (F := Ideal)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18)]
  unfold kernelRun0_A
  dsimp only
  sl_unfold_words
  rw [View.canon_cons_unit_zero (S := S8x128) two_zeros, View.readCov_unit_zero (S := S8x128) _ two_zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S128x784) two_zeros, View.ld_unit_zero (S := S784x3136) two_zeros, View.ld_unit_zero (S := S3136x1568) two_zeros, View.ld_unit_zero (S := S1568x1024) two_zeros, View.ld_unit_zero (S := S1600x4) two_zeros, View.ld_unit_zero (S := S16x1152) two_zeros, View.ld_unit_zero (S := S1152x1600) two_zeros, View.ld_unit_zero (S := S1600x5408) two_zeros, View.ld_unit_zero (S := S5408x784) two_zeros, View.ld_unit_zero (S := S64x4) two_zeros]
  rw [first_row, code_eq, squares_eq, cut_eq, entry0, entry4, entry8, number0, number4, number8, entrySum_eq, entries_eq, tally_eq]
  rfl

theorem index_B (hc : ¬cond0_0 i) (xo19 : Vec Ideal S8x128 .f32) : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18 xo19
    = index (zBlk x0 x1 (row x2 inb_S8x3136_S1x3136_0_0) x3 (row x4 inb_S8x1568_S1x1568_0_0) x5 (row x6 inb_S8x1024_S1x1024_0_0) x7 (row x8 inb_S8x4_S1x4_0_0)) (row x17 inb_S8x256_S1x256_0_0) := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18 xo19)]
  unfold kernelRun0_B
  dsimp only
  sl_unfold_words
  rw [View.canon_unit_zero two_zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S128x784) two_zeros, View.ld_unit_zero (S := S784x3136) two_zeros, View.ld_unit_zero (S := S3136x1568) two_zeros, View.ld_unit_zero (S := S1568x1024) two_zeros, View.ld_unit_zero (S := S1600x4) two_zeros, View.ld_unit_zero (S := S16x1152) two_zeros, View.ld_unit_zero (S := S1152x1600) two_zeros, View.ld_unit_zero (S := S1600x5408) two_zeros, View.ld_unit_zero (S := S5408x784) two_zeros, View.ld_unit_zero (S := S64x4) two_zeros]
  rw [first_row, code_eq, squares_eq, cut_eq, number0, number4, number8, index_eq]
  rfl

theorem tally_B (hc : ¬cond0_0 i) (xo19 : Vec Ideal S8x128 .f32) : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18 xo19
    = tally x0 x1 (row x2 inb_S8x3136_S1x3136_0_0) x3 (row x4 inb_S8x1568_S1x1568_0_0) x5 (row x6 inb_S8x1024_S1x1024_0_0) x7 (row x8 inb_S8x4_S1x4_0_0) x9 (row x10 inb_S8x1152_S1x1152_0_0) x11 (row x12 inb_S8x1600_S1x1600_0_0) x13 (row x14 inb_S8x5408_S1x5408_0_0) x15 (row x16 inb_S8x784_S1x784_0_0) (row x17 inb_S8x256_S1x256_0_0) x18 xo19 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 x9 x10 x11 x12 x13 x14 x15 x16 x17 x18 xo19)]
  unfold kernelRun0_B
  dsimp only
  sl_unfold_words
  rw [View.canon_unit_zero two_zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread,
    View.ld_unit_zero (S := S128x784) two_zeros, View.ld_unit_zero (S := S784x3136) two_zeros, View.ld_unit_zero (S := S3136x1568) two_zeros, View.ld_unit_zero (S := S1568x1024) two_zeros, View.ld_unit_zero (S := S1600x4) two_zeros, View.ld_unit_zero (S := S16x1152) two_zeros, View.ld_unit_zero (S := S1152x1600) two_zeros, View.ld_unit_zero (S := S1600x5408) two_zeros, View.ld_unit_zero (S := S5408x784) two_zeros, View.ld_unit_zero (S := S64x4) two_zeros, harg20.read_unread, View.ld_unit_zero (S := S8x128) two_zeros]
  rw [first_row, code_eq, squares_eq, cut_eq, entry0, entry4, entry8, number0, number4, number8, entrySum_eq, entries_eq, tally_eq]
  rfl

end

end Cert.KerRun

end
-- ==== Proof.KerOps.lean ====
/-
  The kernel's operations before its region, cut into pieces: the matrices of the layers, the biases, the dictionary.
-/
module

public import proofs.«01_k».proof.Proof.Gen.KernelIdeal.Frame
public import Idealize.ShloMosaic.Lib.StableHlo.Run
public import proofs.«01_k».proof.Proof.Matrix

@[expose] public section

set_option maxRecDepth 16384

noncomputable section

namespace Cert.KerRun

open Cert.KernelIdeal Cert.KernelIdeal.Gen Idealize.ShloMosaic Idealize.ShloMosaic.TcCoe Idealize.SL.Sem Idealize.ShloMosaic.StableHlo

variable {F : FTy → Type} [FloatOps F]

/-- Operations of the constants and the images, flattened. -/
abbrev start : List (HloOp τ sig (Elt F)) :=
  [ nullary main_cst (fun i => FloatOps.ofBits .f32 (lit0 (S28x5x14.rowMajor i))),
    nullary main_cst_0 (fun i => FloatOps.ofBits .f32 (lit1 (S14x5x7.rowMajor i))),
    nullary main_cst_1 (fun i => FloatOps.ofBits .f32 (lit2 (S7x5x4.rowMajor i))),
    nullary main_c (fun i => lit3 (S1024.rowMajor i)),
    nullary main_c_2 (constantI S1024 1 0#1),
    nullary main_cst_3 (fun i => FloatOps.ofBits .f32 (lit4 (S2x5x3.rowMajor i))),
    nullary main_c_4 (fun i => lit5 (S16.rowMajor i)),
    nullary main_c_5 (constantI S16 1 0#1),
    nullary main_cst_6 (fun i => FloatOps.ofBits .f32 (lit6 (S3x5x5.rowMajor i))),
    nullary main_cst_7 (fun i => FloatOps.ofBits .f32 (lit7 (S5x5x13.rowMajor i))),
    nullary main_cst_8 (fun i => FloatOps.ofBits .f32 (lit8 (S13x5x28.rowMajor i))),
    reshape main_arg0 main_v0 (rfl : (.f32 : EltTy) = .f32) shapeCasts_S2048x1x28x28_S2048x784 ]

/-- Operations of the first layer's matrix. -/
abbrev mat1 : List (HloOp τ sig (Elt F)) :=
  [ unary main_arg1 main_v1 (broadcastInDim S16x1x1x5x1x5 ![0, 1, 3, 5] bcast_S16x1x5x5_S16x1x1x5x1x5_0_1_3_5 : (⟨S16x1x5x5, .f32⟩ : BufTy).Contents (Elt F) → (⟨S16x1x1x5x1x5, .f32⟩ : BufTy).Contents (Elt F)),
    unary main_cst main_v2 (broadcastInDim S1x1x28x5x14x1 ![2, 3, 4] bcast_S28x5x14_S1x1x28x5x14x1_2_3_4 : (⟨S28x5x14, .f32⟩ : BufTy).Contents (Elt F) → (⟨S1x1x28x5x14x1, .f32⟩ : BufTy).Contents (Elt F)),
    unary main_v1 main_v3 (broadcastInDim S16x1x28x5x14x5 ![0, 1, 2, 3, 4, 5] bcast_S16x1x1x5x1x5_S16x1x28x5x14x5_0_1_2_3_4_5 : (⟨S16x1x1x5x1x5, .f32⟩ : BufTy).Contents (Elt F) → (⟨S16x1x28x5x14x5, .f32⟩ : BufTy).Contents (Elt F)),
    unary main_v2 main_v4 (broadcastInDim S16x1x28x5x14x5 ![0, 1, 2, 3, 4, 5] bcast_S1x1x28x5x14x1_S16x1x28x5x14x5_0_1_2_3_4_5 : (⟨S1x1x28x5x14x1, .f32⟩ : BufTy).Contents (Elt F) → (⟨S16x1x28x5x14x5, .f32⟩ : BufTy).Contents (Elt F)),
    binary main_v3 main_v4 main_v5 (mulf : (⟨S16x1x28x5x14x5, .f32⟩ : BufTy).Contents (Elt F) → (⟨S16x1x28x5x14x5, .f32⟩ : BufTy).Contents (Elt F) → (⟨S16x1x28x5x14x5, .f32⟩ : BufTy).Contents (Elt F)),
    nullary main_cst_9 (constant S_ .f32 0x00000000#32),
    binary main_v5 main_cst_9 main_v6 ((fun x v => Host.reduceAdd x v reducesTo_S16x1x28x5x14x5_S16x1x28x14x5_d3 h_S_) : (⟨S16x1x28x5x14x5, .f32⟩ : BufTy).Contents (Elt F) → (⟨S_, .f32⟩ : BufTy).Contents (Elt F) → (⟨S16x1x28x14x5, .f32⟩ : BufTy).Contents (Elt F)),
    unary main_v6 main_v7 (broadcastInDim S16x1x28x1x14x5x1 ![0, 1, 2, 4, 5] bcast_S16x1x28x14x5_S16x1x28x1x14x5x1_0_1_2_4_5 : (⟨S16x1x28x14x5, .f32⟩ : BufTy).Contents (Elt F) → (⟨S16x1x28x1x14x5x1, .f32⟩ : BufTy).Contents (Elt F)),
    unary main_cst main_v8 (broadcastInDim S1x1x1x28x1x5x14 ![3, 5, 6] bcast_S28x5x14_S1x1x1x28x1x5x14_3_5_6 : (⟨S28x5x14, .f32⟩ : BufTy).Contents (Elt F) → (⟨S1x1x1x28x1x5x14, .f32⟩ : BufTy).Contents (Elt F)),
    unary main_v7 main_v9 (broadcastInDim S16x1x28x28x14x5x14 ![0, 1, 2, 3, 4, 5, 6] bcast_S16x1x28x1x14x5x1_S16x1x28x28x14x5x14_0_1_2_3_4_5_6 : (⟨S16x1x28x1x14x5x1, .f32⟩ : BufTy).Contents (Elt F) → (⟨S16x1x28x28x14x5x14, .f32⟩ : BufTy).Contents (Elt F)),
    unary main_v8 main_v10 (broadcastInDim S16x1x28x28x14x5x14 ![0, 1, 2, 3, 4, 5, 6] bcast_S1x1x1x28x1x5x14_S16x1x28x28x14x5x14_0_1_2_3_4_5_6 : (⟨S1x1x1x28x1x5x14, .f32⟩ : BufTy).Contents (Elt F) → (⟨S16x1x28x28x14x5x14, .f32⟩ : BufTy).Contents (Elt F)),
    binary main_v9 main_v10 main_v11 (mulf : (⟨S16x1x28x28x14x5x14, .f32⟩ : BufTy).Contents (Elt F) → (⟨S16x1x28x28x14x5x14, .f32⟩ : BufTy).Contents (Elt F) → (⟨S16x1x28x28x14x5x14, .f32⟩ : BufTy).Contents (Elt F)),
    nullary main_cst_10 (constant S_ .f32 0x00000000#32),
    binary main_v11 main_cst_10 main_v12 ((fun x v => Host.reduceAdd x v reducesTo_S16x1x28x28x14x5x14_S16x1x28x28x14x14_d5 h_S_) : (⟨S16x1x28x28x14x5x14, .f32⟩ : BufTy).Contents (Elt F) → (⟨S_, .f32⟩ : BufTy).Contents (Elt F) → (⟨S16x1x28x28x14x14, .f32⟩ : BufTy).Contents (Elt F)),
    unary main_v12 main_v13 ((transpose S1x28x28x16x14x14 [1, 2, 3, 0, 4, 5] · transposes_S16x1x28x28x14x14_S1x28x28x16x14x14_1_2_3_0_4_5) : (⟨S16x1x28x28x14x14, .f32⟩ : BufTy).Contents (Elt F) → (⟨S1x28x28x16x14x14, .f32⟩ : BufTy).Contents (Elt F)),
    reshape main_v13 main_v14 (rfl : (.f32 : EltTy) = .f32) shapeCasts_S1x28x28x16x14x14_S784x3136,
    unary main_v14 main_v15 ((truncf .bf16 · bitsLt_bf16_f32) : (⟨S784x3136, .f32⟩ : BufTy).Contents (Elt F) → (⟨S784x3136, .bf16⟩ : BufTy).Contents (Elt F)) ]

/-- Operations of the second layer's matrix. -/
abbrev mat2 : List (HloOp τ sig (Elt F)) :=
  [ unary main_arg3 main_v16 (broadcastInDim S32x16x1x5x1x5 ![0, 1, 3, 5] bcast_S32x16x5x5_S32x16x1x5x1x5_0_1_3_5 : (⟨S32x16x5x5, .f32⟩ : BufTy).Contents (Elt F) → (⟨S32x16x1x5x1x5, .f32⟩ : BufTy).Contents (Elt F)),
    unary main_cst_0 main_v17 (broadcastInDim S1x1x14x5x7x1 ![2, 3, 4] bcast_S14x5x7_S1x1x14x5x7x1_2_3_4 : (⟨S14x5x7, .f32⟩ : BufTy).Contents (Elt F) → (⟨S1x1x14x5x7x1, .f32⟩ : BufTy).Contents (Elt F)),
    unary main_v16 main_v18 (broadcastInDim S32x16x14x5x7x5 ![0, 1, 2, 3, 4, 5] bcast_S32x16x1x5x1x5_S32x16x14x5x7x5_0_1_2_3_4_5 : (⟨S32x16x1x5x1x5, .f32⟩ : BufTy).Contents (Elt F) → (⟨S32x16x14x5x7x5, .f32⟩ : BufTy).Contents (Elt F)),
    unary main_v17 main_v19 (broadcastInDim S32x16x14x5x7x5 ![0, 1, 2, 3, 4, 5] bcast_S1x1x14x5x7x1_S32x16x14x5x7x5_0_1_2_3_4_5 : (⟨S1x1x14x5x7x1, .f32⟩ : BufTy).Contents (Elt F) → (⟨S32x16x14x5x7x5, .f32⟩ : BufTy).Contents (Elt F)),
    binary main_v18 main_v19 main_v20 (mulf : (⟨S32x16x14x5x7x5, .f32⟩ : BufTy).Contents (Elt F) → (⟨S32x16x14x5x7x5, .f32⟩ : BufTy).Contents (Elt F) → (⟨S32x16x14x5x7x5, .f32⟩ : BufTy).Contents (Elt F)),
    nullary main_cst_11 (constant S_ .f32 0x00000000#32),
    binary main_v20 main_cst_11 main_v21 ((fun x v => Host.reduceAdd x v reducesTo_S32x16x14x5x7x5_S32x16x14x7x5_d3 h_S_) : (⟨S32x16x14x5x7x5, .f32⟩ : BufTy).Contents (Elt F) → (⟨S_, .f32⟩ : BufTy).Contents (Elt F) → (⟨S32x16x14x7x5, .f32⟩ : BufTy).Contents (Elt F)),
    unary main_v21 main_v22 (broadcastInDim S32x16x14x1x7x5x1 ![0, 1, 2, 4, 5] bcast_S32x16x14x7x5_S32x16x14x1x7x5x1_0_1_2_4_5 : (⟨S32x16x14x7x5, .f32⟩ : BufTy).Contents (Elt F) → (⟨S32x16x14x1x7x5x1, .f32⟩ : BufTy).Contents (Elt F)),
    unary main_cst_0 main_v23 (broadcastInDim S1x1x1x14x1x5x7 ![3, 5, 6] bcast_S14x5x7_S1x1x1x14x1x5x7_3_5_6 : (⟨S14x5x7, .f32⟩ : BufTy).Contents (Elt F) → (⟨S1x1x1x14x1x5x7, .f32⟩ : BufTy).Contents (Elt F)),
    unary main_v22 main_v24 (broadcastInDim S32x16x14x14x7x5x7 ![0, 1, 2, 3, 4, 5, 6] bcast_S32x16x14x1x7x5x1_S32x16x14x14x7x5x7_0_1_2_3_4_5_6 : (⟨S32x16x14x1x7x5x1, .f32⟩ : BufTy).Contents (Elt F) → (⟨S32x16x14x14x7x5x7, .f32⟩ : BufTy).Contents (Elt F)),
    unary main_v23 main_v25 (broadcastInDim S32x16x14x14x7x5x7 ![0, 1, 2, 3, 4, 5, 6] bcast_S1x1x1x14x1x5x7_S32x16x14x14x7x5x7_0_1_2_3_4_5_6 : (⟨S1x1x1x14x1x5x7, .f32⟩ : BufTy).Contents (Elt F) → (⟨S32x16x14x14x7x5x7, .f32⟩ : BufTy).Contents (Elt F)),
    binary main_v24 main_v25 main_v26 (mulf : (⟨S32x16x14x14x7x5x7, .f32⟩ : BufTy).Contents (Elt F) → (⟨S32x16x14x14x7x5x7, .f32⟩ : BufTy).Contents (Elt F) → (⟨S32x16x14x14x7x5x7, .f32⟩ : BufTy).Contents (Elt F)),
    nullary main_cst_12 (constant S_ .f32 0x00000000#32),
    binary main_v26 main_cst_12 main_v27 ((fun x v => Host.reduceAdd x v reducesTo_S32x16x14x14x7x5x7_S32x16x14x14x7x7_d5 h_S_) : (⟨S32x16x14x14x7x5x7, .f32⟩ : BufTy).Contents (Elt F) → (⟨S_, .f32⟩ : BufTy).Contents (Elt F) → (⟨S32x16x14x14x7x7, .f32⟩ : BufTy).Contents (Elt F)),
    unary main_v27 main_v28 ((transpose S16x14x14x32x7x7 [1, 2, 3, 0, 4, 5] · transposes_S32x16x14x14x7x7_S16x14x14x32x7x7_1_2_3_0_4_5) : (⟨S32x16x14x14x7x7, .f32⟩ : BufTy).Contents (Elt F) → (⟨S16x14x14x32x7x7, .f32⟩ : BufTy).Contents (Elt F)),
    reshape main_v28 main_v29 (rfl : (.f32 : EltTy) = .f32) shapeCasts_S16x14x14x32x7x7_S3136x1568,
    unary main_v29 main_v30 ((truncf .bf16 · bitsLt_bf16_f32) : (⟨S3136x1568, .f32⟩ : BufTy).Contents (Elt F) → (⟨S3136x1568, .bf16⟩ : BufTy).Contents (Elt F)) ]

/-- Operations of the third layer's matrix, its columns regrouped by position. -/
abbrev mat3 : List (HloOp τ sig (Elt F)) :=
  [ unary main_arg5 main_v31 (broadcastInDim S64x32x1x5x1x5 ![0, 1, 3, 5] bcast_S64x32x5x5_S64x32x1x5x1x5_0_1_3_5 : (⟨S64x32x5x5, .f32⟩ : BufTy).Contents (Elt F) → (⟨S64x32x1x5x1x5, .f32⟩ : BufTy).Contents (Elt F)),
    unary main_cst_1 main_v32 (broadcastInDim S1x1x7x5x4x1 ![2, 3, 4] bcast_S7x5x4_S1x1x7x5x4x1_2_3_4 : (⟨S7x5x4, .f32⟩ : BufTy).Contents (Elt F) → (⟨S1x1x7x5x4x1, .f32⟩ : BufTy).Contents (Elt F)),
    unary main_v31 main_v33 (broadcastInDim S64x32x7x5x4x5 ![0, 1, 2, 3, 4, 5] bcast_S64x32x1x5x1x5_S64x32x7x5x4x5_0_1_2_3_4_5 : (⟨S64x32x1x5x1x5, .f32⟩ : BufTy).Contents (Elt F) → (⟨S64x32x7x5x4x5, .f32⟩ : BufTy).Contents (Elt F)),
    unary main_v32 main_v34 (broadcastInDim S64x32x7x5x4x5 ![0, 1, 2, 3, 4, 5] bcast_S1x1x7x5x4x1_S64x32x7x5x4x5_0_1_2_3_4_5 : (⟨S1x1x7x5x4x1, .f32⟩ : BufTy).Contents (Elt F) → (⟨S64x32x7x5x4x5, .f32⟩ : BufTy).Contents (Elt F)),
    binary main_v33 main_v34 main_v35 (mulf : (⟨S64x32x7x5x4x5, .f32⟩ : BufTy).Contents (Elt F) → (⟨S64x32x7x5x4x5, .f32⟩ : BufTy).Contents (Elt F) → (⟨S64x32x7x5x4x5, .f32⟩ : BufTy).Contents (Elt F)),
    nullary main_cst_13 (constant S_ .f32 0x00000000#32),
    binary main_v35 main_cst_13 main_v36 ((fun x v => Host.reduceAdd x v reducesTo_S64x32x7x5x4x5_S64x32x7x4x5_d3 h_S_) : (⟨S64x32x7x5x4x5, .f32⟩ : BufTy).Contents (Elt F) → (⟨S_, .f32⟩ : BufTy).Contents (Elt F) → (⟨S64x32x7x4x5, .f32⟩ : BufTy).Contents (Elt F)),
    unary main_v36 main_v37 (broadcastInDim S64x32x7x1x4x5x1 ![0, 1, 2, 4, 5] bcast_S64x32x7x4x5_S64x32x7x1x4x5x1_0_1_2_4_5 : (⟨S64x32x7x4x5, .f32⟩ : BufTy).Contents (Elt F) → (⟨S64x32x7x1x4x5x1, .f32⟩ : BufTy).Contents (Elt F)),
    unary main_cst_1 main_v38 (broadcastInDim S1x1x1x7x1x5x4 ![3, 5, 6] bcast_S7x5x4_S1x1x1x7x1x5x4_3_5_6 : (⟨S7x5x4, .f32⟩ : BufTy).Contents (Elt F) → (⟨S1x1x1x7x1x5x4, .f32⟩ : BufTy).Contents (Elt F)),
    unary main_v37 main_v39 (broadcastInDim S64x32x7x7x4x5x4 ![0, 1, 2, 3, 4, 5, 6] bcast_S64x32x7x1x4x5x1_S64x32x7x7x4x5x4_0_1_2_3_4_5_6 : (⟨S64x32x7x1x4x5x1, .f32⟩ : BufTy).Contents (Elt F) → (⟨S64x32x7x7x4x5x4, .f32⟩ : BufTy).Contents (Elt F)),
    unary main_v38 main_v40 (broadcastInDim S64x32x7x7x4x5x4 ![0, 1, 2, 3, 4, 5, 6] bcast_S1x1x1x7x1x5x4_S64x32x7x7x4x5x4_0_1_2_3_4_5_6 : (⟨S1x1x1x7x1x5x4, .f32⟩ : BufTy).Contents (Elt F) → (⟨S64x32x7x7x4x5x4, .f32⟩ : BufTy).Contents (Elt F)),
    binary main_v39 main_v40 main_v41 (mulf : (⟨S64x32x7x7x4x5x4, .f32⟩ : BufTy).Contents (Elt F) → (⟨S64x32x7x7x4x5x4, .f32⟩ : BufTy).Contents (Elt F) → (⟨S64x32x7x7x4x5x4, .f32⟩ : BufTy).Contents (Elt F)),
    nullary main_cst_14 (constant S_ .f32 0x00000000#32),
    binary main_v41 main_cst_14 main_v42 ((fun x v => Host.reduceAdd x v reducesTo_S64x32x7x7x4x5x4_S64x32x7x7x4x4_d5 h_S_) : (⟨S64x32x7x7x4x5x4, .f32⟩ : BufTy).Contents (Elt F) → (⟨S_, .f32⟩ : BufTy).Contents (Elt F) → (⟨S64x32x7x7x4x4, .f32⟩ : BufTy).Contents (Elt F)),
    unary main_v42 main_v43 ((transpose S32x7x7x64x4x4 [1, 2, 3, 0, 4, 5] · transposes_S64x32x7x7x4x4_S32x7x7x64x4x4_1_2_3_0_4_5) : (⟨S64x32x7x7x4x4, .f32⟩ : BufTy).Contents (Elt F) → (⟨S32x7x7x64x4x4, .f32⟩ : BufTy).Contents (Elt F)),
    reshape main_v43 main_v44 (rfl : (.f32 : EltTy) = .f32) shapeCasts_S32x7x7x64x4x4_S1568x1024,
    nullary main_c_15 (constantI S_ 32 1024#32),
    unary main_c_15 main_v45 (broadcastInDim S1024 ![] bcast_S_S1024 : (⟨S_, .i32⟩ : BufTy).Contents (Elt F) → (⟨S1024, .i32⟩ : BufTy).Contents (Elt F)),
    binary main_c main_v45 main_v46 (addi : (⟨S1024, .i32⟩ : BufTy).Contents (Elt F) → (⟨S1024, .i32⟩ : BufTy).Contents (Elt F) → (⟨S1024, .i32⟩ : BufTy).Contents (Elt F)),
    ternary main_c_2 main_v46 main_c main_v47 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v47 main_v48 (broadcastInDim S1024x1 ![0] bcast_S1024_S1024x1_0 : (⟨S1024, .i32⟩ : BufTy).Contents (Elt F) → (⟨S1024x1, .i32⟩ : BufTy).Contents (Elt F)),
    binary main_v44 main_v48 main_v49 ((fun x i => Host.gather gather_S1568x1024_S1024x1_S1568x1024_0_1_n_n_1_1_15681 x i) : (⟨S1568x1024, .f32⟩ : BufTy).Contents (Elt F) → (⟨S1024x1, .i32⟩ : BufTy).Contents (Elt F) → (⟨S1568x1024, .f32⟩ : BufTy).Contents (Elt F)),
    unary main_v49 main_v50 ((truncf .bf16 · bitsLt_bf16_f32) : (⟨S1568x1024, .f32⟩ : BufTy).Contents (Elt F) → (⟨S1568x1024, .bf16⟩ : BufTy).Contents (Elt F)) ]

/-- Operations of the fourth layer's weights, one row per tap and channel. -/
abbrev mat4 : List (HloOp τ sig (Elt F)) :=
  [ unary main_arg7 main_v51 ((transpose S5x5x64x4 [2, 3, 1, 0] · transposes_S4x64x5x5_S5x5x64x4_2_3_1_0) : (⟨S4x64x5x5, .f32⟩ : BufTy).Contents (Elt F) → (⟨S5x5x64x4, .f32⟩ : BufTy).Contents (Elt F)),
    reshape main_v51 main_v52 (rfl : (.f32 : EltTy) = .f32) shapeCasts_S5x5x64x4_S1600x4,
    unary main_v52 main_v53 ((truncf .bf16 · bitsLt_bf16_f32) : (⟨S1600x4, .f32⟩ : BufTy).Contents (Elt F) → (⟨S1600x4, .bf16⟩ : BufTy).Contents (Elt F)) ]

/-- Operations of the first transposed layer's matrix, its rows regrouped by position. -/
abbrev tmat1 : List (HloOp τ sig (Elt F)) :=
  [ unary main_arg9 main_v54 (broadcastInDim S4x128x1x5x1x5 ![0, 1, 3, 5] bcast_S4x128x5x5_S4x128x1x5x1x5_0_1_3_5 : (⟨S4x128x5x5, .f32⟩ : BufTy).Contents (Elt F) → (⟨S4x128x1x5x1x5, .f32⟩ : BufTy).Contents (Elt F)),
    unary main_cst_3 main_v55 (broadcastInDim S1x1x2x5x3x1 ![2, 3, 4] bcast_S2x5x3_S1x1x2x5x3x1_2_3_4 : (⟨S2x5x3, .f32⟩ : BufTy).Contents (Elt F) → (⟨S1x1x2x5x3x1, .f32⟩ : BufTy).Contents (Elt F)),
    unary main_v54 main_v56 (broadcastInDim S4x128x2x5x3x5 ![0, 1, 2, 3, 4, 5] bcast_S4x128x1x5x1x5_S4x128x2x5x3x5_0_1_2_3_4_5 : (⟨S4x128x1x5x1x5, .f32⟩ : BufTy).Contents (Elt F) → (⟨S4x128x2x5x3x5, .f32⟩ : BufTy).Contents (Elt F)),
    unary main_v55 main_v57 (broadcastInDim S4x128x2x5x3x5 ![0, 1, 2, 3, 4, 5] bcast_S1x1x2x5x3x1_S4x128x2x5x3x5_0_1_2_3_4_5 : (⟨S1x1x2x5x3x1, .f32⟩ : BufTy).Contents (Elt F) → (⟨S4x128x2x5x3x5, .f32⟩ : BufTy).Contents (Elt F)),
    binary main_v56 main_v57 main_v58 (mulf : (⟨S4x128x2x5x3x5, .f32⟩ : BufTy).Contents (Elt F) → (⟨S4x128x2x5x3x5, .f32⟩ : BufTy).Contents (Elt F) → (⟨S4x128x2x5x3x5, .f32⟩ : BufTy).Contents (Elt F)),
    nullary main_cst_16 (constant S_ .f32 0x00000000#32),
    binary main_v58 main_cst_16 main_v59 ((fun x v => Host.reduceAdd x v reducesTo_S4x128x2x5x3x5_S4x128x2x3x5_d3 h_S_) : (⟨S4x128x2x5x3x5, .f32⟩ : BufTy).Contents (Elt F) → (⟨S_, .f32⟩ : BufTy).Contents (Elt F) → (⟨S4x128x2x3x5, .f32⟩ : BufTy).Contents (Elt F)),
    unary main_v59 main_v60 (broadcastInDim S4x128x2x1x3x5x1 ![0, 1, 2, 4, 5] bcast_S4x128x2x3x5_S4x128x2x1x3x5x1_0_1_2_4_5 : (⟨S4x128x2x3x5, .f32⟩ : BufTy).Contents (Elt F) → (⟨S4x128x2x1x3x5x1, .f32⟩ : BufTy).Contents (Elt F)),
    unary main_cst_3 main_v61 (broadcastInDim S1x1x1x2x1x5x3 ![3, 5, 6] bcast_S2x5x3_S1x1x1x2x1x5x3_3_5_6 : (⟨S2x5x3, .f32⟩ : BufTy).Contents (Elt F) → (⟨S1x1x1x2x1x5x3, .f32⟩ : BufTy).Contents (Elt F)),
    unary main_v60 main_v62 (broadcastInDim S4x128x2x2x3x5x3 ![0, 1, 2, 3, 4, 5, 6] bcast_S4x128x2x1x3x5x1_S4x128x2x2x3x5x3_0_1_2_3_4_5_6 : (⟨S4x128x2x1x3x5x1, .f32⟩ : BufTy).Contents (Elt F) → (⟨S4x128x2x2x3x5x3, .f32⟩ : BufTy).Contents (Elt F)),
    unary main_v61 main_v63 (broadcastInDim S4x128x2x2x3x5x3 ![0, 1, 2, 3, 4, 5, 6] bcast_S1x1x1x2x1x5x3_S4x128x2x2x3x5x3_0_1_2_3_4_5_6 : (⟨S1x1x1x2x1x5x3, .f32⟩ : BufTy).Contents (Elt F) → (⟨S4x128x2x2x3x5x3, .f32⟩ : BufTy).Contents (Elt F)),
    binary main_v62 main_v63 main_v64 (mulf : (⟨S4x128x2x2x3x5x3, .f32⟩ : BufTy).Contents (Elt F) → (⟨S4x128x2x2x3x5x3, .f32⟩ : BufTy).Contents (Elt F) → (⟨S4x128x2x2x3x5x3, .f32⟩ : BufTy).Contents (Elt F)),
    nullary main_cst_17 (constant S_ .f32 0x00000000#32),
    binary main_v64 main_cst_17 main_v65 ((fun x v => Host.reduceAdd x v reducesTo_S4x128x2x2x3x5x3_S4x128x2x2x3x3_d5 h_S_) : (⟨S4x128x2x2x3x5x3, .f32⟩ : BufTy).Contents (Elt F) → (⟨S_, .f32⟩ : BufTy).Contents (Elt F) → (⟨S4x128x2x2x3x3, .f32⟩ : BufTy).Contents (Elt F)),
    unary main_v65 main_v66 ((transpose S4x2x2x128x3x3 [0, 2, 3, 1, 4, 5] · transposes_S4x128x2x2x3x3_S4x2x2x128x3x3_0_2_3_1_4_5) : (⟨S4x128x2x2x3x3, .f32⟩ : BufTy).Contents (Elt F) → (⟨S4x2x2x128x3x3, .f32⟩ : BufTy).Contents (Elt F)),
    reshape main_v66 main_v67 (rfl : (.f32 : EltTy) = .f32) shapeCasts_S4x2x2x128x3x3_S16x1152,
    nullary main_c_18 (constantI S_ 32 16#32),
    unary main_c_18 main_v68 (broadcastInDim S16 ![] bcast_S_S16 : (⟨S_, .i32⟩ : BufTy).Contents (Elt F) → (⟨S16, .i32⟩ : BufTy).Contents (Elt F)),
    binary main_c_4 main_v68 main_v69 (addi : (⟨S16, .i32⟩ : BufTy).Contents (Elt F) → (⟨S16, .i32⟩ : BufTy).Contents (Elt F) → (⟨S16, .i32⟩ : BufTy).Contents (Elt F)),
    ternary main_c_5 main_v69 main_c_4 main_v70 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v70 main_v71 (broadcastInDim S16x1 ![0] bcast_S16_S16x1_0 : (⟨S16, .i32⟩ : BufTy).Contents (Elt F) → (⟨S16x1, .i32⟩ : BufTy).Contents (Elt F)),
    binary main_v67 main_v71 main_v72 ((fun x i => Host.gather gather_S16x1152_S16x1_S16x1152_1_0_n_n_0_1_11152 x i) : (⟨S16x1152, .f32⟩ : BufTy).Contents (Elt F) → (⟨S16x1, .i32⟩ : BufTy).Contents (Elt F) → (⟨S16x1152, .f32⟩ : BufTy).Contents (Elt F)),
    unary main_v72 main_v73 ((truncf .bf16 · bitsLt_bf16_f32) : (⟨S16x1152, .f32⟩ : BufTy).Contents (Elt F) → (⟨S16x1152, .bf16⟩ : BufTy).Contents (Elt F)) ]

/-- Operations of the second transposed layer's matrix. -/
abbrev tmat2 : List (HloOp τ sig (Elt F)) :=
  [ unary main_arg11 main_v74 (broadcastInDim S128x64x1x5x1x5 ![0, 1, 3, 5] bcast_S128x64x5x5_S128x64x1x5x1x5_0_1_3_5 : (⟨S128x64x5x5, .f32⟩ : BufTy).Contents (Elt F) → (⟨S128x64x1x5x1x5, .f32⟩ : BufTy).Contents (Elt F)),
    unary main_cst_6 main_v75 (broadcastInDim S1x1x3x5x5x1 ![2, 3, 4] bcast_S3x5x5_S1x1x3x5x5x1_2_3_4 : (⟨S3x5x5, .f32⟩ : BufTy).Contents (Elt F) → (⟨S1x1x3x5x5x1, .f32⟩ : BufTy).Contents (Elt F)),
    unary main_v74 main_v76 (broadcastInDim S128x64x3x5x5x5 ![0, 1, 2, 3, 4, 5] bcast_S128x64x1x5x1x5_S128x64x3x5x5x5_0_1_2_3_4_5 : (⟨S128x64x1x5x1x5, .f32⟩ : BufTy).Contents (Elt F) → (⟨S128x64x3x5x5x5, .f32⟩ : BufTy).Contents (Elt F)),
    unary main_v75 main_v77 (broadcastInDim S128x64x3x5x5x5 ![0, 1, 2, 3, 4, 5] bcast_S1x1x3x5x5x1_S128x64x3x5x5x5_0_1_2_3_4_5 : (⟨S1x1x3x5x5x1, .f32⟩ : BufTy).Contents (Elt F) → (⟨S128x64x3x5x5x5, .f32⟩ : BufTy).Contents (Elt F)),
    binary main_v76 main_v77 main_v78 (mulf : (⟨S128x64x3x5x5x5, .f32⟩ : BufTy).Contents (Elt F) → (⟨S128x64x3x5x5x5, .f32⟩ : BufTy).Contents (Elt F) → (⟨S128x64x3x5x5x5, .f32⟩ : BufTy).Contents (Elt F)),
    nullary main_cst_19 (constant S_ .f32 0x00000000#32),
    binary main_v78 main_cst_19 main_v79 ((fun x v => Host.reduceAdd x v reducesTo_S128x64x3x5x5x5_S128x64x3x5x5_d3 h_S_) : (⟨S128x64x3x5x5x5, .f32⟩ : BufTy).Contents (Elt F) → (⟨S_, .f32⟩ : BufTy).Contents (Elt F) → (⟨S128x64x3x5x5, .f32⟩ : BufTy).Contents (Elt F)),
    unary main_v79 main_v80 (broadcastInDim S128x64x3x1x5x5x1 ![0, 1, 2, 4, 5] bcast_S128x64x3x5x5_S128x64x3x1x5x5x1_0_1_2_4_5 : (⟨S128x64x3x5x5, .f32⟩ : BufTy).Contents (Elt F) → (⟨S128x64x3x1x5x5x1, .f32⟩ : BufTy).Contents (Elt F)),
    unary main_cst_6 main_v81 (broadcastInDim S1x1x1x3x1x5x5 ![3, 5, 6] bcast_S3x5x5_S1x1x1x3x1x5x5_3_5_6 : (⟨S3x5x5, .f32⟩ : BufTy).Contents (Elt F) → (⟨S1x1x1x3x1x5x5, .f32⟩ : BufTy).Contents (Elt F)),
    unary main_v80 main_v82 (broadcastInDim S128x64x3x3x5x5x5 ![0, 1, 2, 3, 4, 5, 6] bcast_S128x64x3x1x5x5x1_S128x64x3x3x5x5x5_0_1_2_3_4_5_6 : (⟨S128x64x3x1x5x5x1, .f32⟩ : BufTy).Contents (Elt F) → (⟨S128x64x3x3x5x5x5, .f32⟩ : BufTy).Contents (Elt F)),
    unary main_v81 main_v83 (broadcastInDim S128x64x3x3x5x5x5 ![0, 1, 2, 3, 4, 5, 6] bcast_S1x1x1x3x1x5x5_S128x64x3x3x5x5x5_0_1_2_3_4_5_6 : (⟨S1x1x1x3x1x5x5, .f32⟩ : BufTy).Contents (Elt F) → (⟨S128x64x3x3x5x5x5, .f32⟩ : BufTy).Contents (Elt F)),
    binary main_v82 main_v83 main_v84 (mulf : (⟨S128x64x3x3x5x5x5, .f32⟩ : BufTy).Contents (Elt F) → (⟨S128x64x3x3x5x5x5, .f32⟩ : BufTy).Contents (Elt F) → (⟨S128x64x3x3x5x5x5, .f32⟩ : BufTy).Contents (Elt F)),
    nullary main_cst_20 (constant S_ .f32 0x00000000#32),
    binary main_v84 main_cst_20 main_v85 ((fun x v => Host.reduceAdd x v reducesTo_S128x64x3x3x5x5x5_S128x64x3x3x5x5_d5 h_S_) : (⟨S128x64x3x3x5x5x5, .f32⟩ : BufTy).Contents (Elt F) → (⟨S_, .f32⟩ : BufTy).Contents (Elt F) → (⟨S128x64x3x3x5x5, .f32⟩ : BufTy).Contents (Elt F)),
    unary main_v85 main_v86 ((transpose S128x3x3x64x5x5 [0, 2, 3, 1, 4, 5] · transposes_S128x64x3x3x5x5_S128x3x3x64x5x5_0_2_3_1_4_5) : (⟨S128x64x3x3x5x5, .f32⟩ : BufTy).Contents (Elt F) → (⟨S128x3x3x64x5x5, .f32⟩ : BufTy).Contents (Elt F)),
    reshape main_v86 main_v87 (rfl : (.f32 : EltTy) = .f32) shapeCasts_S128x3x3x64x5x5_S1152x1600,
    unary main_v87 main_v88 ((truncf .bf16 · bitsLt_bf16_f32) : (⟨S1152x1600, .f32⟩ : BufTy).Contents (Elt F) → (⟨S1152x1600, .bf16⟩ : BufTy).Contents (Elt F)) ]

/-- Operations of the third transposed layer's matrix. -/
abbrev tmat3 : List (HloOp τ sig (Elt F)) :=
  [ unary main_arg13 main_v89 (broadcastInDim S64x32x1x5x1x5 ![0, 1, 3, 5] bcast_S64x32x5x5_S64x32x1x5x1x5_0_1_3_5 : (⟨S64x32x5x5, .f32⟩ : BufTy).Contents (Elt F) → (⟨S64x32x1x5x1x5, .f32⟩ : BufTy).Contents (Elt F)),
    unary main_cst_7 main_v90 (broadcastInDim S1x1x5x5x13x1 ![2, 3, 4] bcast_S5x5x13_S1x1x5x5x13x1_2_3_4 : (⟨S5x5x13, .f32⟩ : BufTy).Contents (Elt F) → (⟨S1x1x5x5x13x1, .f32⟩ : BufTy).Contents (Elt F)),
    unary main_v89 main_v91 (broadcastInDim S64x32x5x5x13x5 ![0, 1, 2, 3, 4, 5] bcast_S64x32x1x5x1x5_S64x32x5x5x13x5_0_1_2_3_4_5 : (⟨S64x32x1x5x1x5, .f32⟩ : BufTy).Contents (Elt F) → (⟨S64x32x5x5x13x5, .f32⟩ : BufTy).Contents (Elt F)),
    unary main_v90 main_v92 (broadcastInDim S64x32x5x5x13x5 ![0, 1, 2, 3, 4, 5] bcast_S1x1x5x5x13x1_S64x32x5x5x13x5_0_1_2_3_4_5 : (⟨S1x1x5x5x13x1, .f32⟩ : BufTy).Contents (Elt F) → (⟨S64x32x5x5x13x5, .f32⟩ : BufTy).Contents (Elt F)),
    binary main_v91 main_v92 main_v93 (mulf : (⟨S64x32x5x5x13x5, .f32⟩ : BufTy).Contents (Elt F) → (⟨S64x32x5x5x13x5, .f32⟩ : BufTy).Contents (Elt F) → (⟨S64x32x5x5x13x5, .f32⟩ : BufTy).Contents (Elt F)),
    nullary main_cst_21 (constant S_ .f32 0x00000000#32),
    binary main_v93 main_cst_21 main_v94 ((fun x v => Host.reduceAdd x v reducesTo_S64x32x5x5x13x5_S64x32x5x13x5_d3 h_S_) : (⟨S64x32x5x5x13x5, .f32⟩ : BufTy).Contents (Elt F) → (⟨S_, .f32⟩ : BufTy).Contents (Elt F) → (⟨S64x32x5x13x5, .f32⟩ : BufTy).Contents (Elt F)),
    unary main_v94 main_v95 (broadcastInDim S64x32x5x1x13x5x1 ![0, 1, 2, 4, 5] bcast_S64x32x5x13x5_S64x32x5x1x13x5x1_0_1_2_4_5 : (⟨S64x32x5x13x5, .f32⟩ : BufTy).Contents (Elt F) → (⟨S64x32x5x1x13x5x1, .f32⟩ : BufTy).Contents (Elt F)),
    unary main_cst_7 main_v96 (broadcastInDim S1x1x1x5x1x5x13 ![3, 5, 6] bcast_S5x5x13_S1x1x1x5x1x5x13_3_5_6 : (⟨S5x5x13, .f32⟩ : BufTy).Contents (Elt F) → (⟨S1x1x1x5x1x5x13, .f32⟩ : BufTy).Contents (Elt F)),
    unary main_v95 main_v97 (broadcastInDim S64x32x5x5x13x5x13 ![0, 1, 2, 3, 4, 5, 6] bcast_S64x32x5x1x13x5x1_S64x32x5x5x13x5x13_0_1_2_3_4_5_6 : (⟨S64x32x5x1x13x5x1, .f32⟩ : BufTy).Contents (Elt F) → (⟨S64x32x5x5x13x5x13, .f32⟩ : BufTy).Contents (Elt F)),
    unary main_v96 main_v98 (broadcastInDim S64x32x5x5x13x5x13 ![0, 1, 2, 3, 4, 5, 6] bcast_S1x1x1x5x1x5x13_S64x32x5x5x13x5x13_0_1_2_3_4_5_6 : (⟨S1x1x1x5x1x5x13, .f32⟩ : BufTy).Contents (Elt F) → (⟨S64x32x5x5x13x5x13, .f32⟩ : BufTy).Contents (Elt F)),
    binary main_v97 main_v98 main_v99 (mulf : (⟨S64x32x5x5x13x5x13, .f32⟩ : BufTy).Contents (Elt F) → (⟨S64x32x5x5x13x5x13, .f32⟩ : BufTy).Contents (Elt F) → (⟨S64x32x5x5x13x5x13, .f32⟩ : BufTy).Contents (Elt F)),
    nullary main_cst_22 (constant S_ .f32 0x00000000#32),
    binary main_v99 main_cst_22 main_v100 ((fun x v => Host.reduceAdd x v reducesTo_S64x32x5x5x13x5x13_S64x32x5x5x13x13_d5 h_S_) : (⟨S64x32x5x5x13x5x13, .f32⟩ : BufTy).Contents (Elt F) → (⟨S_, .f32⟩ : BufTy).Contents (Elt F) → (⟨S64x32x5x5x13x13, .f32⟩ : BufTy).Contents (Elt F)),
    unary main_v100 main_v101 ((transpose S64x5x5x32x13x13 [0, 2, 3, 1, 4, 5] · transposes_S64x32x5x5x13x13_S64x5x5x32x13x13_0_2_3_1_4_5) : (⟨S64x32x5x5x13x13, .f32⟩ : BufTy).Contents (Elt F) → (⟨S64x5x5x32x13x13, .f32⟩ : BufTy).Contents (Elt F)),
    reshape main_v101 main_v102 (rfl : (.f32 : EltTy) = .f32) shapeCasts_S64x5x5x32x13x13_S1600x5408,
    unary main_v102 main_v103 ((truncf .bf16 · bitsLt_bf16_f32) : (⟨S1600x5408, .f32⟩ : BufTy).Contents (Elt F) → (⟨S1600x5408, .bf16⟩ : BufTy).Contents (Elt F)) ]

/-- Operations of the fourth transposed layer's matrix. -/
abbrev tmat4 : List (HloOp τ sig (Elt F)) :=
  [ unary main_arg15 main_v104 (broadcastInDim S32x1x1x5x1x5 ![0, 1, 3, 5] bcast_S32x1x5x5_S32x1x1x5x1x5_0_1_3_5 : (⟨S32x1x5x5, .f32⟩ : BufTy).Contents (Elt F) → (⟨S32x1x1x5x1x5, .f32⟩ : BufTy).Contents (Elt F)),
    unary main_cst_8 main_v105 (broadcastInDim S1x1x13x5x28x1 ![2, 3, 4] bcast_S13x5x28_S1x1x13x5x28x1_2_3_4 : (⟨S13x5x28, .f32⟩ : BufTy).Contents (Elt F) → (⟨S1x1x13x5x28x1, .f32⟩ : BufTy).Contents (Elt F)),
    unary main_v104 main_v106 (broadcastInDim S32x1x13x5x28x5 ![0, 1, 2, 3, 4, 5] bcast_S32x1x1x5x1x5_S32x1x13x5x28x5_0_1_2_3_4_5 : (⟨S32x1x1x5x1x5, .f32⟩ : BufTy).Contents (Elt F) → (⟨S32x1x13x5x28x5, .f32⟩ : BufTy).Contents (Elt F)),
    unary main_v105 main_v107 (broadcastInDim S32x1x13x5x28x5 ![0, 1, 2, 3, 4, 5] bcast_S1x1x13x5x28x1_S32x1x13x5x28x5_0_1_2_3_4_5 : (⟨S1x1x13x5x28x1, .f32⟩ : BufTy).Contents (Elt F) → (⟨S32x1x13x5x28x5, .f32⟩ : BufTy).Contents (Elt F)),
    binary main_v106 main_v107 main_v108 (mulf : (⟨S32x1x13x5x28x5, .f32⟩ : BufTy).Contents (Elt F) → (⟨S32x1x13x5x28x5, .f32⟩ : BufTy).Contents (Elt F) → (⟨S32x1x13x5x28x5, .f32⟩ : BufTy).Contents (Elt F)),
    nullary main_cst_23 (constant S_ .f32 0x00000000#32),
    binary main_v108 main_cst_23 main_v109 ((fun x v => Host.reduceAdd x v reducesTo_S32x1x13x5x28x5_S32x1x13x28x5_d3 h_S_) : (⟨S32x1x13x5x28x5, .f32⟩ : BufTy).Contents (Elt F) → (⟨S_, .f32⟩ : BufTy).Contents (Elt F) → (⟨S32x1x13x28x5, .f32⟩ : BufTy).Contents (Elt F)),
    unary main_v109 main_v110 (broadcastInDim S32x1x13x1x28x5x1 ![0, 1, 2, 4, 5] bcast_S32x1x13x28x5_S32x1x13x1x28x5x1_0_1_2_4_5 : (⟨S32x1x13x28x5, .f32⟩ : BufTy).Contents (Elt F) → (⟨S32x1x13x1x28x5x1, .f32⟩ : BufTy).Contents (Elt F)),
    unary main_cst_8 main_v111 (broadcastInDim S1x1x1x13x1x5x28 ![3, 5, 6] bcast_S13x5x28_S1x1x1x13x1x5x28_3_5_6 : (⟨S13x5x28, .f32⟩ : BufTy).Contents (Elt F) → (⟨S1x1x1x13x1x5x28, .f32⟩ : BufTy).Contents (Elt F)),
    unary main_v110 main_v112 (broadcastInDim S32x1x13x13x28x5x28 ![0, 1, 2, 3, 4, 5, 6] bcast_S32x1x13x1x28x5x1_S32x1x13x13x28x5x28_0_1_2_3_4_5_6 : (⟨S32x1x13x1x28x5x1, .f32⟩ : BufTy).Contents (Elt F) → (⟨S32x1x13x13x28x5x28, .f32⟩ : BufTy).Contents (Elt F)),
    unary main_v111 main_v113 (broadcastInDim S32x1x13x13x28x5x28 ![0, 1, 2, 3, 4, 5, 6] bcast_S1x1x1x13x1x5x28_S32x1x13x13x28x5x28_0_1_2_3_4_5_6 : (⟨S1x1x1x13x1x5x28, .f32⟩ : BufTy).Contents (Elt F) → (⟨S32x1x13x13x28x5x28, .f32⟩ : BufTy).Contents (Elt F)),
    binary main_v112 main_v113 main_v114 (mulf : (⟨S32x1x13x13x28x5x28, .f32⟩ : BufTy).Contents (Elt F) → (⟨S32x1x13x13x28x5x28, .f32⟩ : BufTy).Contents (Elt F) → (⟨S32x1x13x13x28x5x28, .f32⟩ : BufTy).Contents (Elt F)),
    nullary main_cst_24 (constant S_ .f32 0x00000000#32),
    binary main_v114 main_cst_24 main_v115 ((fun x v => Host.reduceAdd x v reducesTo_S32x1x13x13x28x5x28_S32x1x13x13x28x28_d5 h_S_) : (⟨S32x1x13x13x28x5x28, .f32⟩ : BufTy).Contents (Elt F) → (⟨S_, .f32⟩ : BufTy).Contents (Elt F) → (⟨S32x1x13x13x28x28, .f32⟩ : BufTy).Contents (Elt F)),
    unary main_v115 main_v116 ((transpose S32x13x13x1x28x28 [0, 2, 3, 1, 4, 5] · transposes_S32x1x13x13x28x28_S32x13x13x1x28x28_0_2_3_1_4_5) : (⟨S32x1x13x13x28x28, .f32⟩ : BufTy).Contents (Elt F) → (⟨S32x13x13x1x28x28, .f32⟩ : BufTy).Contents (Elt F)),
    reshape main_v116 main_v117 (rfl : (.f32 : EltTy) = .f32) shapeCasts_S32x13x13x1x28x28_S5408x784,
    unary main_v117 main_v118 ((truncf .bf16 · bitsLt_bf16_f32) : (⟨S5408x784, .f32⟩ : BufTy).Contents (Elt F) → (⟨S5408x784, .bf16⟩ : BufTy).Contents (Elt F)) ]

/-- Operations of the biases, one entry per column. -/
abbrev biases : List (HloOp τ sig (Elt F)) :=
  [ unary main_arg2 main_v119 (broadcastInDim S16x196 ![0] bcast_S16_S16x196_0 : (⟨S16, .f32⟩ : BufTy).Contents (Elt F) → (⟨S16x196, .f32⟩ : BufTy).Contents (Elt F)),
    reshape main_v119 main_v120 (rfl : (.f32 : EltTy) = .f32) shapeCasts_S16x196_S3136,
    unary main_v120 main_v121 (broadcastInDim S1x3136 ![1] bcast_S3136_S1x3136_1 : (⟨S3136, .f32⟩ : BufTy).Contents (Elt F) → (⟨S1x3136, .f32⟩ : BufTy).Contents (Elt F)),
    unary main_v121 main_v122 (broadcastInDim S8x3136 ![0, 1] bcast_S1x3136_S8x3136_0_1 : (⟨S1x3136, .f32⟩ : BufTy).Contents (Elt F) → (⟨S8x3136, .f32⟩ : BufTy).Contents (Elt F)),
    unary main_arg4 main_v123 (broadcastInDim S32x49 ![0] bcast_S32_S32x49_0 : (⟨S32, .f32⟩ : BufTy).Contents (Elt F) → (⟨S32x49, .f32⟩ : BufTy).Contents (Elt F)),
    reshape main_v123 main_v124 (rfl : (.f32 : EltTy) = .f32) shapeCasts_S32x49_S1568,
    unary main_v124 main_v125 (broadcastInDim S1x1568 ![1] bcast_S1568_S1x1568_1 : (⟨S1568, .f32⟩ : BufTy).Contents (Elt F) → (⟨S1x1568, .f32⟩ : BufTy).Contents (Elt F)),
    unary main_v125 main_v126 (broadcastInDim S8x1568 ![0, 1] bcast_S1x1568_S8x1568_0_1 : (⟨S1x1568, .f32⟩ : BufTy).Contents (Elt F) → (⟨S8x1568, .f32⟩ : BufTy).Contents (Elt F)),
    reshape main_arg6 main_v127 (rfl : (.f32 : EltTy) = .f32) shapeCasts_S64_S1x64,
    unary main_v127 main_v128 (broadcastInDim S16x64 ![0, 1] bcast_S1x64_S16x64_0_1 : (⟨S1x64, .f32⟩ : BufTy).Contents (Elt F) → (⟨S16x64, .f32⟩ : BufTy).Contents (Elt F)),
    reshape main_v128 main_v129 (rfl : (.f32 : EltTy) = .f32) shapeCasts_S16x64_S1024,
    unary main_v129 main_v130 (broadcastInDim S1x1024 ![1] bcast_S1024_S1x1024_1 : (⟨S1024, .f32⟩ : BufTy).Contents (Elt F) → (⟨S1x1024, .f32⟩ : BufTy).Contents (Elt F)),
    unary main_v130 main_v131 (broadcastInDim S8x1024 ![0, 1] bcast_S1x1024_S8x1024_0_1 : (⟨S1x1024, .f32⟩ : BufTy).Contents (Elt F) → (⟨S8x1024, .f32⟩ : BufTy).Contents (Elt F)),
    unary main_arg8 main_v132 (broadcastInDim S1x4 ![1] bcast_S4_S1x4_1 : (⟨S4, .f32⟩ : BufTy).Contents (Elt F) → (⟨S1x4, .f32⟩ : BufTy).Contents (Elt F)),
    unary main_v132 main_v133 (broadcastInDim S8x4 ![0, 1] bcast_S1x4_S8x4_0_1 : (⟨S1x4, .f32⟩ : BufTy).Contents (Elt F) → (⟨S8x4, .f32⟩ : BufTy).Contents (Elt F)),
    unary main_arg10 main_v134 (broadcastInDim S128x9 ![0] bcast_S128_S128x9_0 : (⟨S128, .f32⟩ : BufTy).Contents (Elt F) → (⟨S128x9, .f32⟩ : BufTy).Contents (Elt F)),
    reshape main_v134 main_v135 (rfl : (.f32 : EltTy) = .f32) shapeCasts_S128x9_S1152,
    unary main_v135 main_v136 (broadcastInDim S1x1152 ![1] bcast_S1152_S1x1152_1 : (⟨S1152, .f32⟩ : BufTy).Contents (Elt F) → (⟨S1x1152, .f32⟩ : BufTy).Contents (Elt F)),
    unary main_v136 main_v137 (broadcastInDim S8x1152 ![0, 1] bcast_S1x1152_S8x1152_0_1 : (⟨S1x1152, .f32⟩ : BufTy).Contents (Elt F) → (⟨S8x1152, .f32⟩ : BufTy).Contents (Elt F)),
    unary main_arg12 main_v138 (broadcastInDim S64x25 ![0] bcast_S64_S64x25_0 : (⟨S64, .f32⟩ : BufTy).Contents (Elt F) → (⟨S64x25, .f32⟩ : BufTy).Contents (Elt F)),
    reshape main_v138 main_v139 (rfl : (.f32 : EltTy) = .f32) shapeCasts_S64x25_S1600,
    unary main_v139 main_v140 (broadcastInDim S1x1600 ![1] bcast_S1600_S1x1600_1 : (⟨S1600, .f32⟩ : BufTy).Contents (Elt F) → (⟨S1x1600, .f32⟩ : BufTy).Contents (Elt F)),
    unary main_v140 main_v141 (broadcastInDim S8x1600 ![0, 1] bcast_S1x1600_S8x1600_0_1 : (⟨S1x1600, .f32⟩ : BufTy).Contents (Elt F) → (⟨S8x1600, .f32⟩ : BufTy).Contents (Elt F)),
    unary main_arg14 main_v142 (broadcastInDim S32x169 ![0] bcast_S32_S32x169_0 : (⟨S32, .f32⟩ : BufTy).Contents (Elt F) → (⟨S32x169, .f32⟩ : BufTy).Contents (Elt F)),
    reshape main_v142 main_v143 (rfl : (.f32 : EltTy) = .f32) shapeCasts_S32x169_S5408,
    unary main_v143 main_v144 (broadcastInDim S1x5408 ![1] bcast_S5408_S1x5408_1 : (⟨S5408, .f32⟩ : BufTy).Contents (Elt F) → (⟨S1x5408, .f32⟩ : BufTy).Contents (Elt F)),
    unary main_v144 main_v145 (broadcastInDim S8x5408 ![0, 1] bcast_S1x5408_S8x5408_0_1 : (⟨S1x5408, .f32⟩ : BufTy).Contents (Elt F) → (⟨S8x5408, .f32⟩ : BufTy).Contents (Elt F)),
    unary main_arg16 main_v146 (broadcastInDim S1x784 ![0] bcast_S1_S1x784_0 : (⟨S1, .f32⟩ : BufTy).Contents (Elt F) → (⟨S1x784, .f32⟩ : BufTy).Contents (Elt F)),
    reshape main_v146 main_v147 (rfl : (.f32 : EltTy) = .f32) shapeCasts_S1x784_S784,
    unary main_v147 main_v148 (broadcastInDim S1x784 ![1] bcast_S784_S1x784_1 : (⟨S784, .f32⟩ : BufTy).Contents (Elt F) → (⟨S1x784, .f32⟩ : BufTy).Contents (Elt F)),
    unary main_v148 main_v149 (broadcastInDim S8x784 ![0, 1] bcast_S1x784_S8x784_0_1 : (⟨S1x784, .f32⟩ : BufTy).Contents (Elt F) → (⟨S8x784, .f32⟩ : BufTy).Contents (Elt F)) ]

/-- Operations of the dictionary, flattened. -/
abbrev flatDict : List (HloOp τ sig (Elt F)) :=
  [ unary main_arg17 main_v150 ((transpose S4x64 [1, 0] · transposes_S64x4_S4x64_1_0) : (⟨S64x4, .f32⟩ : BufTy).Contents (Elt F) → (⟨S4x64, .f32⟩ : BufTy).Contents (Elt F)),
    reshape main_v150 main_v151 (rfl : (.f32 : EltTy) = .f32) shapeCasts_S4x64_S256,
    unary main_v151 main_v152 (broadcastInDim S1x256 ![1] bcast_S256_S1x256_1 : (⟨S256, .f32⟩ : BufTy).Contents (Elt F) → (⟨S1x256, .f32⟩ : BufTy).Contents (Elt F)),
    unary main_v152 main_v153 (broadcastInDim S8x256 ![0, 1] bcast_S1x256_S8x256_0_1 : (⟨S1x256, .f32⟩ : BufTy).Contents (Elt F) → (⟨S8x256, .f32⟩ : BufTy).Contents (Elt F)) ]

/-- The buffers the operations write, in order. -/
def outs : List (Ref sig .tc) :=
  [main_cst, main_cst_0, main_cst_1, main_c, main_c_2, main_cst_3, main_c_4, main_c_5, main_cst_6, main_cst_7, main_cst_8,
   main_v0, main_v1, main_v2, main_v3, main_v4, main_v5, main_cst_9, main_v6, main_v7, main_v8, main_v9, main_v10, main_v11,
   main_cst_10, main_v12, main_v13, main_v14, main_v15, main_v16, main_v17, main_v18, main_v19, main_v20, main_cst_11,
   main_v21, main_v22, main_v23, main_v24, main_v25, main_v26, main_cst_12, main_v27, main_v28, main_v29, main_v30,
   main_v31, main_v32, main_v33, main_v34, main_v35, main_cst_13, main_v36, main_v37, main_v38, main_v39, main_v40,
   main_v41, main_cst_14, main_v42, main_v43, main_v44, main_c_15, main_v45, main_v46, main_v47, main_v48, main_v49,
   main_v50, main_v51, main_v52, main_v53, main_v54, main_v55, main_v56, main_v57, main_v58, main_cst_16, main_v59,
   main_v60, main_v61, main_v62, main_v63, main_v64, main_cst_17, main_v65, main_v66, main_v67, main_c_18, main_v68,
   main_v69, main_v70, main_v71, main_v72, main_v73, main_v74, main_v75, main_v76, main_v77, main_v78, main_cst_19,
   main_v79, main_v80, main_v81, main_v82, main_v83, main_v84, main_cst_20, main_v85, main_v86, main_v87, main_v88,
   main_v89, main_v90, main_v91, main_v92, main_v93, main_cst_21, main_v94, main_v95, main_v96, main_v97, main_v98,
   main_v99, main_cst_22, main_v100, main_v101, main_v102, main_v103, main_v104, main_v105, main_v106, main_v107, main_v108,
   main_cst_23, main_v109, main_v110, main_v111, main_v112, main_v113, main_v114, main_cst_24, main_v115, main_v116,
   main_v117, main_v118, main_v119, main_v120, main_v121, main_v122, main_v123, main_v124, main_v125, main_v126, main_v127,
   main_v128, main_v129, main_v130, main_v131, main_v132, main_v133, main_v134, main_v135, main_v136, main_v137, main_v138,
   main_v139, main_v140, main_v141, main_v142, main_v143, main_v144, main_v145, main_v146, main_v147, main_v148, main_v149,
   main_v150, main_v151, main_v152, main_v153]

/-- A buffer which the operations from the `n`-th on do not write keeps its contents through them. -/
theorem kept (n : Nat) (rest : List (HloOp τ sig (Elt Ideal)))
    (h : rest.map HloOp.writes = (outs.drop n).map fun r => {Proc.devRef (τ := τ) .tc r}) (r : Ref sig .tc) (hr : r ∉ outs.drop n)
    (V : Valuation τ sig (Elt Ideal)) : after rest V (Proc.devRef .tc r) = V (Proc.devRef .tc r) :=
  after_of_writes_sub rest V (forall_writes_sub_of_map h) hr

abbrev upTo2 : List (HloOp τ sig (Elt Ideal)) := start ++ mat1
abbrev upTo3 : List (HloOp τ sig (Elt Ideal)) := upTo2 ++ mat2
abbrev upTo4 : List (HloOp τ sig (Elt Ideal)) := upTo3 ++ mat3
abbrev upTo5 : List (HloOp τ sig (Elt Ideal)) := upTo4 ++ mat4
abbrev upTo6 : List (HloOp τ sig (Elt Ideal)) := upTo5 ++ tmat1
abbrev upTo7 : List (HloOp τ sig (Elt Ideal)) := upTo6 ++ tmat2
abbrev upTo8 : List (HloOp τ sig (Elt Ideal)) := upTo7 ++ tmat3
abbrev upTo9 : List (HloOp τ sig (Elt Ideal)) := upTo8 ++ tmat4
abbrev upTo10 : List (HloOp τ sig (Elt Ideal)) := upTo9 ++ biases
abbrev from10 : List (HloOp τ sig (Elt Ideal)) := flatDict
abbrev from9 : List (HloOp τ sig (Elt Ideal)) := biases ++ from10
abbrev from8 : List (HloOp τ sig (Elt Ideal)) := tmat4 ++ from9
abbrev from7 : List (HloOp τ sig (Elt Ideal)) := tmat3 ++ from8
abbrev from6 : List (HloOp τ sig (Elt Ideal)) := tmat2 ++ from7
abbrev from5 : List (HloOp τ sig (Elt Ideal)) := tmat1 ++ from6
abbrev from4 : List (HloOp τ sig (Elt Ideal)) := mat4 ++ from5
abbrev from3 : List (HloOp τ sig (Elt Ideal)) := mat3 ++ from4
abbrev from2 : List (HloOp τ sig (Elt Ideal)) := mat2 ++ from3
abbrev from1 : List (HloOp τ sig (Elt Ideal)) := mat1 ++ from2

variable (W : Valuation τ sig (Elt Ideal))

/-- What buffer `b` holds when the region starts, from the contents `W`. -/
def E (b : Ref sig .tc) := after (hostOps0 (F := Ideal)) W (Proc.devRef .tc b)

/-- A piece of the operations: its operands are as those before it leave them, its results as it leaves them itself. -/
theorem at_piece (pre piece rest : List (HloOp τ sig (Elt Ideal))) (n k : Nat) (e : hostOps0 = pre ++ (piece ++ rest))
    (hp : (piece ++ rest).map HloOp.writes = (outs.drop n).map fun r => {Proc.devRef (τ := τ) .tc r})
    (hr : rest.map HloOp.writes = (outs.drop k).map fun r => {Proc.devRef (τ := τ) .tc r}) :
    (∀ r, r ∉ outs.drop n → E W r = after pre W (Proc.devRef .tc r)) ∧
      (∀ r, r ∉ outs.drop k → E W r = after piece (after pre W) (Proc.devRef .tc r)) := by
  refine ⟨fun r h => ?_, fun r h => ?_⟩
  · unfold E; rw [e, after_append]; exact kept n _ hp r h _
  · unfold E; rw [e, after_append, after_append]; exact kept k _ hr r h _

end Cert.KerRun

end
-- ==== Proof.KerTables.lean ====
/-
  What the kernel's region is given: the matrices of the layers, the biases, and the dictionary, read at one entry.
-/
module

public import proofs.«01_k».proof.Proof.KerOps

@[expose] public section

set_option maxRecDepth 16384

noncomputable section

namespace Cert.KerRun

open Cert.KernelIdeal Cert.KernelIdeal.Gen Idealize.ShloMosaic Idealize.ShloMosaic.TcCoe Idealize.SL.Sem Idealize.ShloMosaic.StableHlo
open Cert.Conv

variable (W : Valuation τ sig (Elt Ideal))

/-- A real array, at its shape. -/
abbrev rd (s : Shape) (x : s.Idx → EReal) : s.Idx → EReal := x

/-- An integer array, at its shape. -/
abbrev rdi (s : Shape) (x : s.Idx → BitVec 32) : s.Idx → BitVec 32 := x

/-- A truth value stored as the number 1 or 0. -/
theorem ofBits_ite (p : Prop) [Decidable p] : Ideal.ofBits .f32 (if p then 0x3F800000#32 else 0#32) = if p then 1 else 0 := by
  split
  · exact Ideal.ofBits_one_f32
  · exact Ideal.ofBits_zero_f32

/-! The tables of selectors, and of the regroupings. -/

theorem select28 (h : Fin 28) (i : Fin 5) (r : Fin 14) :
    rd S28x5x14 (E W main_cst) (ix3 h i r) = if tap 2 2 1 h i r then 1 else 0 := by
  obtain ⟨-, ko⟩ := at_piece W [] start from1 0 12 rfl rfl rfl
  rw [ko main_cst (by decide)]
  after_results_simp
  have e : ∀ (h : Fin 28) (i : Fin 5) (r : Fin 14), lit0 (S28x5x14.rowMajor (ix3 h i r)) = if tap 2 2 1 h i r then 0x3F800000#32 else 0#32 := by
    decide +kernel
  exact (congrArg (Ideal.ofBits .f32) (e h i r)).trans (ofBits_ite _)

theorem select14 (h : Fin 14) (i : Fin 5) (r : Fin 7) :
    rd S14x5x7 (E W main_cst_0) (ix3 h i r) = if tap 2 2 1 h i r then 1 else 0 := by
  obtain ⟨-, ko⟩ := at_piece W [] start from1 0 12 rfl rfl rfl
  rw [ko main_cst_0 (by decide)]
  after_results_simp
  have e : ∀ (h : Fin 14) (i : Fin 5) (r : Fin 7), lit1 (S14x5x7.rowMajor (ix3 h i r)) = if tap 2 2 1 h i r then 0x3F800000#32 else 0#32 := by
    decide +kernel
  exact (congrArg (Ideal.ofBits .f32) (e h i r)).trans (ofBits_ite _)

theorem select7 (h : Fin 7) (i : Fin 5) (r : Fin 4) :
    rd S7x5x4 (E W main_cst_1) (ix3 h i r) = if tap 2 2 1 h i r then 1 else 0 := by
  obtain ⟨-, ko⟩ := at_piece W [] start from1 0 12 rfl rfl rfl
  rw [ko main_cst_1 (by decide)]
  after_results_simp
  have e : ∀ (h : Fin 7) (i : Fin 5) (r : Fin 4), lit2 (S7x5x4.rowMajor (ix3 h i r)) = if tap 2 2 1 h i r then 0x3F800000#32 else 0#32 := by
    decide +kernel
  exact (congrArg (Ideal.ofBits .f32) (e h i r)).trans (ofBits_ite _)

theorem select2 (h : Fin 2) (i : Fin 5) (r : Fin 3) :
    rd S2x5x3 (E W main_cst_3) (ix3 h i r) = if tap 1 2 2 h i.rev r then 1 else 0 := by
  obtain ⟨-, ko⟩ := at_piece W [] start from1 0 12 rfl rfl rfl
  rw [ko main_cst_3 (by decide)]
  after_results_simp
  have e : ∀ (h : Fin 2) (i : Fin 5) (r : Fin 3), lit4 (S2x5x3.rowMajor (ix3 h i r)) = if tap 1 2 2 h i.rev r then 0x3F800000#32 else 0#32 := by
    decide +kernel
  exact (congrArg (Ideal.ofBits .f32) (e h i r)).trans (ofBits_ite _)

theorem select3 (h : Fin 3) (i : Fin 5) (r : Fin 5) :
    rd S3x5x5 (E W main_cst_6) (ix3 h i r) = if tap 1 2 2 h i.rev r then 1 else 0 := by
  obtain ⟨-, ko⟩ := at_piece W [] start from1 0 12 rfl rfl rfl
  rw [ko main_cst_6 (by decide)]
  after_results_simp
  have e : ∀ (h : Fin 3) (i : Fin 5) (r : Fin 5), lit6 (S3x5x5.rowMajor (ix3 h i r)) = if tap 1 2 2 h i.rev r then 0x3F800000#32 else 0#32 := by
    decide +kernel
  exact (congrArg (Ideal.ofBits .f32) (e h i r)).trans (ofBits_ite _)

theorem select5 (h : Fin 5) (i : Fin 5) (r : Fin 13) :
    rd S5x5x13 (E W main_cst_7) (ix3 h i r) = if tap 1 4 2 h i.rev r then 1 else 0 := by
  obtain ⟨-, ko⟩ := at_piece W [] start from1 0 12 rfl rfl rfl
  rw [ko main_cst_7 (by decide)]
  after_results_simp
  have e : ∀ (h : Fin 5) (i : Fin 5) (r : Fin 13), lit7 (S5x5x13.rowMajor (ix3 h i r)) = if tap 1 4 2 h i.rev r then 0x3F800000#32 else 0#32 := by
    decide +kernel
  exact (congrArg (Ideal.ofBits .f32) (e h i r)).trans (ofBits_ite _)

theorem select13 (h : Fin 13) (i : Fin 5) (r : Fin 28) :
    rd S13x5x28 (E W main_cst_8) (ix3 h i r) = if tap 1 4 2 h i.rev r then 1 else 0 := by
  obtain ⟨-, ko⟩ := at_piece W [] start from1 0 12 rfl rfl rfl
  rw [ko main_cst_8 (by decide)]
  after_results_simp
  have e : ∀ (h : Fin 13) (i : Fin 5) (r : Fin 28), lit8 (S13x5x28.rowMajor (ix3 h i r)) = if tap 1 4 2 h i.rev r then 0x3F800000#32 else 0#32 := by
    decide +kernel
  exact (congrArg (Ideal.ofBits .f32) (e h i r)).trans (ofBits_ite _)

theorem columns16 (l : Fin 1024) : (rdi S1024 (E W main_c) (ix1 l)).toInt.toNat = l.val % 64 * 16 + l.val / 64 := by
  obtain ⟨-, ko⟩ := at_piece W [] start from1 0 12 rfl rfl rfl
  rw [ko main_c (by decide)]
  after_results_simp
  have e : ∀ l : Fin 1024, (lit3 (S1024.rowMajor (ix1 l))).toInt.toNat = l.val % 64 * 16 + l.val / 64 := by decide +kernel
  exact e l

theorem rows4 (l : Fin 16) : (rdi S16 (E W main_c_4) (ix1 l)).toInt.toNat = l.val % 4 * 4 + l.val / 4 := by
  obtain ⟨-, ko⟩ := at_piece W [] start from1 0 12 rfl rfl rfl
  rw [ko main_c_4 (by decide)]
  after_results_simp
  have e : ∀ l : Fin 16, (lit5 (S16.rowMajor (ix1 l))).toInt.toNat = l.val % 4 * 4 + l.val / 4 := by decide +kernel
  exact e l

theorem columns_plain : E W main_c_2 = constantI S1024 1 0#1 := by
  obtain ⟨-, ko⟩ := at_piece W [] start from1 0 12 rfl rfl rfl
  rw [ko main_c_2 (by decide)]
  after_results_simp

theorem rows_plain : E W main_c_5 = constantI S16 1 0#1 := by
  obtain ⟨-, ko⟩ := at_piece W [] start from1 0 12 rfl rfl rfl
  rw [ko main_c_5 (by decide)]
  after_results_simp

/-- The images, flattened. -/
theorem images_at (b : Fin 2048) (h v : Fin 28) (k : Fin 784) (hk : k.val = h.val * 28 + v.val) :
    rd S2048x784 (E W main_v0) (ix2 b k) = rd S2048x1x28x28 (E W main_arg0) (ix4 b 0 h v) := by
  obtain ⟨ki, ko⟩ := at_piece W [] start from1 0 12 rfl rfl rfl
  rw [ko main_v0 (by decide), ki main_arg0 (by decide)]
  after_results_simp
  refine reshape_at (s := S2048x1x28x28) (t := S2048x784) _ _ (ix2 b k) (ix4 b 0 h v) ?_
  rw [rowMajor_val4 _ _ _ _ rfl rfl rfl, rowMajor_val2 _ _ rfl]
  show b.val * (1 * (28 * 28)) + 0 * (28 * 28) + h.val * 28 + v.val = b.val * 784 + k.val
  omega

end Cert.KerRun

end
-- ==== Proof.KerMatA.lean ====
/-
  The matrices of the encoder, read at one entry.
-/
module

public import proofs.«01_k».proof.Proof.KerTables

@[expose] public section

set_option maxRecDepth 16384

noncomputable section

namespace Cert.KerRun

open Cert.KernelIdeal Cert.KernelIdeal.Gen Idealize.ShloMosaic Idealize.ShloMosaic.TcCoe Idealize.SL.Sem Idealize.ShloMosaic.StableHlo
open Cert.Conv

variable (W : Valuation τ sig (Elt Ideal))

/-- A cast to fewer bits changes nothing. -/
theorem trunc_at {s : Shape} (x : FVec Ideal s .f32) (h : FTy.bits .bf16 < FTy.bits .f32) (j : s.Idx) : rd s (truncf (F := Ideal) .bf16 x h) j = x j := rfl

theorem mat1_at (o : Fin 16) (c : Fin 1) (h v : Fin 28) (r t : Fin 14) (k : Fin 784) (l : Fin 3136)
    (hk : k.val = (c.val * 28 + h.val) * 28 + v.val) (hl : l.val = (o.val * 14 + r.val) * 14 + t.val) :
    rd S784x3136 (E W main_v15) (ix2 k l) = sel 2 2 1 (fun i j => rd S16x1x5x5 (E W main_arg1) (ix4 o c i j)) h v r t := by
  obtain ⟨ki, ko⟩ := at_piece W start mat1 from2 12 29 rfl rfl rfl
  have hS := select28 W
  rw [ki main_cst (by decide)] at hS
  rw [ko main_v15 (by decide), ki main_arg1 (by decide)]
  generalize after start W = U at *
  after_results_simp
  refine (trunc_at _ _ _).trans ?_
  beta_reduce
  show shapeCast S784x3136 (transpose (s := S16x1x28x28x14x14) S1x28x28x16x14x14 [1, 2, 3, 0, 4, 5] _ transposes_S16x1x28x28x14x14_S1x28x28x16x14x14_1_2_3_0_4_5) shapeCasts_S1x28x28x16x14x14_S784x3136 (ix2 k l) = _
  refine (flat_at _ _ _ (by norm_num) o c h v r t k l hk hl).trans ?_
  refine (selected_at _ _ _ _ _ Ideal.ofBits_zero_f32 _ Ideal.ofBits_zero_f32 _ _ _ _ _ _ _ _ _ _ o c h v r t).trans ?_
  exact sel_of 2 2 1 (fun i j => rd S16x1x5x5 (U (Proc.devRef .tc main_arg1)) (ix4 o c i j)) _ hS h v r t

theorem mat2_at (o : Fin 32) (c : Fin 16) (h v : Fin 14) (r t : Fin 7) (k : Fin 3136) (l : Fin 1568)
    (hk : k.val = (c.val * 14 + h.val) * 14 + v.val) (hl : l.val = (o.val * 7 + r.val) * 7 + t.val) :
    rd S3136x1568 (E W main_v30) (ix2 k l) = sel 2 2 1 (fun i j => rd S32x16x5x5 (E W main_arg3) (ix4 o c i j)) h v r t := by
  obtain ⟨ki, ko⟩ := at_piece W upTo2 mat2 from3 29 46 rfl rfl rfl
  have hS := select14 W
  rw [ki main_cst_0 (by decide)] at hS
  rw [ko main_v30 (by decide), ki main_arg3 (by decide)]
  generalize after upTo2 W = U at *
  after_results_simp
  refine (trunc_at _ _ _).trans ?_
  beta_reduce
  show shapeCast S3136x1568 (transpose (s := S32x16x14x14x7x7) S16x14x14x32x7x7 [1, 2, 3, 0, 4, 5] _ transposes_S32x16x14x14x7x7_S16x14x14x32x7x7_1_2_3_0_4_5) shapeCasts_S16x14x14x32x7x7_S3136x1568 (ix2 k l) = _
  refine (flat_at _ _ _ (by norm_num) o c h v r t k l hk hl).trans ?_
  refine (selected_at _ _ _ _ _ Ideal.ofBits_zero_f32 _ Ideal.ofBits_zero_f32 _ _ _ _ _ _ _ _ _ _ o c h v r t).trans ?_
  exact sel_of 2 2 1 (fun i j => rd S32x16x5x5 (U (Proc.devRef .tc main_arg3)) (ix4 o c i j)) _ hS h v r t

theorem mat3_at (o : Fin 64) (c : Fin 32) (h v : Fin 7) (r t : Fin 4) (k : Fin 1568) (l : Fin 1024)
    (hk : k.val = (c.val * 7 + h.val) * 7 + v.val) (hl : l.val = (r.val * 4 + t.val) * 64 + o.val) :
    rd S1568x1024 (E W main_v50) (ix2 k l) = sel 2 2 1 (fun i j => rd S64x32x5x5 (E W main_arg5) (ix4 o c i j)) h v r t := by
  obtain ⟨ki, ko⟩ := at_piece W upTo3 mat3 from4 46 69 rfl rfl rfl
  have hS := select7 W
  have hg := columns16 W
  have hp := columns_plain W
  rw [ki main_cst_1 (by decide)] at hS
  rw [ki main_c (by decide)] at hg
  rw [ki main_c_2 (by decide)] at hp
  rw [ko main_v50 (by decide), ki main_arg5 (by decide)]
  generalize after upTo3 W = U at *
  after_results_simp
  refine (trunc_at _ _ _).trans ?_
  beta_reduce
  show Host.gather gather_S1568x1024_S1024x1_S1568x1024_0_1_n_n_1_1_15681 (shapeCast S1568x1024 (transpose (s := S64x32x7x7x4x4) S32x7x7x64x4x4 [1, 2, 3, 0, 4, 5] _ transposes_S64x32x7x7x4x4_S32x7x7x64x4x4_1_2_3_0_4_5) shapeCasts_S32x7x7x64x4x4_S1568x1024) _ (ix2 k l) = _
  rw [hp]
  refine (columns_at _ rfl rfl rfl rfl rfl rfl rfl _ _ k l ⟨(o.val * 4 + r.val) * 4 + t.val, by omega⟩ ?_).trans ?_
  · refine Eq.trans ?_ ((hg l).trans ?_)
    · exact congrArg (fun e : BitVec 32 => e.toInt.toNat) ((bcast_at _ _ _ _ (ix1 l) (fun a => match a with | ⟨0, _⟩ => .inr rfl)).trans rfl)
    · show _ = (o.val * 4 + r.val) * 4 + t.val
      omega
  refine (flat_at _ _ _ (by norm_num) o c h v r t k _ hk rfl).trans ?_
  refine (selected_at _ _ _ _ _ Ideal.ofBits_zero_f32 _ Ideal.ofBits_zero_f32 _ _ _ _ _ _ _ _ _ _ o c h v r t).trans ?_
  exact sel_of 2 2 1 (fun i j => rd S64x32x5x5 (U (Proc.devRef .tc main_arg5)) (ix4 o c i j)) _ hS h v r t

theorem mat4_at (i j : Fin 5) (c : Fin 64) (o : Fin 4) (k : Fin 1600) (hk : k.val = (i.val * 5 + j.val) * 64 + c.val) :
    rd S1600x4 (E W main_v53) (ix2 k o) = rd S4x64x5x5 (E W main_arg7) (ix4 o c i j) := by
  obtain ⟨ki, ko⟩ := at_piece W upTo4 mat4 from5 69 72 rfl rfl rfl
  rw [ko main_v53 (by decide), ki main_arg7 (by decide)]
  generalize after upTo4 W = U at *
  after_results_simp
  refine (trunc_at _ _ _).trans ?_
  beta_reduce
  show shapeCast S1600x4 (transpose (s := S4x64x5x5) S5x5x64x4 [2, 3, 1, 0] _ transposes_S4x64x5x5_S5x5x64x4_2_3_1_0) shapeCasts_S5x5x64x4_S1600x4 (ix2 k o) = _
  refine (reshape_at (s := S5x5x64x4) (t := S1600x4) _ _ (ix2 k o) (ix4 i j c o) ?_).trans ?_
  · rw [rowMajor_val4 _ _ _ _ rfl rfl rfl, rowMajor_val2 _ _ rfl]
    show i.val * (5 * (64 * 4)) + j.val * (64 * 4) + c.val * 4 + o.val = k.val * 4 + o.val
    omega
  · exact congrArg (U (Proc.devRef .tc main_arg7)) (funext fun a => match a with | ⟨0, _⟩ => rfl | ⟨1, _⟩ => rfl | ⟨2, _⟩ => rfl | ⟨3, _⟩ => rfl)

end Cert.KerRun

end
-- ==== Proof.KerMatB.lean ====
/-
  The matrices of the decoder, read at one entry.
-/
module

public import proofs.«01_k».proof.Proof.KerMatA

@[expose] public section

set_option maxRecDepth 16384

noncomputable section

namespace Cert.KerRun

open Cert.KernelIdeal Cert.KernelIdeal.Gen Idealize.ShloMosaic Idealize.ShloMosaic.TcCoe Idealize.SL.Sem Idealize.ShloMosaic.StableHlo
open Cert.Conv

variable (W : Valuation τ sig (Elt Ideal))

theorem tmat1_at (c : Fin 4) (o : Fin 128) (h v : Fin 2) (r t : Fin 3) (k : Fin 16) (l : Fin 1152)
    (hk : k.val = (h.val * 2 + v.val) * 4 + c.val) (hl : l.val = (o.val * 3 + r.val) * 3 + t.val) :
    rd S16x1152 (E W main_v73) (ix2 k l) = sel 1 2 2 (fun i j => rd S4x128x5x5 (E W main_arg9) (ix4 c o i.rev j.rev)) h v r t := by
  obtain ⟨ki, ko⟩ := at_piece W upTo5 tmat1 from6 72 95 rfl rfl rfl
  have hS := select2 W
  have hg := rows4 W
  have hp := rows_plain W
  rw [ki main_cst_3 (by decide)] at hS
  rw [ki main_c_4 (by decide)] at hg
  rw [ki main_c_5 (by decide)] at hp
  rw [ko main_v73 (by decide), ki main_arg9 (by decide)]
  generalize after upTo5 W = U at *
  after_results_simp
  refine (trunc_at _ _ _).trans ?_
  beta_reduce
  show Host.gather gather_S16x1152_S16x1_S16x1152_1_0_n_n_0_1_11152 (shapeCast S16x1152 (transpose (s := S4x128x2x2x3x3) S4x2x2x128x3x3 [0, 2, 3, 1, 4, 5] _ transposes_S4x128x2x2x3x3_S4x2x2x128x3x3_0_2_3_1_4_5) shapeCasts_S4x2x2x128x3x3_S16x1152) _ (ix2 k l) = _
  rw [hp]
  refine (rows_at _ rfl rfl rfl rfl rfl rfl rfl _ _ k ⟨(c.val * 2 + h.val) * 2 + v.val, by omega⟩ l ?_).trans ?_
  · refine Eq.trans ?_ ((hg k).trans ?_)
    · exact congrArg (fun e : BitVec 32 => e.toInt.toNat) ((bcast_at _ _ _ _ (ix1 k) (fun a => match a with | ⟨0, _⟩ => .inr rfl)).trans rfl)
    · show _ = (c.val * 2 + h.val) * 2 + v.val
      omega
  refine (flatT_at _ _ _ (by norm_num) c o h v r t _ l rfl hl).trans ?_
  refine (selected_at _ _ _ _ _ Ideal.ofBits_zero_f32 _ Ideal.ofBits_zero_f32 _ _ _ _ _ _ _ _ _ _ c o h v r t).trans ?_
  exact sel_of_rev 1 2 2 (fun i j => rd S4x128x5x5 (U (Proc.devRef .tc main_arg9)) (ix4 c o i j)) _ hS h v r t

theorem tmat2_at (c : Fin 128) (o : Fin 64) (h v : Fin 3) (r t : Fin 5) (k : Fin 1152) (l : Fin 1600)
    (hk : k.val = (c.val * 3 + h.val) * 3 + v.val) (hl : l.val = (o.val * 5 + r.val) * 5 + t.val) :
    rd S1152x1600 (E W main_v88) (ix2 k l) = sel 1 2 2 (fun i j => rd S128x64x5x5 (E W main_arg11) (ix4 c o i.rev j.rev)) h v r t := by
  obtain ⟨ki, ko⟩ := at_piece W upTo6 tmat2 from7 95 112 rfl rfl rfl
  have hS := select3 W
  rw [ki main_cst_6 (by decide)] at hS
  rw [ko main_v88 (by decide), ki main_arg11 (by decide)]
  generalize after upTo6 W = U at *
  after_results_simp
  refine (trunc_at _ _ _).trans ?_
  beta_reduce
  show shapeCast S1152x1600 (transpose (s := S128x64x3x3x5x5) S128x3x3x64x5x5 [0, 2, 3, 1, 4, 5] _ transposes_S128x64x3x3x5x5_S128x3x3x64x5x5_0_2_3_1_4_5) shapeCasts_S128x3x3x64x5x5_S1152x1600 (ix2 k l) = _
  refine (flatT_at _ _ _ (by norm_num) c o h v r t k l hk hl).trans ?_
  refine (selected_at _ _ _ _ _ Ideal.ofBits_zero_f32 _ Ideal.ofBits_zero_f32 _ _ _ _ _ _ _ _ _ _ c o h v r t).trans ?_
  exact sel_of_rev 1 2 2 (fun i j => rd S128x64x5x5 (U (Proc.devRef .tc main_arg11)) (ix4 c o i j)) _ hS h v r t

theorem tmat3_at (c : Fin 64) (o : Fin 32) (h v : Fin 5) (r t : Fin 13) (k : Fin 1600) (l : Fin 5408)
    (hk : k.val = (c.val * 5 + h.val) * 5 + v.val) (hl : l.val = (o.val * 13 + r.val) * 13 + t.val) :
    rd S1600x5408 (E W main_v103) (ix2 k l) = sel 1 4 2 (fun i j => rd S64x32x5x5 (E W main_arg13) (ix4 c o i.rev j.rev)) h v r t := by
  obtain ⟨ki, ko⟩ := at_piece W upTo7 tmat3 from8 112 129 rfl rfl rfl
  have hS := select5 W
  rw [ki main_cst_7 (by decide)] at hS
  rw [ko main_v103 (by decide), ki main_arg13 (by decide)]
  generalize after upTo7 W = U at *
  after_results_simp
  refine (trunc_at _ _ _).trans ?_
  beta_reduce
  show shapeCast S1600x5408 (transpose (s := S64x32x5x5x13x13) S64x5x5x32x13x13 [0, 2, 3, 1, 4, 5] _ transposes_S64x32x5x5x13x13_S64x5x5x32x13x13_0_2_3_1_4_5) shapeCasts_S64x5x5x32x13x13_S1600x5408 (ix2 k l) = _
  refine (flatT_at _ _ _ (by norm_num) c o h v r t k l hk hl).trans ?_
  refine (selected_at _ _ _ _ _ Ideal.ofBits_zero_f32 _ Ideal.ofBits_zero_f32 _ _ _ _ _ _ _ _ _ _ c o h v r t).trans ?_
  exact sel_of_rev 1 4 2 (fun i j => rd S64x32x5x5 (U (Proc.devRef .tc main_arg13)) (ix4 c o i j)) _ hS h v r t

theorem tmat4_at (c : Fin 32) (o : Fin 1) (h v : Fin 13) (r t : Fin 28) (k : Fin 5408) (l : Fin 784)
    (hk : k.val = (c.val * 13 + h.val) * 13 + v.val) (hl : l.val = (o.val * 28 + r.val) * 28 + t.val) :
    rd S5408x784 (E W main_v118) (ix2 k l) = sel 1 4 2 (fun i j => rd S32x1x5x5 (E W main_arg15) (ix4 c o i.rev j.rev)) h v r t := by
  obtain ⟨ki, ko⟩ := at_piece W upTo8 tmat4 from9 129 146 rfl rfl rfl
  have hS := select13 W
  rw [ki main_cst_8 (by decide)] at hS
  rw [ko main_v118 (by decide), ki main_arg15 (by decide)]
  generalize after upTo8 W = U at *
  after_results_simp
  refine (trunc_at _ _ _).trans ?_
  beta_reduce
  show shapeCast S5408x784 (transpose (s := S32x1x13x13x28x28) S32x13x13x1x28x28 [0, 2, 3, 1, 4, 5] _ transposes_S32x1x13x13x28x28_S32x13x13x1x28x28_0_2_3_1_4_5) shapeCasts_S32x13x13x1x28x28_S5408x784 (ix2 k l) = _
  refine (flatT_at _ _ _ (by norm_num) c o h v r t k l hk hl).trans ?_
  refine (selected_at _ _ _ _ _ Ideal.ofBits_zero_f32 _ Ideal.ofBits_zero_f32 _ _ _ _ _ _ _ _ _ _ c o h v r t).trans ?_
  exact sel_of_rev 1 4 2 (fun i j => rd S32x1x5x5 (U (Proc.devRef .tc main_arg15)) (ix4 c o i j)) _ hS h v r t

end Cert.KerRun

end
-- ==== Proof.KerBias.lean ====
/-
  The biases and the dictionary as the region is given them, read at one entry.
-/
module

public import proofs.«01_k».proof.Proof.KerTables

@[expose] public section

set_option maxRecDepth 16384

noncomputable section

namespace Cert.KerRun

open Cert.KernelIdeal Cert.KernelIdeal.Gen Idealize.ShloMosaic Idealize.ShloMosaic.TcCoe Idealize.SL.Sem Idealize.ShloMosaic.StableHlo
open Cert.Conv

variable (W : Valuation τ sig (Elt Ideal))

theorem bias1_at (g : Fin 8) (o : Fin 16) (p : Fin 196) (l : Fin 3136) (hl : l.val = o.val * 196 + p.val) :
    rd S8x3136 (E W main_v122) (ix2 g l) = rd S16 (E W main_arg2) (ix1 o) := by
  obtain ⟨ki, ko⟩ := at_piece W upTo9 biases from10 146 177 rfl rfl rfl
  rw [ko main_v122 (by decide), ki main_arg2 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S16x196) (t := S3136) _ _ (ix1 l) (ix2 o p) ?_).trans ?_
  swap
  · exact bcast_at _ _ _ _ (ix1 o) (fun a => match a with | ⟨0, _⟩ => .inr rfl)
  rw [rowMajor_val2 _ _ rfl, rowMajor_val1]
  show o.val * 196 + p.val = l.val
  omega

theorem bias2_at (g : Fin 8) (o : Fin 32) (p : Fin 49) (l : Fin 1568) (hl : l.val = o.val * 49 + p.val) :
    rd S8x1568 (E W main_v126) (ix2 g l) = rd S32 (E W main_arg4) (ix1 o) := by
  obtain ⟨ki, ko⟩ := at_piece W upTo9 biases from10 146 177 rfl rfl rfl
  rw [ko main_v126 (by decide), ki main_arg4 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S32x49) (t := S1568) _ _ (ix1 l) (ix2 o p) ?_).trans ?_
  swap
  · exact bcast_at _ _ _ _ (ix1 o) (fun a => match a with | ⟨0, _⟩ => .inr rfl)
  rw [rowMajor_val2 _ _ rfl, rowMajor_val1]
  show o.val * 49 + p.val = l.val
  omega

theorem bias3_at (g : Fin 8) (p : Fin 16) (o : Fin 64) (l : Fin 1024) (hl : l.val = p.val * 64 + o.val) :
    rd S8x1024 (E W main_v131) (ix2 g l) = rd S64 (E W main_arg6) (ix1 o) := by
  obtain ⟨ki, ko⟩ := at_piece W upTo9 biases from10 146 177 rfl rfl rfl
  rw [ko main_v131 (by decide), ki main_arg6 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S16x64) (t := S1024) _ _ (ix1 l) (ix2 p o) ?_).trans
    (Eq.trans (bcast_at _ _ _ _ (ix2 0 o) (fun a => match a with | ⟨0, _⟩ => .inl rfl | ⟨1, _⟩ => .inr rfl)) (reshape_at (s := S64) (t := S1x64) _ _ (ix2 0 o) (ix1 o) ?_))
  · rw [rowMajor_val2 _ _ rfl, rowMajor_val1]
    show p.val * 64 + o.val = l.val
    omega
  · rw [rowMajor_val2 _ _ rfl, rowMajor_val1]
    show o.val = 0 * 64 + o.val
    omega

theorem bias4_at (g : Fin 8) (o : Fin 4) : rd S8x4 (E W main_v133) (ix2 g o) = rd S4 (E W main_arg8) (ix1 o) := by
  obtain ⟨ki, ko⟩ := at_piece W upTo9 biases from10 146 177 rfl rfl rfl
  rw [ko main_v133 (by decide), ki main_arg8 (by decide)]
  generalize after upTo9 W = U at *
  after_results_simp
  refine Eq.trans (bcast_at _ _ _ _ (ix2 0 o) (fun a => match a with | ⟨0, _⟩ => .inl rfl | ⟨1, _⟩ => .inr rfl)) ?_
  exact bcast_at _ _ _ _ (ix1 o) (fun a => match a with | ⟨0, _⟩ => .inr rfl)

theorem tbias1_at (g : Fin 8) (o : Fin 128) (p : Fin 9) (l : Fin 1152) (hl : l.val = o.val * 9 + p.val) :
    rd S8x1152 (E W main_v137) (ix2 g l) = rd S128 (E W main_arg10) (ix1 o) := by
  obtain ⟨ki, ko⟩ := at_piece W upTo9 biases from10 146 177 rfl rfl rfl
  rw [ko main_v137 (by decide), ki main_arg10 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S128x9) (t := S1152) _ _ (ix1 l) (ix2 o p) ?_).trans ?_
  swap
  · exact bcast_at _ _ _ _ (ix1 o) (fun a => match a with | ⟨0, _⟩ => .inr rfl)
  rw [rowMajor_val2 _ _ rfl, rowMajor_val1]
  show o.val * 9 + p.val = l.val
  omega

theorem tbias2_at (g : Fin 8) (o : Fin 64) (p : Fin 25) (l : Fin 1600) (hl : l.val = o.val * 25 + p.val) :
    rd S8x1600 (E W main_v141) (ix2 g l) = rd S64 (E W main_arg12) (ix1 o) := by
  obtain ⟨ki, ko⟩ := at_piece W upTo9 biases from10 146 177 rfl rfl rfl
  rw [ko main_v141 (by decide), ki main_arg12 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S64x25) (t := S1600) _ _ (ix1 l) (ix2 o p) ?_).trans ?_
  swap
  · exact bcast_at _ _ _ _ (ix1 o) (fun a => match a with | ⟨0, _⟩ => .inr rfl)
  rw [rowMajor_val2 _ _ rfl, rowMajor_val1]
  show o.val * 25 + p.val = l.val
  omega

theorem tbias3_at (g : Fin 8) (o : Fin 32) (p : Fin 169) (l : Fin 5408) (hl : l.val = o.val * 169 + p.val) :
    rd S8x5408 (E W main_v145) (ix2 g l) = rd S32 (E W main_arg14) (ix1 o) := by
  obtain ⟨ki, ko⟩ := at_piece W upTo9 biases from10 146 177 rfl rfl rfl
  rw [ko main_v145 (by decide), ki main_arg14 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S32x169) (t := S5408) _ _ (ix1 l) (ix2 o p) ?_).trans ?_
  swap
  · exact bcast_at _ _ _ _ (ix1 o) (fun a => match a with | ⟨0, _⟩ => .inr rfl)
  rw [rowMajor_val2 _ _ rfl, rowMajor_val1]
  show o.val * 169 + p.val = l.val
  omega

theorem tbias4_at (g : Fin 8) (o : Fin 1) (p : Fin 784) (l : Fin 784) (hl : l.val = o.val * 784 + p.val) :
    rd S8x784 (E W main_v149) (ix2 g l) = rd S1 (E W main_arg16) (ix1 o) := by
  obtain ⟨ki, ko⟩ := at_piece W upTo9 biases from10 146 177 rfl rfl rfl
  rw [ko main_v149 (by decide), ki main_arg16 (by decide)]
  generalize after upTo9 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S1x784) (t := S784) _ _ (ix1 l) (ix2 o p) ?_).trans ?_
  swap
  · exact bcast_at _ _ _ _ (ix1 o) (fun a => match a with | ⟨0, _⟩ => .inl rfl)
  rw [rowMajor_val2 _ _ rfl, rowMajor_val1]
  show o.val * 784 + p.val = l.val
  omega

theorem flatDict_at (g : Fin 8) (c : Fin 4) (n : Fin 64) (l : Fin 256) (hl : l.val = c.val * 64 + n.val) :
    rd S8x256 (E W main_v153) (ix2 g l) = rd S64x4 (E W main_arg17) (ix2 n c) := by
  obtain ⟨ki, ko⟩ := at_piece W upTo10 flatDict [] 177 181 rfl rfl rfl
  rw [ko main_v153 (by decide), ki main_arg17 (by decide)]
  generalize after upTo10 W = U at *
  after_results_simp
  refine Eq.trans (bcast_at _ _ _ _ (ix2 0 l) (fun a => match a with | ⟨0, _⟩ => .inl rfl | ⟨1, _⟩ => .inr rfl)) ?_
  refine Eq.trans (bcast_at _ _ _ _ (ix1 l) (fun a => match a with | ⟨0, _⟩ => .inr rfl)) ?_
  refine (reshape_at (s := S4x64) (t := S256) _ _ (ix1 l) (ix2 c n) ?_).trans ?_
  · rw [rowMajor_val2 _ _ rfl, rowMajor_val1]
    show c.val * 64 + n.val = l.val
    omega
  · exact congrArg (U (Proc.devRef .tc main_arg17)) (funext fun a => match a with | ⟨0, _⟩ => rfl | ⟨1, _⟩ => rfl)

end Cert.KerRun

end
-- ==== Proof.KerReads.lean ====
/-
  The arrays a point of the kernel's grid reads hold the network's weights and the point's 128 images.
-/
module

public import proofs.«01_k».proof.Proof.KerPoint
public import proofs.«01_k».proof.Proof.KerMatB
public import proofs.«01_k».proof.Proof.KerBias
public import Idealize.ShloMosaic.Lib.Pipeline.ValueKit.Tiles

@[expose] public section

set_option maxRecDepth 16384

noncomputable section

namespace Cert.KerRun

open Cert.KernelIdeal Cert.KernelIdeal.Gen Idealize.ShloMosaic Idealize.ShloMosaic.TcCoe Cert.Conv Cert.Blk

section
variable (W : Valuation τ sig (Elt Ideal))

/-- The network's weights, as the kernel's arguments hold them. -/
def net : Net.Params where
  w1 := fun o c i j => rd S16x1x5x5 (E W main_arg1) (ix4 o c i j)
  b1 := fun o => rd S16 (E W main_arg2) (ix1 o)
  w2 := fun o c i j => rd S32x16x5x5 (E W main_arg3) (ix4 o c i j)
  b2 := fun o => rd S32 (E W main_arg4) (ix1 o)
  w3 := fun o c i j => rd S64x32x5x5 (E W main_arg5) (ix4 o c i j)
  b3 := fun o => rd S64 (E W main_arg6) (ix1 o)
  w4 := fun o c i j => rd S4x64x5x5 (E W main_arg7) (ix4 o c i j)
  b4 := fun o => rd S4 (E W main_arg8) (ix1 o)
  u1 := fun o c i j => rd S4x128x5x5 (E W main_arg9) (ix4 c o i.rev j.rev)
  c1 := fun o => rd S128 (E W main_arg10) (ix1 o)
  u2 := fun o c i j => rd S128x64x5x5 (E W main_arg11) (ix4 c o i.rev j.rev)
  c2 := fun o => rd S64 (E W main_arg12) (ix1 o)
  u3 := fun o c i j => rd S64x32x5x5 (E W main_arg13) (ix4 c o i.rev j.rev)
  c3 := fun o => rd S32 (E W main_arg14) (ix1 o)
  u4 := fun o c i j => rd S32x1x5x5 (E W main_arg15) (ix4 c o i.rev j.rev)
  c4 := fun o => rd S1 (E W main_arg16) (ix1 o)
  dict := fun n c => rd S64x4 (E W main_arg17) (ix2 n c)

/-- Image `b`. -/
def img (b : Fin 2048) (h v : Fin 28) (_ : Fin 1) : EReal := rd S2048x1x28x28 (E W main_arg0) (ix4 b 0 h v)
end

theorem row_at {L : Nat} (x : Vec Ideal ⟨2, ![8, L]⟩ .f32) (inb : ∀ a, (![0, 0] : Fin 2 → Nat) a + (⟨2, ![1, L]⟩ : Shape).size a ≤ (⟨2, ![8, L]⟩ : Shape).size a) (l : Fin L) :
    (row x inb : (M 1 L).Idx → EReal) (ix2 0 l) = (x : (M 8 L).Idx → EReal) (ix2 0 l) := by
  refine View.ld_unit_apply_of x ![0, 0] _ inb (ix2 0 l) (ix2 0 l) (fun a => ?_)
  match a with
  | ⟨0, _⟩ => rfl
  | ⟨1, _⟩ => exact (Nat.zero_add _).symm

variable (m : (ℓ : Loc nD τ sig) → Buf (Elt Ideal) ℓ) (c : Dev nD)

/-- The contents of core `c`'s buffers at launch. -/
abbrev at_launch : Valuation τ sig (Elt Ideal) := fun b => m (c, b)

theorem entry_eq (b : Ref sig .tc) : V m c b = E (at_launch m c) b := by
  unfold E V V0
  rw [List.flatten_singleton]

attribute [local irreducible] E

/-- A zero offset, whatever the extents. -/
theorem origin (i s : Fin 2 → Nat) (h0 : i 0 = 0) (h1 : i 1 = 0) : (fun a => i a * s a) = fun _ => 0 := by
  funext a
  match a with
  | ⟨0, _⟩ => show i 0 * s 0 = 0; rw [h0, Nat.zero_mul]
  | ⟨1, _⟩ => show i 1 * s 1 = 0; rw [h1, Nat.zero_mul]

/-! ## A window over a whole array -/

theorem block1 (t : Fin cfg0.N) : (iblk m c 1 t : Vec Ideal S784x3136 .bf16) = E (at_launch m c) main_v15 :=
  (Memref.read_access_unit_zero (Elt Ideal) main_v15 (origin (win0_1.index t) main_v15.ty.shape.size rfl rfl) _ _).trans (entry_eq m c main_v15)
theorem block2 (t : Fin cfg0.N) : (iblk m c 2 t : Vec Ideal S8x3136 .f32) = E (at_launch m c) main_v122 :=
  (Memref.read_access_unit_zero (Elt Ideal) main_v122 (origin (win0_2.index t) main_v122.ty.shape.size rfl rfl) _ _).trans (entry_eq m c main_v122)
theorem block3 (t : Fin cfg0.N) : (iblk m c 3 t : Vec Ideal S3136x1568 .bf16) = E (at_launch m c) main_v30 :=
  (Memref.read_access_unit_zero (Elt Ideal) main_v30 (origin (win0_3.index t) main_v30.ty.shape.size rfl rfl) _ _).trans (entry_eq m c main_v30)
theorem block4 (t : Fin cfg0.N) : (iblk m c 4 t : Vec Ideal S8x1568 .f32) = E (at_launch m c) main_v126 :=
  (Memref.read_access_unit_zero (Elt Ideal) main_v126 (origin (win0_4.index t) main_v126.ty.shape.size rfl rfl) _ _).trans (entry_eq m c main_v126)
theorem block5 (t : Fin cfg0.N) : (iblk m c 5 t : Vec Ideal S1568x1024 .bf16) = E (at_launch m c) main_v50 :=
  (Memref.read_access_unit_zero (Elt Ideal) main_v50 (origin (win0_5.index t) main_v50.ty.shape.size rfl rfl) _ _).trans (entry_eq m c main_v50)
theorem block6 (t : Fin cfg0.N) : (iblk m c 6 t : Vec Ideal S8x1024 .f32) = E (at_launch m c) main_v131 :=
  (Memref.read_access_unit_zero (Elt Ideal) main_v131 (origin (win0_6.index t) main_v131.ty.shape.size rfl rfl) _ _).trans (entry_eq m c main_v131)
theorem block7 (t : Fin cfg0.N) : (iblk m c 7 t : Vec Ideal S1600x4 .bf16) = E (at_launch m c) main_v53 :=
  (Memref.read_access_unit_zero (Elt Ideal) main_v53 (origin (win0_7.index t) main_v53.ty.shape.size rfl rfl) _ _).trans (entry_eq m c main_v53)
theorem block8 (t : Fin cfg0.N) : (iblk m c 8 t : Vec Ideal S8x4 .f32) = E (at_launch m c) main_v133 :=
  (Memref.read_access_unit_zero (Elt Ideal) main_v133 (origin (win0_8.index t) main_v133.ty.shape.size rfl rfl) _ _).trans (entry_eq m c main_v133)
theorem block9 (t : Fin cfg0.N) : (iblk m c 9 t : Vec Ideal S16x1152 .bf16) = E (at_launch m c) main_v73 :=
  (Memref.read_access_unit_zero (Elt Ideal) main_v73 (origin (win0_9.index t) main_v73.ty.shape.size rfl rfl) _ _).trans (entry_eq m c main_v73)
theorem block10 (t : Fin cfg0.N) : (iblk m c 10 t : Vec Ideal S8x1152 .f32) = E (at_launch m c) main_v137 :=
  (Memref.read_access_unit_zero (Elt Ideal) main_v137 (origin (win0_10.index t) main_v137.ty.shape.size rfl rfl) _ _).trans (entry_eq m c main_v137)
theorem block11 (t : Fin cfg0.N) : (iblk m c 11 t : Vec Ideal S1152x1600 .bf16) = E (at_launch m c) main_v88 :=
  (Memref.read_access_unit_zero (Elt Ideal) main_v88 (origin (win0_11.index t) main_v88.ty.shape.size rfl rfl) _ _).trans (entry_eq m c main_v88)
theorem block12 (t : Fin cfg0.N) : (iblk m c 12 t : Vec Ideal S8x1600 .f32) = E (at_launch m c) main_v141 :=
  (Memref.read_access_unit_zero (Elt Ideal) main_v141 (origin (win0_12.index t) main_v141.ty.shape.size rfl rfl) _ _).trans (entry_eq m c main_v141)
theorem block13 (t : Fin cfg0.N) : (iblk m c 13 t : Vec Ideal S1600x5408 .bf16) = E (at_launch m c) main_v103 :=
  (Memref.read_access_unit_zero (Elt Ideal) main_v103 (origin (win0_13.index t) main_v103.ty.shape.size rfl rfl) _ _).trans (entry_eq m c main_v103)
theorem block14 (t : Fin cfg0.N) : (iblk m c 14 t : Vec Ideal S8x5408 .f32) = E (at_launch m c) main_v145 :=
  (Memref.read_access_unit_zero (Elt Ideal) main_v145 (origin (win0_14.index t) main_v145.ty.shape.size rfl rfl) _ _).trans (entry_eq m c main_v145)
theorem block15 (t : Fin cfg0.N) : (iblk m c 15 t : Vec Ideal S5408x784 .bf16) = E (at_launch m c) main_v118 :=
  (Memref.read_access_unit_zero (Elt Ideal) main_v118 (origin (win0_15.index t) main_v118.ty.shape.size rfl rfl) _ _).trans (entry_eq m c main_v118)
theorem block16 (t : Fin cfg0.N) : (iblk m c 16 t : Vec Ideal S8x784 .f32) = E (at_launch m c) main_v149 :=
  (Memref.read_access_unit_zero (Elt Ideal) main_v149 (origin (win0_16.index t) main_v149.ty.shape.size rfl rfl) _ _).trans (entry_eq m c main_v149)
theorem block17 (t : Fin cfg0.N) : (iblk m c 17 t : Vec Ideal S8x256 .f32) = E (at_launch m c) main_v153 :=
  (Memref.read_access_unit_zero (Elt Ideal) main_v153 (origin (win0_17.index t) main_v153.ty.shape.size rfl rfl) _ _).trans (entry_eq m c main_v153)
theorem block18 (t : Fin cfg0.N) : (iblk m c 18 t : Vec Ideal S64x4 .f32) = E (at_launch m c) main_arg17 :=
  (Memref.read_access_unit_zero (Elt Ideal) main_arg17 (origin (win0_18.index t) main_arg17.ty.shape.size rfl rfl) _ _).trans (entry_eq m c main_arg17)

/-! ## The images -/

theorem point_index : ∀ t : Fin grid0.N, win0_0.index t 0 = t.val ∧ win0_0.index t 1 = 0 := by decide +kernel

/-- Image `b` of block `t`. -/
def sample (t : Fin cfg0.N) (b : Fin 128) : Fin 2048 := ⟨t.val * 128 + b.val, by
  have h : t.val < 16 := lt_of_lt_of_eq t.isLt N_0
  omega⟩

theorem block0 (t : Fin cfg0.N) (b : Fin 128) (k : Fin 784) :
    (iblk m c 0 t : S128x784.Idx → EReal) (ix2 b k) = rd S2048x784 (E (at_launch m c) main_v0) (ix2 (sample t b) k) := by
  have hi := point_index t
  have e : (iblk m c 0 t : S128x784.Idx → EReal) (ix2 b k) = rd S2048x784 (V m c main_v0) (ix2 (sample t b) k) := by
    unfold iblk
    generalize V m c (Pipeline.arrRef spec0 0) = f
    rw [View.read_apply]
    show rd S2048x784 f _ = rd S2048x784 f _
    congr 1
    funext a
    apply Fin.ext
    match a with
    | ⟨0, _⟩ => show win0_0.index t 0 * 128 + 1 * b.val = t.val * 128 + b.val; rw [hi.1, Nat.one_mul]
    | ⟨1, _⟩ => show win0_0.index t 1 * 784 + 1 * k.val = k.val; rw [hi.2]; omega
  exact e.trans (congrArg (fun f => rd S2048x784 f (ix2 (sample t b) k)) (entry_eq m c main_v0))

/-! ## All of it -/

theorem at_eq {s : Shape} {x y : s.Idx → EReal} (h : x = y) (j : s.Idx) : x j = y j := congrFun h j

theorem reads (t : Fin cfg0.N) : Reads (net (at_launch m c)) (fun b => img (at_launch m c) (sample t b)) (iblk m c 0 t : Vec Ideal S128x784 .f32) (iblk m c 1 t : Vec Ideal S784x3136 .bf16) (row (iblk m c 2 t : Vec Ideal S8x3136 .f32) inb_S8x3136_S1x3136_0_0) (iblk m c 3 t : Vec Ideal S3136x1568 .bf16) (row (iblk m c 4 t : Vec Ideal S8x1568 .f32) inb_S8x1568_S1x1568_0_0) (iblk m c 5 t : Vec Ideal S1568x1024 .bf16) (row (iblk m c 6 t : Vec Ideal S8x1024 .f32) inb_S8x1024_S1x1024_0_0) (iblk m c 7 t : Vec Ideal S1600x4 .bf16) (row (iblk m c 8 t : Vec Ideal S8x4 .f32) inb_S8x4_S1x4_0_0) (iblk m c 9 t : Vec Ideal S16x1152 .bf16) (row (iblk m c 10 t : Vec Ideal S8x1152 .f32) inb_S8x1152_S1x1152_0_0) (iblk m c 11 t : Vec Ideal S1152x1600 .bf16) (row (iblk m c 12 t : Vec Ideal S8x1600 .f32) inb_S8x1600_S1x1600_0_0) (iblk m c 13 t : Vec Ideal S1600x5408 .bf16) (row (iblk m c 14 t : Vec Ideal S8x5408 .f32) inb_S8x5408_S1x5408_0_0) (iblk m c 15 t : Vec Ideal S5408x784 .bf16) (row (iblk m c 16 t : Vec Ideal S8x784 .f32) inb_S8x784_S1x784_0_0) (row (iblk m c 17 t : Vec Ideal S8x256 .f32) inb_S8x256_S1x256_0_0) (iblk m c 18 t : Vec Ideal S64x4 .f32) where
  img := fun b h v k hk => (block0 m c t b k).trans (images_at (at_launch m c) (sample t b) h v k hk)
  m1 := fun o d h v r s k l hk hl => (at_eq (block1 m c t) _).trans (mat1_at (at_launch m c) o d h v r s k l hk hl)
  b1 := fun o p l hl => (row_at _ _ l).trans ((at_eq (block2 m c t) _).trans (bias1_at (at_launch m c) 0 o p l hl))
  m2 := fun o d h v r s k l hk hl => (at_eq (block3 m c t) _).trans (mat2_at (at_launch m c) o d h v r s k l hk hl)
  b2 := fun o p l hl => (row_at _ _ l).trans ((at_eq (block4 m c t) _).trans (bias2_at (at_launch m c) 0 o p l hl))
  m3 := fun o d h v r s k l hk hl => (at_eq (block5 m c t) _).trans (mat3_at (at_launch m c) o d h v r s k l hk hl)
  b3 := fun p o l hl => (row_at _ _ l).trans ((at_eq (block6 m c t) _).trans (bias3_at (at_launch m c) 0 p o l hl))
  m4 := fun i j d o k hk => (at_eq (block7 m c t) _).trans (mat4_at (at_launch m c) i j d o k hk)
  b4 := fun o => (row_at _ _ o).trans ((at_eq (block8 m c t) _).trans (bias4_at (at_launch m c) 0 o))
  t1 := fun o d h v r s k l hk hl => (at_eq (block9 m c t) _).trans (tmat1_at (at_launch m c) d o h v r s k l hk hl)
  c1 := fun o p l hl => (row_at _ _ l).trans ((at_eq (block10 m c t) _).trans (tbias1_at (at_launch m c) 0 o p l hl))
  t2 := fun o d h v r s k l hk hl => (at_eq (block11 m c t) _).trans (tmat2_at (at_launch m c) d o h v r s k l hk hl)
  c2 := fun o p l hl => (row_at _ _ l).trans ((at_eq (block12 m c t) _).trans (tbias2_at (at_launch m c) 0 o p l hl))
  t3 := fun o d h v r s k l hk hl => (at_eq (block13 m c t) _).trans (tmat3_at (at_launch m c) d o h v r s k l hk hl)
  c3 := fun o p l hl => (row_at _ _ l).trans ((at_eq (block14 m c t) _).trans (tbias3_at (at_launch m c) 0 o p l hl))
  t4 := fun o d h v r s k l hk hl => (at_eq (block15 m c t) _).trans (tmat4_at (at_launch m c) d o h v r s k l hk hl)
  c4 := fun o p l hl => (row_at _ _ l).trans ((at_eq (block16 m c t) _).trans (tbias4_at (at_launch m c) 0 o p l hl))
  flat := fun d n l hl => (row_at _ _ l).trans ((at_eq (block17 m c t) _).trans (flatDict_at (at_launch m c) 0 d n l hl))
  dict := fun n d => at_eq (block18 m c t) _

end Cert.KerRun

end
-- ==== Proof.KerSum.lean ====
/-
  What the kernel's two outputs hold after each point of its grid: the numbers of the point's nearest entries, and the sums
  of the losses of the images so far.
-/
module

public import proofs.«01_k».proof.Proof.KerReads

@[expose] public section

set_option maxRecDepth 16384

noncomputable section

namespace Cert.KerRun

open Cert.KernelIdeal Cert.KernelIdeal.Gen Idealize.ShloMosaic Idealize.ShloMosaic.TcCoe Cert.Conv Cert.Blk

/-! ## A sum over all images, block by block -/

/-- Image `b` of the `k`-th block. -/
def pick (k : Nat) (b : Fin 128) : Fin 2048 := ⟨(k * 128 + b.val) % 2048, Nat.mod_lt _ (by decide)⟩

/-- The sum over the `k`-th block. -/
def part (f : Fin 2048 → EReal) (k : Nat) : EReal := ∑ b, f (pick k b)

theorem sum_parts (f : Fin 2048 → EReal) : ∑ k ∈ Finset.range 16, part f k = ∑ b, f b := by
  rw [Finset.sum_range]
  unfold part
  rw [← Fintype.sum_prod_type' (f := fun (k : Fin 16) (b : Fin 128) => f (pick k.val b))]
  refine Fintype.sum_equiv (finProdFinEquiv (m := 16) (n := 128)) _ (fun b : Fin (16 * 128) => f b) (fun p => congrArg f (Fin.ext ?_))
  obtain ⟨k, b⟩ := p
  show (k.val * 128 + b.val) % 2048 = b.val + 128 * k.val
  rw [Nat.mod_eq_of_lt (by omega)]
  omega

theorem sample_eq (t : Fin cfg0.N) (b : Fin 128) : sample t b = pick t.val b := by
  have h : t.val < 16 := lt_of_lt_of_eq t.isLt N_0
  exact Fin.ext (Nat.mod_eq_of_lt (by show t.val * 128 + b.val < 2048; omega)).symm

theorem part_sample (f : Fin 2048 → EReal) (t : Fin cfg0.N) : ∑ b, f (sample t b) = part f t.val :=
  Finset.sum_congr rfl fun b _ => congrArg f (sample_eq t b)

attribute [local irreducible] E Blk.tally Blk.index Blk.zBlk

variable (m : (ℓ : Loc nD τ sig) → Buf (Elt Ideal) ℓ) (c : Dev nD)

/-! ## The numbers -/

theorem number_after (t : Fin cfg0.N) (b : Fin 128) (r s : Fin 2) (p : Fin 4) (hp : p.val = r.val * 2 + s.val) :
    ((outsAt0 m c t.val t.isLt).2 : S128x4.Idx → BitVec 32) (ix2 b p)
      = BitVec.ofNat 32 (Net.ind (net (at_launch m c)) (img (at_launch m c) (sample t b)) r s).val := by
  refine Eq.trans ?_ (index_at (reads m c t) b r s p hp)
  by_cases h : t.val % 16 = 0
  · have e := congrArg Prod.snd (outsAt0_A m c t h)
    dsimp only at e
    rw [index_A] at e
    exact congrFun e _
  · have e := congrArg Prod.snd (outsAt0_B m c t h)
    dsimp only at e
    rw [index_B] at e
    exact congrFun e _

/-! ## The losses -/

/-- The loss of the decoder's image, of image `b`. -/
abbrev rec (b : Fin 2048) : EReal := Net.recLoss (net (at_launch m c)) (img (at_launch m c) b)
/-- The loss of the entries, of image `b`. -/
abbrev ent (b : Fin 2048) : EReal := Net.dictLoss (net (at_launch m c)) (img (at_launch m c) b)

theorem zeros_at (j : S8x128.Idx) : (k0_pay1 (F := Ideal) : S8x128.Idx → EReal) j = 0 := Ideal.ofBits_zero_f32

theorem losses_after : ∀ (n : Nat) (hn : n < cfg0.N) (l : Fin 128),
    ((outsAt0 m c n hn).1 : S8x128.Idx → EReal) (ix2 0 l) = ∑ k ∈ Finset.range (n + 1), part (rec m c) k
      ∧ ((outsAt0 m c n hn).1 : S8x128.Idx → EReal) (ix2 1 l) = ∑ k ∈ Finset.range (n + 1), part (ent m c) k := by
  intro n
  induction n with
  | zero =>
    intro hn l
    have e := congrArg Prod.fst (outsAt0_A m c ⟨0, hn⟩ rfl)
    dsimp only at e
    rw [tally_A] at e
    have h := tally_at (reads m c ⟨0, hn⟩) (k0_pay1 (F := Ideal)) l
    rw [Finset.sum_range_one, Finset.sum_range_one]
    refine ⟨(congrFun e _).trans (h.1.trans ?_), (congrFun e _).trans (h.2.trans ?_)⟩
    · rw [zeros_at, zero_add]; exact part_sample (rec m c) ⟨0, hn⟩
    · rw [zeros_at, zero_add]; exact part_sample (ent m c) ⟨0, hn⟩
  | succ n ih =>
    intro hn l
    have hN : n + 1 < 16 := lt_of_lt_of_eq hn N_0
    have hB : ¬(⟨n + 1, hn⟩ : Fin cfg0.N).val % 16 = 0 := by show ¬(n + 1) % 16 = 0; omega
    have e := congrArg Prod.fst (outsAt0_B m c ⟨n + 1, hn⟩ hB)
    dsimp only at e
    rw [tally_B] at e
    have h := tally_at (reads m c ⟨n + 1, hn⟩) (outsAt0 m c n (Nat.lt_of_succ_lt hn)).1 l
    have i := ih (Nat.lt_of_succ_lt hn) l
    rw [Finset.sum_range_succ _ (n + 1), Finset.sum_range_succ _ (n + 1)]
    exact ⟨(congrFun e _).trans (h.1.trans (congrArg₂ (fun x y : EReal => x + y) i.1 (part_sample (rec m c) ⟨n + 1, hn⟩))),
      (congrFun e _).trans (h.2.trans (congrArg₂ (fun x y : EReal => x + y) i.2 (part_sample (ent m c) ⟨n + 1, hn⟩)))⟩

end Cert.KerRun

end
-- ==== Proof.KerArr.lean ====
/-
  What the kernel's two output arrays hold after the whole grid: the first is written back once, at the last point; the
  second one block of rows at a time.
-/
module

public import proofs.«01_k».proof.Proof.KerSum

@[expose] public section

set_option maxRecDepth 16384

noncomputable section

namespace Cert.KerRun

open Cert.KernelIdeal Cert.KernelIdeal.Gen Idealize.ShloMosaic Idealize.ShloMosaic.TcCoe Cert.Conv Cert.Blk

variable (m : (ℓ : Loc nD τ sig) → Buf (Elt Ideal) ℓ) (c : Dev nD)

/-- The grid's last point. -/
def last : Fin cfg0.N := ⟨15, by show _ < grid0.N; rw [N_0]; omega⟩

/-- The point whose block holds row `r`. -/
def pointOf (r : Fin 2048) : Fin cfg0.N := ⟨r.val / 128, by show _ < grid0.N; rw [N_0]; omega⟩

/-- The sums after the last point. -/
def sums : Vec Ideal S8x128 .f32 := (outsAt0 m c last.val last.isLt).1

/-- All numbers. -/
def numbers : Vec Ideal S2048x4 .i32 := fun i =>
  (outsAt0 m c (pointOf (i 0)).val (pointOf (i 0)).isLt).2 (ix2 ⟨(i 0).val % 128, Nat.mod_lt _ (by decide)⟩ (i 1))

theorem out_index : ∀ t : Fin grid0.N, win0_20.index t 0 = t.val ∧ win0_20.index t 1 = 0
    ∧ win0_20.xsize (grid0.coords t) 0 = 128 ∧ win0_20.xsize (grid0.coords t) 1 = 4 := by decide +kernel

theorem sums_flushed (t : Fin cfg0.N) (hf : (cfg0.win 19).flush t = true) :
    (dats m 0 c).flushed 19 t = ((cfg0.win 19).blk t).view.read (Elt Ideal) (sums m c) := by
  have h : t.val < 16 := lt_of_lt_of_eq t.isLt N_0
  have h15 : t.val = 15 := by have := (flush0_19 t).mp hf; omega
  obtain rfl : t = last := Fin.ext h15
  show (cfg0.win 19).cut (grid0.coords last) ((dats m 0 c).after 19 last) = _
  rw [after0_19]
  exact (Memref.read_access_unit_zero (Elt Ideal) main_v154_0 (origin (win0_19.index last) main_v154_0.ty.shape.size rfl rfl) _ (sums m c)).symm

theorem sums_final : (dats m 0 c).arrAt 19 cfg0.N = sums m c :=
  (dats m 0 c).arrAt_eq_of_cover 19 (sums m c) (sums_flushed m c) fun i =>
    ⟨last, (flush0_19 last).mpr rfl, by
      show i ∈ ((View.whole main_v154_0).slice (win0_19.rect last)).set
      rw [View.set_slice_whole, Rect.mem_set_unit]
      intro a
      have h0 : (i 0 : Nat) < 8 := (i 0).isLt
      have h1 : (i 1 : Nat) < 128 := (i 1).isLt
      match a with
      | ⟨0, _⟩ =>
        show win0_19.index last 0 * win0_19.size 0 ≤ (i 0 : Nat) ∧ (i 0 : Nat) < win0_19.index last 0 * win0_19.size 0 + win0_19.xsize (grid0.coords last) 0
        rw [show win0_19.index last 0 * win0_19.size 0 = 0 from by decide +kernel, show win0_19.xsize (grid0.coords last) 0 = 8 from by decide +kernel]
        omega
      | ⟨1, _⟩ =>
        show win0_19.index last 1 * win0_19.size 1 ≤ (i 1 : Nat) ∧ (i 1 : Nat) < win0_19.index last 1 * win0_19.size 1 + win0_19.xsize (grid0.coords last) 1
        rw [show win0_19.index last 1 * win0_19.size 1 = 0 from by decide +kernel, show win0_19.xsize (grid0.coords last) 1 = 128 from by decide +kernel]
        omega⟩

theorem numbers_at (t : Fin cfg0.N) (b : Fin 128) (p : Fin 4) (i : S2048x4.Idx) (h0 : (i 0).val = t.val * 128 + b.val) (h1 : (i 1).val = p.val) :
    numbers m c i = (outsAt0 m c t.val t.isLt).2 (ix2 b p) := by
  have e0 : pointOf (i 0) = t := Fin.ext (by show (i 0).val / 128 = t.val; omega)
  have e1 : (⟨(i 0).val % 128, Nat.mod_lt _ (by decide)⟩ : Fin 128) = b := Fin.ext (by show (i 0).val % 128 = b.val; omega)
  have e2 : (i 1 : Fin 4) = p := Fin.ext h1
  have key : ∀ (s : Fin cfg0.N) (b' : Fin 128) (p' : Fin 4), s = t → b' = b → p' = p →
      (outsAt0 m c s.val s.isLt).2 (ix2 b' p') = (outsAt0 m c t.val t.isLt).2 (ix2 b p) := by
    rintro _ _ _ rfl rfl rfl
    rfl
  exact key _ _ _ e0 e1 e2

theorem numbers_flushed (t : Fin cfg0.N) (_ : (cfg0.win 20).flush t = true) :
    (dats m 0 c).flushed 20 t = ((cfg0.win 20).blk t).view.read (Elt Ideal) (numbers m c) := by
  have hi := out_index t
  show (cfg0.win 20).cut (grid0.coords t) ((dats m 0 c).after 20 t) = _
  rw [after0_20]
  funext j
  rw [View.read_apply]
  have j0 : (j 0 : Nat) < 128 := lt_of_lt_of_eq (j 0).isLt hi.2.2.1
  have j1 : (j 1 : Nat) < 4 := lt_of_lt_of_eq (j 1).isLt hi.2.2.2
  refine Eq.trans ?_ (numbers_at m c t ⟨(j 0).val, j0⟩ ⟨(j 1).val, j1⟩ _ ?_ ?_).symm
  · show (outsAt0 m c t.val t.isLt).2 _ = (outsAt0 m c t.val t.isLt).2 _
    refine congrArg (outsAt0 m c t.val t.isLt).2 (funext fun a => Fin.ext ?_)
    match a with
    | ⟨0, _⟩ => rfl
    | ⟨1, _⟩ => rfl
  · show win0_20.index t 0 * 128 + 1 * (j 0).val = t.val * 128 + (j 0).val; rw [hi.1, Nat.one_mul]
  · show win0_20.index t 1 * 4 + 1 * (j 1).val = (j 1).val; rw [hi.2.1]; omega

theorem numbers_final : (dats m 0 c).arrAt 20 cfg0.N = numbers m c :=
  (dats m 0 c).arrAt_eq_of_cover 20 (numbers m c) (numbers_flushed m c) fun i =>
    ⟨pointOf (i 0), flush0_20 _, by
      have hi := out_index (pointOf (i 0))
      show i ∈ ((View.whole main_v154_1).slice (win0_20.rect (pointOf (i 0)))).set
      rw [View.set_slice_whole, Rect.mem_set_unit]
      intro a
      have h0 : (i 0 : Nat) < 2048 := (i 0).isLt
      have h1 : (i 1 : Nat) < 4 := (i 1).isLt
      match a with
      | ⟨0, _⟩ =>
        show win0_20.index (pointOf (i 0)) 0 * 128 ≤ (i 0 : Nat) ∧ (i 0 : Nat) < win0_20.index (pointOf (i 0)) 0 * 128 + win0_20.xsize (grid0.coords (pointOf (i 0))) 0
        rw [hi.1, hi.2.2.1]
        show (i 0).val / 128 * 128 ≤ (i 0 : Nat) ∧ (i 0 : Nat) < (i 0).val / 128 * 128 + 128
        omega
      | ⟨1, _⟩ =>
        show win0_20.index (pointOf (i 0)) 1 * 4 ≤ (i 1 : Nat) ∧ (i 1 : Nat) < win0_20.index (pointOf (i 0)) 1 * 4 + win0_20.xsize (grid0.coords (pointOf (i 0))) 1
        rw [hi.2.1, hi.2.2.2]
        omega⟩

end Cert.KerRun

end
-- ==== Proof.KerTail.lean ====
/-
  The kernel's results: the host's lines after the grid, and all that the program leaves.
-/
module

public import proofs.«01_k».proof.Proof.KerArr

@[expose] public section

set_option maxRecDepth 16384

noncomputable section

namespace Cert.KerRun

open Cert.KernelIdeal Cert.KernelIdeal.Gen Idealize.ShloMosaic Idealize.ShloMosaic.TcCoe Idealize.ShloMosaic.StableHlo Idealize.SL.Sem Cert.Conv

/-! ## The lines after the grid -/

section
variable (X : Valuation τ sig (Elt Ideal))

theorem one_entry (j : S_.Idx) : (S1x1.rowMajor (ix2 0 0)).val = (S_.rowMajor j).val := by
  have h : (S_.rowMajor j).val < 1 := (S_.rowMajor j).isLt
  have h' : (S1x1.rowMajor (ix2 0 0)).val < 1 := (S1x1.rowMajor (ix2 0 0)).isLt
  omega

theorem mean0_at (j : S_.Idx) : rd S_ (after hostOps1 X (Proc.devRef .tc main_v157)) j
    = Ideal.div (rd S8x128 (X (Proc.devRef .tc main_v154_0)) (ix2 0 0)) (Ideal.ofBits .f32 0x45000000#32) := by
  after_results_simp
  refine congrArg (fun x : EReal => Ideal.div x (Ideal.ofBits .f32 0x45000000#32)) ?_
  refine (reshape_at (s := S1x1) (t := S_) _ _ j (ix2 0 0) (one_entry j)).trans ?_
  exact congrArg (rd S8x128 (X (Proc.devRef .tc main_v154_0))) (funext fun a => Fin.ext (by match a with | ⟨0, _⟩ => rfl | ⟨1, _⟩ => rfl))

theorem mean1_at (j : S_.Idx) : rd S_ (after hostOps1 X (Proc.devRef .tc main_v160)) j
    = Ideal.div (rd S8x128 (X (Proc.devRef .tc main_v154_0)) (ix2 1 0)) (Ideal.ofBits .f32 0x46000000#32) := by
  after_results_simp
  refine congrArg (fun x : EReal => Ideal.div x (Ideal.ofBits .f32 0x46000000#32)) ?_
  refine (reshape_at (s := S1x1) (t := S_) _ _ j (ix2 0 0) (one_entry j)).trans ?_
  exact congrArg (rd S8x128 (X (Proc.devRef .tc main_v154_0))) (funext fun a => Fin.ext (by match a with | ⟨0, _⟩ => rfl | ⟨1, _⟩ => rfl))

theorem mean2_at (j : S_.Idx) : rd S_ (after hostOps1 X (Proc.devRef .tc main_v163)) j
    = Ideal.div (rd S8x128 (X (Proc.devRef .tc main_v154_0)) (ix2 1 0)) (Ideal.ofBits .f32 0x47000000#32) := by
  after_results_simp
  refine congrArg (fun x : EReal => Ideal.div x (Ideal.ofBits .f32 0x47000000#32)) ?_
  refine (reshape_at (s := S1x1) (t := S_) _ _ j (ix2 0 0) (one_entry j)).trans ?_
  exact congrArg (rd S8x128 (X (Proc.devRef .tc main_v154_0))) (funext fun a => Fin.ext (by match a with | ⟨0, _⟩ => rfl | ⟨1, _⟩ => rfl))

theorem nought_at (j : S1.Idx) : rd S1 (after hostOps1 X (Proc.devRef .tc main_v164)) j = 0 := by
  after_results_simp
  exact Ideal.ofBits_zero_f32

theorem table_at (b : Fin 2048) (r s : Fin 2) (p : Fin 4) (hp : p.val = r.val * 2 + s.val) :
    rdi S2048x2x2 (after hostOps1 X (Proc.devRef .tc main_v165)) (ix3 b r s) = rdi S2048x4 (X (Proc.devRef .tc main_v154_1)) (ix2 b p) := by
  after_results_simp
  refine reshape_at (s := S2048x4) (t := S2048x2x2) _ _ _ (ix2 b p) ?_
  rw [rowMajor_val2 _ _ rfl, rowMajor_val3 _ _ _ rfl rfl]
  show b.val * 4 + p.val = b.val * (2 * 2) + r.val * 2 + s.val
  omega
end

/-! ## The results -/

attribute [local irreducible] E

variable (m : (ℓ : Loc nD τ sig) → Buf (Elt Ideal) ℓ) (ρ : Dev nD → PrngReg) (c : Dev nD)

/-- What core `c`'s buffers hold once the grid is done. -/
abbrev done : Valuation τ sig (Elt Ideal) :=
  Pipeline.withArrays (cfgs 0).spec c (V0 m c) fun w => (dats m 0 c).arrAt w (cfgs 0).N

/-- What the program leaves in buffer `b`. -/
abbrev left (b : Ref sig .tc) : Buf (Elt Ideal) ((c : Thread nD τ).loc b) := Pipeline.afterTail₀ cfgs (dats m) 0 (V0 m) [hostOps1] c b

theorem left_eq (b : Ref sig .tc) : left m c b = after hostOps1 (done m c) (Proc.devRef .tc b) := by
  unfold left Pipeline.afterTail₀
  rw [List.flatten_singleton]

theorem arrays_differ : Function.Injective (Pipeline.arrRef spec0) := by decide +kernel

theorem done_sums : done m c (Proc.devRef .tc main_v154_0) = sums m c :=
  (Pipeline.withArrays_arr spec0 arrays_differ c (V0 m c) _ 19).trans (sums_final m c)

theorem done_numbers : done m c (Proc.devRef .tc main_v154_1) = numbers m c :=
  (Pipeline.withArrays_arr spec0 arrays_differ c (V0 m c) _ 20).trans (numbers_final m c)

theorem sum0 : rd S8x128 (sums m c) (ix2 0 0) = ∑ b, rec m c b :=
  (losses_after m c last.val last.isLt 0).1.trans (sum_parts _)

theorem sum1 : rd S8x128 (sums m c) (ix2 1 0) = ∑ b, ent m c b :=
  (losses_after m c last.val last.isLt 0).2.trans (sum_parts _)

theorem left0 (j : S_.Idx) : rd S_ (left m c main_v157) j = Ideal.div (∑ b, rec m c b) (Ideal.ofBits .f32 0x45000000#32) := by
  rw [left_eq, mean0_at, done_sums, sum0]

theorem left1 (j : S_.Idx) : rd S_ (left m c main_v160) j = Ideal.div (∑ b, ent m c b) (Ideal.ofBits .f32 0x46000000#32) := by
  rw [left_eq, mean1_at, done_sums, sum1]

theorem left2 (j : S_.Idx) : rd S_ (left m c main_v163) j = Ideal.div (∑ b, ent m c b) (Ideal.ofBits .f32 0x47000000#32) := by
  rw [left_eq, mean2_at, done_sums, sum1]

theorem left3 (j : S1.Idx) : rd S1 (left m c main_v164) j = 0 := by
  rw [left_eq, nought_at]

theorem left4 (b : Fin 2048) (r s : Fin 2) : rdi S2048x2x2 (left m c main_v165) (ix3 b r s)
    = BitVec.ofNat 32 (Net.ind (net (at_launch m c)) (img (at_launch m c) b) r s).val := by
  have hp : r.val * 2 + s.val < 4 := by omega
  rw [left_eq, table_at _ b r s ⟨r.val * 2 + s.val, hp⟩ rfl, done_numbers]
  have hb : b.val % 128 < 128 := Nat.mod_lt _ (by decide)
  refine (numbers_at m c (pointOf b) ⟨b.val % 128, hb⟩ ⟨r.val * 2 + s.val, hp⟩ _ ?_ rfl).trans ?_
  · show b.val = b.val / 128 * 128 + b.val % 128
    omega
  refine (number_after m c (pointOf b) _ r s _ rfl).trans ?_
  rw [show sample (pointOf b) ⟨b.val % 128, hb⟩ = b from Fin.ext (by show b.val / 128 * 128 + b.val % 128 = b.val; omega)]

/-- The program's run: what the result buffers hold. -/
theorem results : θ_run defs (onTc (τ := τ) (main (F := Ideal))) ⟨m, fun _ => 0, ρ⟩ fun r => ∀ c : Dev nD,
      r.2.mem ((c.tc : Thread nD τ).loc main_v157) = left m c main_v157
      ∧ r.2.mem ((c.tc : Thread nD τ).loc main_v160) = left m c main_v160
      ∧ r.2.mem ((c.tc : Thread nD τ).loc main_v163) = left m c main_v163
      ∧ r.2.mem ((c.tc : Thread nD τ).loc main_v164) = left m c main_v164
      ∧ r.2.mem ((c.tc : Thread nD τ).loc main_v165) = left m c main_v165 :=
  (θ_run defs _ _).mono (fun _ h c => ⟨(h c).2 main_v157 (Pipeline.mem_restRefs_of main_v157 (by decide) (by decide)),
    (h c).2 main_v160 (Pipeline.mem_restRefs_of main_v160 (by decide) (by decide)),
    (h c).2 main_v163 (Pipeline.mem_restRefs_of main_v163 (by decide) (by decide)),
    (h c).2 main_v164 (Pipeline.mem_restRefs_of main_v164 (by decide) (by decide)),
    (h c).2 main_v165 (Pipeline.mem_restRefs_of main_v165 (by decide) (by decide))⟩) (run_main m ρ)

end Cert.KerRun

end
-- ==== Proof.Layers.lean ====
/-
  A layer of the network as the plain program computes it (pad, gather the windows, multiply with the weights, add
  the bias), read at one index: the double sum over input positions and taps (`lin`) plus the bias.
-/
module

public import proofs.«01_k».proof.Proof.Reads

@[expose] public section

set_option maxRecDepth 16384

noncomputable section

namespace Cert.Conv

open Idealize.ShloMosaic

variable {B H T C O n : Nat}

/-- A convolution of stride 2: the windows of the padded array times the weights. -/
theorem conv_at (d : GatherDims ⟨4, ![B, T, T, C]⟩ ⟨3, ![n, n, 2]⟩ ⟨6, ![B, n, n, 5, 5, C]⟩)
    (d1 : d.offsetDims = [0, 3, 4, 5]) (d2 : d.collapsedSliceDims = []) (d3 : d.operandBatchingDims = [])
    (d4 : d.startIndicesBatchingDims = []) (d5 : d.startIndexMap = [1, 2]) (d6 : d.indexVectorDim = 2) (d7 : d.sliceSizes = ![B, 5, 5, C])
    (e : DotDims ⟨6, ![B, n, n, 5, 5, C]⟩ ⟨4, ![O, C, 5, 5]⟩ ⟨4, ![B, n, n, O]⟩)
    (e1 : e.lhsContracting = [3, 4, 5]) (e2 : e.rhsContracting = [2, 3, 1]) (e3 : e.lhsNonContracting = [0, 1, 2])
    (e4 : e.rhsNonContracting = [0]) (e5 : e.lhsBatch = []) (e6 : e.rhsBatch = [])
    (x : (⟨4, ![B, H, H, C]⟩ : Shape).Idx → EReal) {u : Shape} (z : u.Idx → EReal) (hu : 0 < u.numel) (hz : z (Shape.Idx.first hu) = 0)
    (hp : (⟨4, ![B, H, H, C]⟩ : Shape).Pads ![0, 2, 2, 0] ![0, 2, 2, 0] ![0, 0, 0, 0] ⟨4, ![B, T, T, C]⟩)
    (idx : IVec ⟨3, ![n, n, 2]⟩ 32)
    (hidx : ∀ r t : Fin n, (idx (ix3 r t 0)).toInt.toNat = 2 * r.val ∧ (idx (ix3 r t 1)).toInt.toNat = 2 * t.val)
    (hT : ∀ r : Fin n, 2 * r.val + 5 ≤ T)
    (w : (⟨4, ![O, C, 5, 5]⟩ : Shape).Idx → EReal) (b : Fin B) (r t : Fin n) (o : Fin O) :
    Host.dotGeneral (F := Ideal) (φ₁ := .f32) (φ₂ := .f32) e none
        (Host.gather d (pad ⟨4, ![B, T, T, C]⟩ ![0, 2, 2, 0] ![0, 2, 2, 0] ![0, 0, 0, 0] x z hp hu) idx) w (ix4 b r t o)
      = lin 2 2 1 (fun (h v : Fin H) (c : Fin C) => x (ix4 b h v c)) (fun c i j => w (ix4 o c i j)) r t := by
  rw [product_at e e1 e2 e3 e4 e5 e6]
  generalize hg : Host.gather d (pad ⟨4, ![B, T, T, C]⟩ ![0, 2, 2, 0] ![0, 2, 2, 0] ![0, 0, 0, 0] x z hp hu) idx = g
  have key : ∀ i j c, g (ix6 b r t i j c)
      = ∑ h : Fin H, ∑ v : Fin H, if tap 2 2 1 h i r ∧ tap 2 2 1 v j t then x (ix4 b h v c) else 0 := fun i j c => by
    rw [← hg, windows_at 2 d d1 d2 d3 d4 d5 d6 d7 _ idx hidx hT, padded_at 2 2 0 x z hu hz hp]
    simp only [tap, Nat.zero_add, Nat.mul_one, Nat.one_mul]
  exact windows_eq_lin Nat.one_pos (fun h v c => x (ix4 b h v c)) (fun c i j => w (ix4 o c i j)) r t
    (fun i j c => g (ix6 b r t i j c)) key

/-- A transposed convolution of stride 2: the windows of the dilated and padded array times the weights turned round. -/
theorem convT_at (q : Nat) (d : GatherDims ⟨4, ![B, T, T, C]⟩ ⟨3, ![n, n, 2]⟩ ⟨6, ![B, n, n, 5, 5, C]⟩)
    (d1 : d.offsetDims = [0, 3, 4, 5]) (d2 : d.collapsedSliceDims = []) (d3 : d.operandBatchingDims = [])
    (d4 : d.startIndicesBatchingDims = []) (d5 : d.startIndexMap = [1, 2]) (d6 : d.indexVectorDim = 2) (d7 : d.sliceSizes = ![B, 5, 5, C])
    (e : DotDims ⟨6, ![B, n, n, 5, 5, C]⟩ ⟨4, ![C, O, 5, 5]⟩ ⟨4, ![B, n, n, O]⟩)
    (e1 : e.lhsContracting = [3, 4, 5]) (e2 : e.rhsContracting = [2, 3, 0]) (e3 : e.lhsNonContracting = [0, 1, 2])
    (e4 : e.rhsNonContracting = [1]) (e5 : e.lhsBatch = []) (e6 : e.rhsBatch = [])
    (x : (⟨4, ![B, H, H, C]⟩ : Shape).Idx → EReal) {u : Shape} (z : u.Idx → EReal) (hu : 0 < u.numel) (hz : z (Shape.Idx.first hu) = 0)
    (hp : (⟨4, ![B, H, H, C]⟩ : Shape).Pads ![0, q, q, 0] ![0, q, q, 0] ![0, 1, 1, 0] ⟨4, ![B, T, T, C]⟩)
    (idx : IVec ⟨3, ![n, n, 2]⟩ 32)
    (hidx : ∀ r t : Fin n, (idx (ix3 r t 0)).toInt.toNat = 1 * r.val ∧ (idx (ix3 r t 1)).toInt.toNat = 1 * t.val)
    (hT : ∀ r : Fin n, 1 * r.val + 5 ≤ T)
    (w : (⟨4, ![C, O, 5, 5]⟩ : Shape).Idx → EReal) (b : Fin B) (r t : Fin n) (o : Fin O) :
    Host.dotGeneral (F := Ideal) (φ₁ := .f32) (φ₂ := .f32) e none
        (Host.gather d (pad ⟨4, ![B, T, T, C]⟩ ![0, q, q, 0] ![0, q, q, 0] ![0, 1, 1, 0] x z hp hu) idx)
        (Host.reverse [2, 3] w) (ix4 b r t o)
      = lin 1 q 2 (fun (h v : Fin H) (c : Fin C) => x (ix4 b h v c)) (fun c i j => w (ix4 c o (Fin.rev i) (Fin.rev j))) r t := by
  rw [productT_at e e1 e2 e3 e4 e5 e6]
  have hw : ∀ (c : Fin C) (i j : Fin 5), Host.reverse [2, 3] w (ix4 c o i j) = w (ix4 c o (Fin.rev i) (Fin.rev j)) := fun c i j =>
    congrArg w (funext fun a => match a with | ⟨0, _⟩ => rfl | ⟨1, _⟩ => rfl | ⟨2, _⟩ => rfl | ⟨3, _⟩ => rfl)
  simp only [hw]
  generalize hg : Host.gather d (pad ⟨4, ![B, T, T, C]⟩ ![0, q, q, 0] ![0, q, q, 0] ![0, 1, 1, 0] x z hp hu) idx = g
  have key : ∀ i j c, g (ix6 b r t i j c)
      = ∑ h : Fin H, ∑ v : Fin H, if tap 1 q 2 h i r ∧ tap 1 q 2 v j t then x (ix4 b h v c) else 0 := fun i j c => by
    rw [← hg, windows_at 1 d d1 d2 d3 d4 d5 d6 d7 _ idx hidx hT, padded_at q q 1 x z hu hz hp]
    simp only [tap, Nat.one_mul, Nat.reduceAdd]
  exact windows_eq_lin Nat.two_pos (fun h v c => x (ix4 b h v c)) (fun c i j => w (ix4 c o (Fin.rev i) (Fin.rev j))) r t
    (fun i j c => g (ix6 b r t i j c)) key

end Cert.Conv

end
-- ==== Proof.RefLayers.lean ====
/-
  What the reference's layers hold, read at one index: each is the double sum over input positions and taps of the
  layer before it, plus the bias, cut off below at 0 where the network does so.
-/
module

public import proofs.«01_k».proof.Proof.Layers
public import proofs.«01_k».proof.Proof.Net
public import proofs.«01_k».proof.Proof.RefFrame

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo
open Cert.Conv

variable (V : Valuation τ sig (Elt Ideal))

/-- What buffer `b` holds at the end, from the contents `V`. -/
def E (b : Ref sig .tc) := after (ops (F := Ideal)) V (Proc.devRef .tc b)

/-- A real array, at its shape. -/
abbrev rd (s : Shape) (x : s.Idx → EReal) : s.Idx → EReal := x

/-- An integer array, at its shape. -/
abbrev rdi (s : Shape) (x : s.Idx → BitVec 32) : s.Idx → BitVec 32 := x

/-- A piece of the program: its operands are as the pieces before it leave them, its results as it leaves them itself. -/
theorem at_piece (pre piece rest : List (HloOp τ sig (Elt Ideal))) (n k : Nat) (e : ops = pre ++ (piece ++ rest))
    (hp : (piece ++ rest).map HloOp.writes = (outs.drop n).map fun r => {Proc.devRef (τ := τ) .tc r})
    (hr : rest.map HloOp.writes = (outs.drop k).map fun r => {Proc.devRef (τ := τ) .tc r}) :
    (∀ r, r ∉ outs.drop n → E V r = after pre V (Proc.devRef .tc r)) ∧
      (∀ r, r ∉ outs.drop k → E V r = after piece (after pre V) (Proc.devRef .tc r)) := by
  refine ⟨fun r h => ?_, fun r h => ?_⟩
  · unfold E; rw [e, after_append]; exact kept n _ hp r h _
  · unfold E; rw [e, after_append, after_append]; exact kept k _ hr r h _

/-- The operations up to a piece, and those from it on. -/
abbrev upTo2 : List (HloOp τ sig (Elt Ideal)) := start ++ enc1
abbrev upTo3 : List (HloOp τ sig (Elt Ideal)) := upTo2 ++ enc2
abbrev upTo4 : List (HloOp τ sig (Elt Ideal)) := upTo3 ++ enc3
abbrev upTo5 : List (HloOp τ sig (Elt Ideal)) := upTo4 ++ enc4
abbrev upTo6 : List (HloOp τ sig (Elt Ideal)) := upTo5 ++ dists
abbrev upTo7 : List (HloOp τ sig (Elt Ideal)) := upTo6 ++ nearest
abbrev upTo8 : List (HloOp τ sig (Elt Ideal)) := upTo7 ++ look
abbrev upTo9 : List (HloOp τ sig (Elt Ideal)) := upTo8 ++ dec1
abbrev upTo10 : List (HloOp τ sig (Elt Ideal)) := upTo9 ++ dec2
abbrev upTo11 : List (HloOp τ sig (Elt Ideal)) := upTo10 ++ dec3
abbrev upTo12 : List (HloOp τ sig (Elt Ideal)) := upTo11 ++ dec4
abbrev from12 : List (HloOp τ sig (Elt Ideal)) := losses
abbrev from11 : List (HloOp τ sig (Elt Ideal)) := dec4 ++ from12
abbrev from10 : List (HloOp τ sig (Elt Ideal)) := dec3 ++ from11
abbrev from9 : List (HloOp τ sig (Elt Ideal)) := dec2 ++ from10
abbrev from8 : List (HloOp τ sig (Elt Ideal)) := dec1 ++ from9
abbrev from7 : List (HloOp τ sig (Elt Ideal)) := look ++ from8
abbrev from6 : List (HloOp τ sig (Elt Ideal)) := nearest ++ from7
abbrev from5 : List (HloOp τ sig (Elt Ideal)) := dists ++ from6
abbrev from4 : List (HloOp τ sig (Elt Ideal)) := enc4 ++ from5
abbrev from3 : List (HloOp τ sig (Elt Ideal)) := enc3 ++ from4
abbrev from2 : List (HloOp τ sig (Elt Ideal)) := enc2 ++ from3
abbrev from1 : List (HloOp τ sig (Elt Ideal)) := enc1 ++ from2

/-- The shared zero. -/
theorem zero_first : rd S_ (E V main_v0) (Shape.Idx.first h_S_) = 0 := by
  obtain ⟨-, ko⟩ := at_piece V [] start from1 0 15 rfl rfl rfl
  rw [ko main_v0 (by decide)]
  after_results_simp
  exact Ideal.ofBits_zero_f32

/-! The tables of window positions. -/

theorem table14 : ∀ r t : Fin 14, (rdi S14x14x2 (E V main_c) (ix3 r t 0)).toInt.toNat = 2 * r.val
    ∧ (rdi S14x14x2 (E V main_c) (ix3 r t 1)).toInt.toNat = 2 * t.val := by
  obtain ⟨-, ko⟩ := at_piece V [] start from1 0 15 rfl rfl rfl
  rw [ko main_c (by decide)]
  after_results_simp
  decide +kernel

theorem table7 : ∀ r t : Fin 7, (rdi S7x7x2 (E V main_c_2) (ix3 r t 0)).toInt.toNat = 2 * r.val
    ∧ (rdi S7x7x2 (E V main_c_2) (ix3 r t 1)).toInt.toNat = 2 * t.val := by
  obtain ⟨-, ko⟩ := at_piece V [] start from1 0 15 rfl rfl rfl
  rw [ko main_c_2 (by decide)]
  after_results_simp
  decide +kernel

theorem table4 : ∀ r t : Fin 4, (rdi S4x4x2 (E V main_c_3) (ix3 r t 0)).toInt.toNat = 2 * r.val
    ∧ (rdi S4x4x2 (E V main_c_3) (ix3 r t 1)).toInt.toNat = 2 * t.val := by
  obtain ⟨-, ko⟩ := at_piece V [] start from1 0 15 rfl rfl rfl
  rw [ko main_c_3 (by decide)]
  after_results_simp
  decide +kernel

theorem table2 : ∀ r t : Fin 2, (rdi S2x2x2 (E V main_c_4) (ix3 r t 0)).toInt.toNat = 2 * r.val
    ∧ (rdi S2x2x2 (E V main_c_4) (ix3 r t 1)).toInt.toNat = 2 * t.val := by
  obtain ⟨-, ko⟩ := at_piece V [] start from1 0 15 rfl rfl rfl
  rw [ko main_c_4 (by decide)]
  after_results_simp
  decide +kernel

theorem table3 : ∀ r t : Fin 3, (rdi S3x3x2 (E V main_c_5) (ix3 r t 0)).toInt.toNat = 1 * r.val
    ∧ (rdi S3x3x2 (E V main_c_5) (ix3 r t 1)).toInt.toNat = 1 * t.val := by
  obtain ⟨-, ko⟩ := at_piece V [] start from1 0 15 rfl rfl rfl
  rw [ko main_c_5 (by decide)]
  after_results_simp
  decide +kernel

theorem table5 : ∀ r t : Fin 5, (rdi S5x5x2 (E V main_c_6) (ix3 r t 0)).toInt.toNat = 1 * r.val
    ∧ (rdi S5x5x2 (E V main_c_6) (ix3 r t 1)).toInt.toNat = 1 * t.val := by
  obtain ⟨-, ko⟩ := at_piece V [] start from1 0 15 rfl rfl rfl
  rw [ko main_c_6 (by decide)]
  after_results_simp
  decide +kernel

theorem table13 : ∀ r t : Fin 13, (rdi S13x13x2 (E V main_c_7) (ix3 r t 0)).toInt.toNat = 1 * r.val
    ∧ (rdi S13x13x2 (E V main_c_7) (ix3 r t 1)).toInt.toNat = 1 * t.val := by
  obtain ⟨-, ko⟩ := at_piece V [] start from1 0 15 rfl rfl rfl
  rw [ko main_c_7 (by decide)]
  after_results_simp
  decide +kernel

theorem table29 : ∀ r t : Fin 29, (rdi S29x29x2 (E V main_c_8) (ix3 r t 0)).toInt.toNat = 1 * r.val
    ∧ (rdi S29x29x2 (E V main_c_8) (ix3 r t 1)).toInt.toNat = 1 * t.val := by
  obtain ⟨-, ko⟩ := at_piece V [] start from1 0 15 rfl rfl rfl
  rw [ko main_c_8 (by decide)]
  after_results_simp
  decide +kernel

theorem enc1_at (b : Fin 2048) (r t : Fin 14) (o : Fin 16) : rd S2048x14x14x16 (E V main_v10) (ix4 b r t o)
    = Net.relu 2 2 1 (fun (h v : Fin 28) (c : Fin 1) => rd S2048x28x28x1 (E V main_v3) (ix4 b h v c))
        (fun o c i j => rd S16x1x5x5 (E V main_arg1) (ix4 o c i j))
        (fun o => rd S16 (E V main_arg2) (ix1 o)) r t o := by
  obtain ⟨ki, ko⟩ := at_piece V start enc1 from2 15 22 rfl rfl rfl
  have hz := zero_first V
  have ht := table14 V
  rw [ki main_v0 (by decide)] at hz
  rw [ki main_c (by decide)] at ht
  rw [ko main_v10 (by decide), ki main_v3 (by decide), ki main_arg1 (by decide), ki main_arg2 (by decide)]
  generalize after start V = U at *
  after_results_simp
  refine congrArg₂ max (congrArg₂ (· + ·) (conv_at _ rfl rfl rfl rfl rfl rfl rfl _ rfl rfl rfl rfl rfl rfl _ _ _ hz _ _ ht (by decide) _ b r t o) ?_) ?_
  · exact bcast_at _ _ _ _ (ix1 o) (fun a => match a with | ⟨0, _⟩ => .inr rfl)
  · exact (bcast_at _ _ _ _ (Shape.Idx.first h_S_) (fun a => a.elim0)).trans hz

theorem enc2_at (b : Fin 2048) (r t : Fin 7) (o : Fin 32) : rd S2048x7x7x32 (E V main_v17) (ix4 b r t o)
    = Net.relu 2 2 1 (fun (h v : Fin 14) (c : Fin 16) => rd S2048x14x14x16 (E V main_v10) (ix4 b h v c))
        (fun o c i j => rd S32x16x5x5 (E V main_arg3) (ix4 o c i j))
        (fun o => rd S32 (E V main_arg4) (ix1 o)) r t o := by
  obtain ⟨ki, ko⟩ := at_piece V upTo2 enc2 from3 22 29 rfl rfl rfl
  have hz := zero_first V
  have ht := table7 V
  rw [ki main_v0 (by decide)] at hz
  rw [ki main_c_2 (by decide)] at ht
  rw [ko main_v17 (by decide), ki main_v10 (by decide), ki main_arg3 (by decide), ki main_arg4 (by decide)]
  generalize after upTo2 V = U at *
  after_results_simp
  refine congrArg₂ max (congrArg₂ (· + ·) (conv_at _ rfl rfl rfl rfl rfl rfl rfl _ rfl rfl rfl rfl rfl rfl _ _ _ hz _ _ ht (by decide) _ b r t o) ?_) ?_
  · exact bcast_at _ _ _ _ (ix1 o) (fun a => match a with | ⟨0, _⟩ => .inr rfl)
  · exact (bcast_at _ _ _ _ (Shape.Idx.first h_S_) (fun a => a.elim0)).trans hz

theorem enc3_at (b : Fin 2048) (r t : Fin 4) (o : Fin 64) : rd S2048x4x4x64 (E V main_v24) (ix4 b r t o)
    = Net.relu 2 2 1 (fun (h v : Fin 7) (c : Fin 32) => rd S2048x7x7x32 (E V main_v17) (ix4 b h v c))
        (fun o c i j => rd S64x32x5x5 (E V main_arg5) (ix4 o c i j))
        (fun o => rd S64 (E V main_arg6) (ix1 o)) r t o := by
  obtain ⟨ki, ko⟩ := at_piece V upTo3 enc3 from4 29 36 rfl rfl rfl
  have hz := zero_first V
  have ht := table4 V
  rw [ki main_v0 (by decide)] at hz
  rw [ki main_c_3 (by decide)] at ht
  rw [ko main_v24 (by decide), ki main_v17 (by decide), ki main_arg5 (by decide), ki main_arg6 (by decide)]
  generalize after upTo3 V = U at *
  after_results_simp
  refine congrArg₂ max (congrArg₂ (· + ·) (conv_at _ rfl rfl rfl rfl rfl rfl rfl _ rfl rfl rfl rfl rfl rfl _ _ _ hz _ _ ht (by decide) _ b r t o) ?_) ?_
  · exact bcast_at _ _ _ _ (ix1 o) (fun a => match a with | ⟨0, _⟩ => .inr rfl)
  · exact (bcast_at _ _ _ _ (Shape.Idx.first h_S_) (fun a => a.elim0)).trans hz

theorem enc4_at (b : Fin 2048) (r t : Fin 2) (o : Fin 4) : rd S2048x2x2x4 (E V main_v29) (ix4 b r t o)
    = Net.layer 2 2 1 (fun (h v : Fin 4) (c : Fin 64) => rd S2048x4x4x64 (E V main_v24) (ix4 b h v c))
        (fun o c i j => rd S4x64x5x5 (E V main_arg7) (ix4 o c i j))
        (fun o => rd S4 (E V main_arg8) (ix1 o)) r t o := by
  obtain ⟨ki, ko⟩ := at_piece V upTo4 enc4 from5 36 41 rfl rfl rfl
  have hz := zero_first V
  have ht := table2 V
  rw [ki main_v0 (by decide)] at hz
  rw [ki main_c_4 (by decide)] at ht
  rw [ko main_v29 (by decide), ki main_v24 (by decide), ki main_arg7 (by decide), ki main_arg8 (by decide)]
  generalize after upTo4 V = U at *
  after_results_simp
  refine congrArg₂ (· + ·) (conv_at _ rfl rfl rfl rfl rfl rfl rfl _ rfl rfl rfl rfl rfl rfl _ _ _ hz _ _ ht (by decide) _ b r t o) ?_
  exact bcast_at _ _ _ _ (ix1 o) (fun a => match a with | ⟨0, _⟩ => .inr rfl)

theorem dec1_at (b : Fin 2048) (r t : Fin 3) (o : Fin 128) : rd S2048x3x3x128 (E V main_v46) (ix4 b r t o)
    = Net.relu 1 2 2 (fun (h v : Fin 2) (c : Fin 4) => rd S2048x2x2x4 (E V main_v38) (ix4 b h v c))
        (fun o c i j => rd S4x128x5x5 (E V main_arg9) (ix4 c o (Fin.rev i) (Fin.rev j)))
        (fun o => rd S128 (E V main_arg10) (ix1 o)) r t o := by
  obtain ⟨ki, ko⟩ := at_piece V upTo8 dec1 from9 54 62 rfl rfl rfl
  have hz := zero_first V
  have ht := table3 V
  rw [ki main_v0 (by decide)] at hz
  rw [ki main_c_5 (by decide)] at ht
  rw [ko main_v46 (by decide), ki main_v38 (by decide), ki main_arg9 (by decide), ki main_arg10 (by decide)]
  generalize after upTo8 V = U at *
  after_results_simp
  refine congrArg₂ max (congrArg₂ (· + ·) (convT_at 2 _ rfl rfl rfl rfl rfl rfl rfl _ rfl rfl rfl rfl rfl rfl _ _ _ hz _ _ ht (by decide) _ b r t o) ?_) ?_
  · exact bcast_at _ _ _ _ (ix1 o) (fun a => match a with | ⟨0, _⟩ => .inr rfl)
  · exact (bcast_at _ _ _ _ (Shape.Idx.first h_S_) (fun a => a.elim0)).trans hz

theorem dec2_at (b : Fin 2048) (r t : Fin 5) (o : Fin 64) : rd S2048x5x5x64 (E V main_v54) (ix4 b r t o)
    = Net.relu 1 2 2 (fun (h v : Fin 3) (c : Fin 128) => rd S2048x3x3x128 (E V main_v46) (ix4 b h v c))
        (fun o c i j => rd S128x64x5x5 (E V main_arg11) (ix4 c o (Fin.rev i) (Fin.rev j)))
        (fun o => rd S64 (E V main_arg12) (ix1 o)) r t o := by
  obtain ⟨ki, ko⟩ := at_piece V upTo9 dec2 from10 62 70 rfl rfl rfl
  have hz := zero_first V
  have ht := table5 V
  rw [ki main_v0 (by decide)] at hz
  rw [ki main_c_6 (by decide)] at ht
  rw [ko main_v54 (by decide), ki main_v46 (by decide), ki main_arg11 (by decide), ki main_arg12 (by decide)]
  generalize after upTo9 V = U at *
  after_results_simp
  refine congrArg₂ max (congrArg₂ (· + ·) (convT_at 2 _ rfl rfl rfl rfl rfl rfl rfl _ rfl rfl rfl rfl rfl rfl _ _ _ hz _ _ ht (by decide) _ b r t o) ?_) ?_
  · exact bcast_at _ _ _ _ (ix1 o) (fun a => match a with | ⟨0, _⟩ => .inr rfl)
  · exact (bcast_at _ _ _ _ (Shape.Idx.first h_S_) (fun a => a.elim0)).trans hz

theorem dec3_at (b : Fin 2048) (r t : Fin 13) (o : Fin 32) : rd S2048x13x13x32 (E V main_v62) (ix4 b r t o)
    = Net.relu 1 4 2 (fun (h v : Fin 5) (c : Fin 64) => rd S2048x5x5x64 (E V main_v54) (ix4 b h v c))
        (fun o c i j => rd S64x32x5x5 (E V main_arg13) (ix4 c o (Fin.rev i) (Fin.rev j)))
        (fun o => rd S32 (E V main_arg14) (ix1 o)) r t o := by
  obtain ⟨ki, ko⟩ := at_piece V upTo10 dec3 from11 70 78 rfl rfl rfl
  have hz := zero_first V
  have ht := table13 V
  rw [ki main_v0 (by decide)] at hz
  rw [ki main_c_7 (by decide)] at ht
  rw [ko main_v62 (by decide), ki main_v54 (by decide), ki main_arg13 (by decide), ki main_arg14 (by decide)]
  generalize after upTo10 V = U at *
  after_results_simp
  refine congrArg₂ max (congrArg₂ (· + ·) (convT_at 4 _ rfl rfl rfl rfl rfl rfl rfl _ rfl rfl rfl rfl rfl rfl _ _ _ hz _ _ ht (by decide) _ b r t o) ?_) ?_
  · exact bcast_at _ _ _ _ (ix1 o) (fun a => match a with | ⟨0, _⟩ => .inr rfl)
  · exact (bcast_at _ _ _ _ (Shape.Idx.first h_S_) (fun a => a.elim0)).trans hz

theorem dec4_at (b : Fin 2048) (r t : Fin 29) (o : Fin 1) : rd S2048x29x29x1 (E V main_v68) (ix4 b r t o)
    = Net.layer 1 4 2 (fun (h v : Fin 13) (c : Fin 32) => rd S2048x13x13x32 (E V main_v62) (ix4 b h v c))
        (fun o c i j => rd S32x1x5x5 (E V main_arg15) (ix4 c o (Fin.rev i) (Fin.rev j)))
        (fun o => rd S1 (E V main_arg16) (ix1 o)) r t o := by
  obtain ⟨ki, ko⟩ := at_piece V upTo11 dec4 from12 78 85 rfl rfl rfl
  have hz := zero_first V
  have ht := table29 V
  rw [ki main_v0 (by decide)] at hz
  rw [ki main_c_8 (by decide)] at ht
  rw [ko main_v68 (by decide), ki main_v62 (by decide), ki main_arg15 (by decide), ki main_arg16 (by decide)]
  generalize after upTo11 V = U at *
  after_results_simp
  refine congrArg₂ (· + ·) (convT_at 4 _ rfl rfl rfl rfl rfl rfl rfl _ rfl rfl rfl rfl rfl rfl _ _ _ hz _ _ ht (by decide) _ b r t o) ?_
  exact bcast_at _ _ _ _ (ix1 o) (fun a => match a with | ⟨0, _⟩ => .inl rfl)

end Cert.RefRun

end
-- ==== Proof.RefTail.lean ====
/-
  The rest of the reference, read at an index: the distances, the nearest entries, and the losses.
-/
module

public import proofs.«01_k».proof.Proof.RefLayers
public import proofs.«01_k».proof.Proof.FirstMin

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo
open Cert.Conv

variable (V : Valuation τ sig (Elt Ideal))

/-- The images, channels last. -/
theorem image_at (b : Fin 2048) (h v : Fin 28) (c : Fin 1) :
    rd S2048x28x28x1 (E V main_v3) (ix4 b h v c) = rd S2048x1x28x28 (V (Proc.devRef .tc main_arg0)) (ix4 b c h v) := by
  obtain ⟨-, ko⟩ := at_piece V [] start from1 0 15 rfl rfl rfl
  rw [ko main_v3 (by decide)]
  after_results_simp
  refine reshape_at (s := S2048x1x28x28) (t := S2048x28x28x1) _ _ (ix4 b h v c) (ix4 b c h v) ?_
  rw [rowMajor_val4 _ _ _ _ rfl rfl rfl, rowMajor_val4 _ _ _ _ rfl rfl rfl]
  show b.val * (1 * (28 * 28)) + c.val * (28 * 28) + h.val * 28 + v.val = b.val * (28 * (28 * 1)) + h.val * (28 * 1) + v.val * 1 + c.val
  omega

/-- The distances. -/
theorem dists_at (b : Fin 2048) (r t : Fin 2) (n : Fin 64) : rd S2048x2x2x64 (E V main_v35) (ix4 b r t n)
    = Ideal.sqrt (∑ c : Fin 4, (rd S2048x2x2x4 (E V main_v29) (ix4 b r t c) - rd S64x4 (E V main_arg17) (ix2 n c))
        * (rd S2048x2x2x4 (E V main_v29) (ix4 b r t c) - rd S64x4 (E V main_arg17) (ix2 n c))) := by
  obtain ⟨ki, ko⟩ := at_piece V upTo5 dists from6 41 47 rfl rfl rfl
  have hz := zero_first V
  rw [ki main_v0 (by decide)] at hz
  rw [ko main_v35 (by decide), ki main_v29 (by decide), ki main_arg17 (by decide)]
  generalize after upTo5 V = U at *
  after_results_simp
  refine congrArg Ideal.sqrt ((sum_at _ _ _ (Nat.succ_pos _) _ hz (ix4 b r t n) (fun c => ix5 b r t n c)
    (fun n c => match c with | ⟨0, _⟩ => rfl | ⟨1, _⟩ => rfl | ⟨2, _⟩ => rfl | ⟨3, _⟩ => rfl | ⟨4, _⟩ => rfl)).trans ?_)
  refine Finset.sum_congr rfl fun c _ => ?_
  have e : ∀ x y x' y' : EReal, x = x' → y = y' → (x - y) * (x - y) = (x' - y') * (x' - y') := by rintro _ _ _ _ rfl rfl; rfl
  exact e _ _ _ _
    (bcast_at _ _ _ _ (ix4 b r t c) (fun a => match a with | ⟨0, _⟩ => .inr rfl | ⟨1, _⟩ => .inr rfl | ⟨2, _⟩ => .inr rfl | ⟨3, _⟩ => .inr rfl))
    (bcast_at _ _ _ _ (ix2 n c) (fun a => match a with | ⟨0, _⟩ => .inr rfl | ⟨1, _⟩ => .inr rfl))

/-- The number of the nearest entry. -/
theorem nearest_at (b : Fin 2048) (r t : Fin 2) : rdi S2048x2x2 (E V main_v36) (ix3 b r t)
    = BitVec.ofNat 32 (Net.near fun n => rd S2048x2x2x64 (E V main_v35) (ix4 b r t n)).val := by
  obtain ⟨ki, ko⟩ := at_piece V upTo6 nearest from7 47 52 rfl rfl rfl
  rw [ko main_v36 (by decide), ki main_v35 (by decide)]
  generalize after upTo6 V = U at *
  after_results_simp
  refine Net.argmin_at _ _ (fun b r t n => rfl) _ _ ?_ ?_ b r t
  · show Ideal.ofBits .f32 0x7F800000#32 = ⊤
    simp [Ideal.ofBits, Ideal.ieee]
  · rfl

/-- The nearest entry. -/
theorem look_at (b : Fin 2048) (r t : Fin 2) (c : Fin 4) (k : Fin 64) (hk : rdi S2048x2x2 (E V main_v36) (ix3 b r t) = BitVec.ofNat 32 k.val) :
    rd S2048x2x2x4 (E V main_v38) (ix4 b r t c) = rd S64x4 (E V main_arg17) (ix2 k c) := by
  obtain ⟨ki, ko⟩ := at_piece V upTo7 look from8 52 54 rfl rfl rfl
  rw [ki main_v36 (by decide)] at hk
  rw [ko main_v38 (by decide), ki main_arg17 (by decide)]
  generalize after upTo7 V = U at *
  after_results_simp
  unfold Host.gather
  refine congrArg (rd S64x4 (U (Proc.devRef .tc main_arg17))) (funext fun a => Fin.ext ?_)
  have hi : broadcastInDim S2048x2x2x1 ![0, 1, 2] bcast_S2048x2x2_S2048x2x2x1_0_1_2 (rdi S2048x2x2 (U (Proc.devRef .tc main_v36))) (ix4 b r t 0)
      = BitVec.ofNat 32 k.val :=
    (bcast_at _ _ _ _ (ix3 b r t) (fun a => match a with | ⟨0, _⟩ => .inr rfl | ⟨1, _⟩ => .inr rfl | ⟨2, _⟩ => .inr rfl)).trans hk
  have hn : (BitVec.ofNat 32 k.val).toInt.toNat = k.val := by rw [Net.toInt_ofNat]; rfl
  match a with
  | ⟨0, _⟩ =>
    refine (congrArg (fun e : BitVec 32 => min e.toInt.toNat 63 + 0 + 0) ((congrArg _ (funext fun c => match c with
      | ⟨0, _⟩ => rfl | ⟨1, _⟩ => rfl | ⟨2, _⟩ => rfl | ⟨3, _⟩ => rfl : _ = ix4 b r t 0)).trans hi)).trans ?_
    show min (BitVec.ofNat 32 k.val).toInt.toNat 63 + 0 + 0 = k.val
    rw [hn]; omega
  | ⟨1, _⟩ => show 0 + 0 + c.val = c.val; omega

/-- A slice from the origin. -/
theorem origin_at {B H T C : Nat} (x : (⟨4, ![B, T, T, C]⟩ : Shape).Idx → EReal) (hs : (⟨4, ![B, T, T, C]⟩ : Shape).Slices ![0, 0, 0, 0] ⟨4, ![B, H, H, C]⟩)
    (b : Fin B) (h v : Fin H) (h' v' : Fin T) (hh : h'.val = h.val) (hv : v'.val = v.val) (c : Fin C) :
    extractStridedSlice ⟨4, ![B, H, H, C]⟩ ![0, 0, 0, 0] x hs (ix4 b h v c) = x (ix4 b h' v' c) := by
  refine congrArg x (funext fun a => Fin.ext ?_)
  match a with
  | ⟨0, _⟩ => show 0 + b.val = b.val; omega
  | ⟨1, _⟩ => show 0 + h.val = h'.val; omega
  | ⟨2, _⟩ => show 0 + v.val = v'.val; omega
  | ⟨3, _⟩ => show 0 + c.val = c.val; omega

/-- The decoder's rows and columns are cut at 28. -/
theorem slice_at (b : Fin 2048) (h v : Fin 28) (c : Fin 1) : rd S2048x28x28x1 (E V main_v69) (ix4 b h v c)
    = rd S2048x29x29x1 (E V main_v68) (ix4 b h.castSucc v.castSucc c) := by
  obtain ⟨ki, ko⟩ := at_piece V upTo11 dec4 from12 78 85 rfl rfl rfl
  rw [ko main_v69 (by decide), ko main_v68 (by decide)]
  generalize after upTo11 V = U at *
  have e : rd S2048x28x28x1 (after dec4 U (Proc.devRef .tc main_v69)) = extractStridedSlice S2048x28x28x1 ![0, 0, 0, 0]
      (rd S2048x29x29x1 (after dec4 U (Proc.devRef .tc main_v68))) slices_S2048x29x29x1_S2048x28x28x1_0_0_0_0 := by
    after_results_simp
  rw [e]
  exact origin_at (T := 29) _ _ b h v h.castSucc v.castSucc rfl rfl c

end Cert.RefRun

end
-- ==== Proof.RefLosses.lean ====
/-
  The reference's losses: sums over the images of squared differences, scaled.
-/
module

public import proofs.«01_k».proof.Proof.RefLayers

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo
open Cert.Conv

variable (V : Valuation τ sig (Elt Ideal))

/-- A host sum over all axes of a four-axis array, from 0. -/
theorem total_at {A B C D : Nat} (x : (⟨4, ![A, B, C, D]⟩ : Shape).Idx → EReal) {u : Shape} (z : u.Idx → EReal)
    (h : (⟨4, ![A, B, C, D]⟩ : Shape).ReducesTo [0, 1, 2, 3] S_) (hu : 0 < u.numel) (hz : z (Shape.Idx.first hu) = 0) (j : S_.Idx) :
    Host.reduceAdd (F := Ideal) (φ := .f32) x z h hu j = ∑ a : Fin A, ∑ b : Fin B, ∑ c : Fin C, ∑ d : Fin D, x (ix4 a b c d) := by
  show Ideal.hostReduceAdd h x (z (Shape.Idx.first hu)) j = _
  unfold Ideal.hostReduceAdd
  rw [hz, zero_add, Finset.filter_true_of_mem (fun i _ => funext fun a => a.elim0), sum_idx4]

/-- The squared differences of two four-axis arrays, summed. -/
def sqSum {A B C D : Nat} (x y : (⟨4, ![A, B, C, D]⟩ : Shape).Idx → EReal) : EReal :=
  ∑ a : Fin A, ∑ b : Fin B, ∑ c : Fin C, ∑ d : Fin D, (x (ix4 a b c d) - y (ix4 a b c d)) * (x (ix4 a b c d) - y (ix4 a b c d))

theorem sqSum_at {A B C D : Nat} (x y : (⟨4, ![A, B, C, D]⟩ : Shape).Idx → EReal) {u : Shape} (z : u.Idx → EReal)
    (h : (⟨4, ![A, B, C, D]⟩ : Shape).ReducesTo [0, 1, 2, 3] S_) (hu : 0 < u.numel) (hz : z (Shape.Idx.first hu) = 0) (j : S_.Idx) :
    Host.reduceAdd (F := Ideal) (φ := .f32) (mulf (F := Ideal) (φ := .f32) (subf (F := Ideal) (φ := .f32) x y) (subf (F := Ideal) (φ := .f32) x y)) z h hu j
      = sqSum x y :=
  total_at _ z h hu hz j

/-- The losses, as sums over the images. -/
theorem losses_at (j : S_.Idx) :
    rd S_ (E V main_v76) j = Ideal.div (sqSum (rd S2048x28x28x1 (E V main_v69)) (rd S2048x28x28x1 (E V main_v3))) (Ideal.ofBits .f32 0x49C40000#32) * Ideal.ofBits .f32 0x44440000#32
    ∧ rd S_ (E V main_v81) j = Ideal.div (sqSum (rd S2048x2x2x4 (E V main_v38)) (rd S2048x2x2x4 (E V main_v29))) (Ideal.ofBits .f32 0x47000000#32) * Ideal.ofBits .f32 0x40800000#32 * Ideal.ofBits .f32 0x3F800000#32
    ∧ rd S_ (E V main_v87) j = Ideal.div (sqSum (rd S2048x2x2x4 (E V main_v29)) (rd S2048x2x2x4 (E V main_v38))) (Ideal.ofBits .f32 0x47000000#32) * Ideal.ofBits .f32 0x40800000#32 * Ideal.ofBits .f32 0x3E800000#32
          * Ideal.ofBits .f32 0x3F800000#32 := by
  obtain ⟨ki, ko⟩ := at_piece V upTo12 losses [] 85 109 rfl rfl rfl
  obtain ⟨-, k0⟩ := at_piece V [] start from1 0 15 rfl rfl rfl
  have hz := zero_first V
  have h1 : ∀ j, rd S_ (E V main_v1) j = Ideal.ofBits .f32 0x40800000#32 := fun j => by
    rw [k0 main_v1 (by decide)]; after_results_simp; rfl
  have h2 : ∀ j, rd S_ (E V main_v2) j = Ideal.ofBits .f32 0x47000000#32 := fun j => by
    rw [k0 main_v2 (by decide)]; after_results_simp; rfl
  clear k0
  rw [ki main_v0 (by decide)] at hz
  rw [ki main_v1 (by decide)] at h1
  rw [ki main_v2 (by decide)] at h2
  rw [ko main_v76 (by decide), ko main_v81 (by decide), ko main_v87 (by decide), ki main_v69 (by decide), ki main_v3 (by decide),
    ki main_v38 (by decide), ki main_v29 (by decide)]
  generalize after upTo12 V = U at *
  refine ⟨?_, ?_, ?_⟩ <;> after_results_simp
  · rw [← sqSum_at _ _ _ reducesTo_S2048x28x28x1_S_d0_1_2_3 h_S_ hz j]; rfl
  · rw [← sqSum_at _ _ _ reducesTo_S2048x2x2x4_S_d0_1_2_3 h_S_ hz j, ← h2 j, ← h1 j]; rfl
  · rw [← sqSum_at _ _ _ reducesTo_S2048x2x2x4_S_d0_1_2_3 h_S_ hz j, ← h2 j, ← h1 j]; rfl

/-- The variance loss is 0. -/
theorem var_at (j : S1.Idx) : rd S1 (E V main_v88) j = 0 := by
  obtain ⟨ki, ko⟩ := at_piece V upTo12 losses [] 85 109 rfl rfl rfl
  have hz := zero_first V
  rw [ki main_v0 (by decide)] at hz
  rw [ko main_v88 (by decide)]
  generalize after upTo12 V = U at *
  after_results_simp
  exact (bcast_at _ _ _ _ (Shape.Idx.first h_S_) (fun a => a.elim0)).trans hz

end Cert.RefRun

end
-- ==== Proof.RefNet.lean ====
/-
  The reference's arrays read as the network, image by image.
-/
module

public import proofs.«01_k».proof.Proof.RefTail
public import proofs.«01_k».proof.Proof.RefLosses

@[expose] public section

set_option maxRecDepth 16384

noncomputable section

namespace Cert.RefRun

open Cert.ReferenceIdeal Cert.ReferenceIdeal.Gen Idealize.ShloMosaic Cert.Conv

variable (V : Valuation τ sig (Elt Ideal))

/-- The network's weights, as the reference's arguments hold them. -/
def net : Net.Params where
  w1 := fun o c i j => rd S16x1x5x5 (E V main_arg1) (ix4 o c i j)
  b1 := fun o => rd S16 (E V main_arg2) (ix1 o)
  w2 := fun o c i j => rd S32x16x5x5 (E V main_arg3) (ix4 o c i j)
  b2 := fun o => rd S32 (E V main_arg4) (ix1 o)
  w3 := fun o c i j => rd S64x32x5x5 (E V main_arg5) (ix4 o c i j)
  b3 := fun o => rd S64 (E V main_arg6) (ix1 o)
  w4 := fun o c i j => rd S4x64x5x5 (E V main_arg7) (ix4 o c i j)
  b4 := fun o => rd S4 (E V main_arg8) (ix1 o)
  u1 := fun o c i j => rd S4x128x5x5 (E V main_arg9) (ix4 c o (Fin.rev i) (Fin.rev j))
  c1 := fun o => rd S128 (E V main_arg10) (ix1 o)
  u2 := fun o c i j => rd S128x64x5x5 (E V main_arg11) (ix4 c o (Fin.rev i) (Fin.rev j))
  c2 := fun o => rd S64 (E V main_arg12) (ix1 o)
  u3 := fun o c i j => rd S64x32x5x5 (E V main_arg13) (ix4 c o (Fin.rev i) (Fin.rev j))
  c3 := fun o => rd S32 (E V main_arg14) (ix1 o)
  u4 := fun o c i j => rd S32x1x5x5 (E V main_arg15) (ix4 c o (Fin.rev i) (Fin.rev j))
  c4 := fun o => rd S1 (E V main_arg16) (ix1 o)
  dict := fun n c => rd S64x4 (E V main_arg17) (ix2 n c)

/-- Image `b`. -/
def img (b : Fin 2048) (h v : Fin 28) (c : Fin 1) : EReal := rd S2048x1x28x28 (V (Proc.devRef .tc main_arg0)) (ix4 b c h v)

/-- Four arrays that obey the encoder's equations hold what the encoder gives. -/
theorem enc_chain {P : Net.Params} {x a0 : Fin 28 → Fin 28 → Fin 1 → EReal} {a1 : Fin 14 → Fin 14 → Fin 16 → EReal}
    {a2 : Fin 7 → Fin 7 → Fin 32 → EReal} {a3 : Fin 4 → Fin 4 → Fin 64 → EReal} {a4 : Fin 2 → Fin 2 → Fin 4 → EReal}
    (h0 : ∀ h v c, a0 h v c = x h v c) (h1 : ∀ h v c, a1 h v c = Net.relu 2 2 1 a0 P.w1 P.b1 h v c)
    (h2 : ∀ h v c, a2 h v c = Net.relu 2 2 1 a1 P.w2 P.b2 h v c) (h3 : ∀ h v c, a3 h v c = Net.relu 2 2 1 a2 P.w3 P.b3 h v c)
    (h4 : ∀ h v c, a4 h v c = Net.layer 2 2 1 a3 P.w4 P.b4 h v c) : a4 = Net.z P x := by
  obtain rfl : a0 = x := funext fun h => funext fun v => funext fun c => h0 h v c
  obtain rfl : a1 = Net.y1 P a0 := funext fun h => funext fun v => funext fun c => h1 h v c
  obtain rfl : a2 = Net.y2 P a0 := funext fun h => funext fun v => funext fun c => h2 h v c
  obtain rfl : a3 = Net.y3 P a0 := funext fun h => funext fun v => funext fun c => h3 h v c
  exact funext fun h => funext fun v => funext fun c => h4 h v c

/-- Four arrays that obey the decoder's equations hold what the decoder gives. -/
theorem dec_chain {P : Net.Params} {x : Fin 28 → Fin 28 → Fin 1 → EReal} {a0 : Fin 2 → Fin 2 → Fin 4 → EReal} {a1 : Fin 3 → Fin 3 → Fin 128 → EReal}
    {a2 : Fin 5 → Fin 5 → Fin 64 → EReal} {a3 : Fin 13 → Fin 13 → Fin 32 → EReal} {a4 : Fin 29 → Fin 29 → Fin 1 → EReal}
    (h0 : ∀ h v c, a0 h v c = Net.val P x h v c) (h1 : ∀ h v c, a1 h v c = Net.relu 1 2 2 a0 P.u1 P.c1 h v c)
    (h2 : ∀ h v c, a2 h v c = Net.relu 1 2 2 a1 P.u2 P.c2 h v c) (h3 : ∀ h v c, a3 h v c = Net.relu 1 4 2 a2 P.u3 P.c3 h v c)
    (h4 : ∀ h v c, a4 h v c = Net.layer 1 4 2 a3 P.u4 P.c4 h v c) (h v : Fin 28) : a4 h.castSucc v.castSucc 0 = Net.f P x h v 0 := by
  obtain rfl : a0 = Net.val P x := funext fun h => funext fun v => funext fun c => h0 h v c
  obtain rfl : a1 = Net.v1 P x := funext fun h => funext fun v => funext fun c => h1 h v c
  obtain rfl : a2 = Net.v2 P x := funext fun h => funext fun v => funext fun c => h2 h v c
  obtain rfl : a3 = Net.v3 P x := funext fun h => funext fun v => funext fun c => h3 h v c
  exact h4 h.castSucc v.castSucc 0

attribute [local irreducible] E

theorem z_eq (b : Fin 2048) (r t : Fin 2) (c : Fin 4) : rd S2048x2x2x4 (E V main_v29) (ix4 b r t c) = Net.z (net V) (img V b) r t c := by
  have e := enc_chain (P := net V) (x := img V b) (a0 := fun h v c => rd S2048x28x28x1 (E V main_v3) (ix4 b h v c))
    (a1 := fun h v c => rd S2048x14x14x16 (E V main_v10) (ix4 b h v c)) (a2 := fun h v c => rd S2048x7x7x32 (E V main_v17) (ix4 b h v c))
    (a3 := fun h v c => rd S2048x4x4x64 (E V main_v24) (ix4 b h v c)) (a4 := fun h v c => rd S2048x2x2x4 (E V main_v29) (ix4 b h v c))
    (image_at V b) (enc1_at V b) (enc2_at V b) (enc3_at V b) (enc4_at V b)
  exact congrFun (congrFun (congrFun e r) t) c

theorem ind_eq (b : Fin 2048) (r t : Fin 2) : rdi S2048x2x2 (E V main_v36) (ix3 b r t) = BitVec.ofNat 32 (Net.ind (net V) (img V b) r t).val := by
  have h : (fun n => rd S2048x2x2x64 (E V main_v35) (ix4 b r t n)) = Net.dist (net V) (Net.z (net V) (img V b) r t) := by
    funext n
    refine (dists_at V b r t n).trans (congrArg Ideal.sqrt (Finset.sum_congr rfl fun c _ => ?_))
    have e := congrArg (fun x : EReal => x - rd S64x4 (E V main_arg17) (ix2 n c)) (z_eq V b r t c)
    exact congrArg₂ (fun x y : EReal => x * y) e e
  exact (nearest_at V b r t).trans (congrArg (fun d => BitVec.ofNat 32 (Net.near d).val) h)

theorem val_eq (b : Fin 2048) (r t : Fin 2) (c : Fin 4) : rd S2048x2x2x4 (E V main_v38) (ix4 b r t c) = Net.val (net V) (img V b) r t c :=
  look_at V b r t c _ (ind_eq V b r t)

theorem f_eq (b : Fin 2048) (h v : Fin 28) : rd S2048x28x28x1 (E V main_v69) (ix4 b h v 0) = Net.f (net V) (img V b) h v 0 := by
  have e := dec_chain (P := net V) (x := img V b) (a0 := fun h v c => rd S2048x2x2x4 (E V main_v38) (ix4 b h v c))
    (a1 := fun h v c => rd S2048x3x3x128 (E V main_v46) (ix4 b h v c)) (a2 := fun h v c => rd S2048x5x5x64 (E V main_v54) (ix4 b h v c))
    (a3 := fun h v c => rd S2048x13x13x32 (E V main_v62) (ix4 b h v c)) (a4 := fun h v c => rd S2048x29x29x1 (E V main_v68) (ix4 b h v c))
    (val_eq V b) (dec1_at V b) (dec2_at V b) (dec3_at V b) (dec4_at V b) h v
  exact (slice_at V b h v 0).trans e

/-- The sums of squares, image by image. -/
theorem sums_eq : sqSum (rd S2048x28x28x1 (E V main_v69)) (rd S2048x28x28x1 (E V main_v3)) = ∑ b, Net.recLoss (net V) (img V b)
    ∧ sqSum (rd S2048x2x2x4 (E V main_v38)) (rd S2048x2x2x4 (E V main_v29)) = ∑ b, Net.dictLoss (net V) (img V b) := by
  unfold sqSum Net.recLoss Net.dictLoss
  constructor
  · refine Finset.sum_congr rfl fun b _ => Finset.sum_congr rfl fun h _ => Finset.sum_congr rfl fun v _ => (Fin.sum_univ_one _).trans ?_
    have e := congrArg₂ (fun x y : EReal => x - y) (f_eq V b h v) (image_at V b h v 0)
    exact congrArg₂ (fun x y : EReal => x * y) e e
  · refine Finset.sum_congr rfl fun b _ => Finset.sum_congr rfl fun r _ => Finset.sum_congr rfl fun t _ => Finset.sum_congr rfl fun c _ => ?_
    have e := congrArg₂ (fun x y : EReal => x - y) (val_eq V b r t c) (z_eq V b r t c)
    exact congrArg₂ (fun x y : EReal => x * y) e e

end Cert.RefRun

end
-- ==== Proof.LossScale.lean ====
/-
  The scaling of the losses: the mean over all entries, times the entries of one image, is the sum over the images' number.
-/
module

public import proofs.«01_k».proof.Proof.Sums
public import Idealize.ShloMosaic.PureOps.Ideal

@[expose] public section

noncomputable section

namespace Cert.LossScale

open Idealize.ShloMosaic

theorem c1605632 : Ideal.ofBits .f32 0x49C40000#32 = ((1605632 : ℝ) : EReal) := by
  simp [Ideal.ofBits, Ideal.ieee]; norm_num; rw [← EReal.coe_mul]; norm_num
theorem c784 : Ideal.ofBits .f32 0x44440000#32 = ((784 : ℝ) : EReal) := by
  simp [Ideal.ofBits, Ideal.ieee]; norm_num; rw [← EReal.coe_mul]; norm_num
theorem c32768 : Ideal.ofBits .f32 0x47000000#32 = ((32768 : ℝ) : EReal) := by
  simp [Ideal.ofBits, Ideal.ieee]; norm_num; rw [← EReal.coe_mul]; norm_num
theorem c8192 : Ideal.ofBits .f32 0x46000000#32 = ((8192 : ℝ) : EReal) := by
  simp [Ideal.ofBits, Ideal.ieee]; norm_num; rw [← EReal.coe_mul]; norm_num
theorem c2048 : Ideal.ofBits .f32 0x45000000#32 = ((2048 : ℝ) : EReal) := by
  simp [Ideal.ofBits, Ideal.ieee]; norm_num; rw [← EReal.coe_mul]; norm_num
theorem c4 : Ideal.ofBits .f32 0x40800000#32 = ((4 : ℝ) : EReal) := by
  simp [Ideal.ofBits, Ideal.ieee]; norm_num; rw [← EReal.coe_mul]; norm_num
theorem c1 : Ideal.ofBits .f32 0x3F800000#32 = ((1 : ℝ) : EReal) := Ideal.ofBits_one_f32
theorem quarter : Ideal.ofBits .f32 0x3E800000#32 = ((1 / 4 : ℝ) : EReal) := by
  simp [Ideal.ofBits, Ideal.ieee]; norm_num; rw [← EReal.coe_mul]; norm_num

/-- A quotient scaled is a quotient by the scaled number. -/
theorem div_mul {a b d : ℝ} (ha : a ≠ 0) (hd : d ≠ 0) (h : 1 / a * b = 1 / d) (x : EReal) :
    Ideal.div x (a : EReal) * (b : EReal) = Ideal.div x (d : EReal) := by
  rw [Ideal.div_coe ha, Ideal.div_coe hd, mul_assoc, ← EReal.coe_mul, h]

theorem scale0 (x : EReal) : Ideal.div x (Ideal.ofBits .f32 0x49C40000#32) * Ideal.ofBits .f32 0x44440000#32
    = Ideal.div x (Ideal.ofBits .f32 0x45000000#32) := by
  rw [c1605632, c784, c2048]
  exact div_mul (by norm_num) (by norm_num) (by norm_num) x

theorem scale1 (x : EReal) : Ideal.div x (Ideal.ofBits .f32 0x47000000#32) * Ideal.ofBits .f32 0x40800000#32 * Ideal.ofBits .f32 0x3F800000#32
    = Ideal.div x (Ideal.ofBits .f32 0x46000000#32) := by
  rw [c32768, c4, c1, c8192, EReal.coe_one, mul_one]
  exact div_mul (by norm_num) (by norm_num) (by norm_num) x

theorem scale2 (x : EReal) : Ideal.div x (Ideal.ofBits .f32 0x47000000#32) * Ideal.ofBits .f32 0x40800000#32 * Ideal.ofBits .f32 0x3E800000#32
      * Ideal.ofBits .f32 0x3F800000#32
    = Ideal.div x (Ideal.ofBits .f32 0x47000000#32) := by
  rw [c32768, c4, quarter, c1, EReal.coe_one, mul_one, mul_assoc, ← EReal.coe_mul]
  exact div_mul (by norm_num) (by norm_num) (by norm_num) x

/-- A squared difference does not depend on the order, infinite values included. -/
theorem sq_comm (a b : EReal) : (a - b) * (a - b) = (b - a) * (b - a) := by
  induction a using EReal.rec with
  | bot => induction b using EReal.rec <;> rfl
  | top => induction b using EReal.rec <;> rfl
  | coe a =>
    induction b using EReal.rec with
    | bot => rfl
    | top => rfl
    | coe b =>
      rw [← EReal.coe_sub, ← EReal.coe_sub, ← EReal.coe_mul, ← EReal.coe_mul]
      congr 1
      ring

end Cert.LossScale

end
-- ==== Proof.Same.lean ====
/-
  The kernel and the reference, started from equal arguments, leave equal results.
-/
module

public import proofs.«01_k».proof.Proof.KerTail
public import proofs.«01_k».proof.Proof.RefNet
public import proofs.«01_k».proof.Proof.LossScale

@[expose] public section

set_option maxRecDepth 16384

noncomputable section

namespace Cert.Same

open Cert.KernelIdeal Idealize.ShloMosaic Idealize.ShloMosaic.TcCoe Idealize.ShloMosaic.StableHlo Cert.Conv

attribute [local irreducible] KerRun.E RefRun.E

section
variable (W : Valuation Cert.KernelIdeal.τ Cert.KernelIdeal.sig (Elt Ideal)) (V : Valuation Cert.ReferenceIdeal.τ Cert.ReferenceIdeal.sig (Elt Ideal))

/-- Equal arguments at launch. -/
structure Agree : Prop where
  a0 : (V (Proc.devRef .tc Cert.ReferenceIdeal.main_arg0) : S2048x1x28x28.Idx → EReal) = W (Proc.devRef .tc main_arg0)
  a1 : (V (Proc.devRef .tc Cert.ReferenceIdeal.main_arg1) : S16x1x5x5.Idx → EReal) = W (Proc.devRef .tc main_arg1)
  a2 : (V (Proc.devRef .tc Cert.ReferenceIdeal.main_arg2) : S16.Idx → EReal) = W (Proc.devRef .tc main_arg2)
  a3 : (V (Proc.devRef .tc Cert.ReferenceIdeal.main_arg3) : S32x16x5x5.Idx → EReal) = W (Proc.devRef .tc main_arg3)
  a4 : (V (Proc.devRef .tc Cert.ReferenceIdeal.main_arg4) : S32.Idx → EReal) = W (Proc.devRef .tc main_arg4)
  a5 : (V (Proc.devRef .tc Cert.ReferenceIdeal.main_arg5) : S64x32x5x5.Idx → EReal) = W (Proc.devRef .tc main_arg5)
  a6 : (V (Proc.devRef .tc Cert.ReferenceIdeal.main_arg6) : S64.Idx → EReal) = W (Proc.devRef .tc main_arg6)
  a7 : (V (Proc.devRef .tc Cert.ReferenceIdeal.main_arg7) : S4x64x5x5.Idx → EReal) = W (Proc.devRef .tc main_arg7)
  a8 : (V (Proc.devRef .tc Cert.ReferenceIdeal.main_arg8) : S4.Idx → EReal) = W (Proc.devRef .tc main_arg8)
  a9 : (V (Proc.devRef .tc Cert.ReferenceIdeal.main_arg9) : S4x128x5x5.Idx → EReal) = W (Proc.devRef .tc main_arg9)
  a10 : (V (Proc.devRef .tc Cert.ReferenceIdeal.main_arg10) : S128.Idx → EReal) = W (Proc.devRef .tc main_arg10)
  a11 : (V (Proc.devRef .tc Cert.ReferenceIdeal.main_arg11) : S128x64x5x5.Idx → EReal) = W (Proc.devRef .tc main_arg11)
  a12 : (V (Proc.devRef .tc Cert.ReferenceIdeal.main_arg12) : S64.Idx → EReal) = W (Proc.devRef .tc main_arg12)
  a13 : (V (Proc.devRef .tc Cert.ReferenceIdeal.main_arg13) : S64x32x5x5.Idx → EReal) = W (Proc.devRef .tc main_arg13)
  a14 : (V (Proc.devRef .tc Cert.ReferenceIdeal.main_arg14) : S32.Idx → EReal) = W (Proc.devRef .tc main_arg14)
  a15 : (V (Proc.devRef .tc Cert.ReferenceIdeal.main_arg15) : S32x1x5x5.Idx → EReal) = W (Proc.devRef .tc main_arg15)
  a16 : (V (Proc.devRef .tc Cert.ReferenceIdeal.main_arg16) : S1.Idx → EReal) = W (Proc.devRef .tc main_arg16)
  a17 : (V (Proc.devRef .tc Cert.ReferenceIdeal.main_arg17) : S64x4.Idx → EReal) = W (Proc.devRef .tc main_arg17)

variable {W V}

theorem ker_arg (r : Ref Cert.KernelIdeal.sig .tc) (hr : r ∉ KerRun.outs) : KerRun.E W r = W (Proc.devRef .tc r) := by
  unfold KerRun.E
  exact KerRun.kept 0 _ rfl r hr W

theorem ref_arg (r : Ref Cert.ReferenceIdeal.sig .tc) (hr : r ∉ RefRun.outs) : RefRun.E V r = V (Proc.devRef .tc r) := by
  unfold RefRun.E
  exact RefRun.arg_kept r hr V

theorem net_eq (h : Agree W V) : RefRun.net V = KerRun.net W := by
  unfold RefRun.net KerRun.net
  rw [ref_arg Cert.ReferenceIdeal.main_arg1 (by decide), ker_arg main_arg1 (by decide), h.a1]
  rw [ref_arg Cert.ReferenceIdeal.main_arg2 (by decide), ker_arg main_arg2 (by decide), h.a2]
  rw [ref_arg Cert.ReferenceIdeal.main_arg3 (by decide), ker_arg main_arg3 (by decide), h.a3]
  rw [ref_arg Cert.ReferenceIdeal.main_arg4 (by decide), ker_arg main_arg4 (by decide), h.a4]
  rw [ref_arg Cert.ReferenceIdeal.main_arg5 (by decide), ker_arg main_arg5 (by decide), h.a5]
  rw [ref_arg Cert.ReferenceIdeal.main_arg6 (by decide), ker_arg main_arg6 (by decide), h.a6]
  rw [ref_arg Cert.ReferenceIdeal.main_arg7 (by decide), ker_arg main_arg7 (by decide), h.a7]
  rw [ref_arg Cert.ReferenceIdeal.main_arg8 (by decide), ker_arg main_arg8 (by decide), h.a8]
  rw [ref_arg Cert.ReferenceIdeal.main_arg9 (by decide), ker_arg main_arg9 (by decide), h.a9]
  rw [ref_arg Cert.ReferenceIdeal.main_arg10 (by decide), ker_arg main_arg10 (by decide), h.a10]
  rw [ref_arg Cert.ReferenceIdeal.main_arg11 (by decide), ker_arg main_arg11 (by decide), h.a11]
  rw [ref_arg Cert.ReferenceIdeal.main_arg12 (by decide), ker_arg main_arg12 (by decide), h.a12]
  rw [ref_arg Cert.ReferenceIdeal.main_arg13 (by decide), ker_arg main_arg13 (by decide), h.a13]
  rw [ref_arg Cert.ReferenceIdeal.main_arg14 (by decide), ker_arg main_arg14 (by decide), h.a14]
  rw [ref_arg Cert.ReferenceIdeal.main_arg15 (by decide), ker_arg main_arg15 (by decide), h.a15]
  rw [ref_arg Cert.ReferenceIdeal.main_arg16 (by decide), ker_arg main_arg16 (by decide), h.a16]
  rw [ref_arg Cert.ReferenceIdeal.main_arg17 (by decide), ker_arg main_arg17 (by decide), h.a17]

theorem img_eq (h : Agree W V) : RefRun.img V = KerRun.img W := by
  funext b i j k
  obtain rfl : k = 0 := Subsingleton.elim _ _
  unfold RefRun.img KerRun.img
  rw [ker_arg main_arg0 (by decide), h.a0]
end

theorem sqSum_comm {A B C D : Nat} (x y : (⟨4, ![A, B, C, D]⟩ : Shape).Idx → EReal) : RefRun.sqSum x y = RefRun.sqSum y x :=
  Finset.sum_congr rfl fun _ _ => Finset.sum_congr rfl fun _ _ => Finset.sum_congr rfl fun _ _ => Finset.sum_congr rfl fun _ _ =>
    LossScale.sq_comm _ _

variable {m : (ℓ : Loc nD Cert.KernelIdeal.τ Cert.KernelIdeal.sig) → Buf (Elt Ideal) ℓ} {c : Dev nD}
  {V : Valuation Cert.ReferenceIdeal.τ Cert.ReferenceIdeal.sig (Elt Ideal)} (h : Agree (KerRun.at_launch m c) V)
include h

theorem rec_sum : ∑ b, Net.recLoss (RefRun.net V) (RefRun.img V b) = ∑ b, KerRun.rec m c b := by rw [net_eq h, img_eq h]
theorem ent_sum : ∑ b, Net.dictLoss (RefRun.net V) (RefRun.img V b) = ∑ b, KerRun.ent m c b := by rw [net_eq h, img_eq h]

/-- The loss of the decoder's images. -/
theorem out0 : (RefRun.E V Cert.ReferenceIdeal.main_v76 : S_.Idx → EReal) = KerRun.left m c main_v157 := by
  funext j
  refine (RefRun.losses_at V j).1.trans (Eq.trans ?_ (KerRun.left0 m c j).symm)
  rw [LossScale.scale0, (RefRun.sums_eq V).1, rec_sum h]

/-- The loss of the dictionary. -/
theorem out1 : (RefRun.E V Cert.ReferenceIdeal.main_v81 : S_.Idx → EReal) = KerRun.left m c main_v160 := by
  funext j
  refine (RefRun.losses_at V j).2.1.trans (Eq.trans ?_ (KerRun.left1 m c j).symm)
  rw [LossScale.scale1, (RefRun.sums_eq V).2, ent_sum h]

/-- The loss of the encoder. -/
theorem out2 : (RefRun.E V Cert.ReferenceIdeal.main_v87 : S_.Idx → EReal) = KerRun.left m c main_v163 := by
  funext j
  refine (RefRun.losses_at V j).2.2.trans (Eq.trans ?_ (KerRun.left2 m c j).symm)
  rw [LossScale.scale2, sqSum_comm, (RefRun.sums_eq V).2, ent_sum h]

omit h in
/-- The variance loss. -/
theorem out3 : (RefRun.E V Cert.ReferenceIdeal.main_v88 : S1.Idx → EReal) = KerRun.left m c main_v164 :=
  funext fun j => (RefRun.var_at V j).trans (KerRun.left3 m c j).symm

/-- The numbers of the nearest entries. -/
theorem out4 : (RefRun.E V Cert.ReferenceIdeal.main_v36 : S2048x2x2.Idx → BitVec 32) = KerRun.left m c main_v165 := by
  funext j
  have e : j = ix3 (j 0) (j 1) (j 2) := funext fun a => by
    match a with
    | ⟨0, _⟩ => rfl
    | ⟨1, _⟩ => rfl
    | ⟨2, _⟩ => rfl
  rw [e]
  refine (RefRun.ind_eq V (j 0) (j 1) (j 2)).trans (Eq.trans ?_ (KerRun.left4 m c (j 0) (j 1) (j 2)).symm)
  rw [net_eq h, img_eq h]

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel and the reference, on extended reals: equal arguments, equal results. -/
theorem equal : Cert.algebraic_KernelIdeal_ReferenceIdeal (hKernelIdeal := Cert.KernelIdeal.Gen.facts) (hReferenceIdeal := Cert.ReferenceIdeal.Gen.facts) := by
  intro m g m' g' _ h
  have ag : ∀ c, Cert.Same.Agree (Cert.KerRun.at_launch m c) (StableHlo.launchContents m' c) := fun c => by
    obtain ⟨h0, h1, h2, h3, h4, h5, h6, h7, h8, h9, h10, h11, h12, h13, h14, h15, h16, h17⟩ := h c
    exact ⟨h0, h1, h2, h3, h4, h5, h6, h7, h8, h9, h10, h11, h12, h13, h14, h15, h16, h17⟩
  refine ⟨fun c => Cert.KerRun.left m c Cert.KernelIdeal.main_v157, fun c => Cert.KerRun.left m c Cert.KernelIdeal.main_v160,
    fun c => Cert.KerRun.left m c Cert.KernelIdeal.main_v163, fun c => Cert.KerRun.left m c Cert.KernelIdeal.main_v164,
    fun c => Cert.KerRun.left m c Cert.KernelIdeal.main_v165, ?_, ?_⟩
  · refine (θ_run _ _ _).mono (fun r hr c => ?_) (θ_run_and (Cert.KernelIdeal.Gen.unchanged m g) (Cert.KerRun.results m g))
    obtain ⟨e0, e1, e2, e3, e4⟩ := hr.2 c
    exact ⟨e0, e1, e2, e3, e4, hr.1 c⟩
  · refine (θ_run _ _ _).mono (fun r hr c => ?_) (θ_run_and (Cert.RefRun.frame m' g') (Cert.RefRun.run m' g'))
    exact ⟨(hr.2 c _).trans (Cert.Same.out0 (ag c)), (hr.2 c _).trans (Cert.Same.out1 (ag c)), (hr.2 c _).trans (Cert.Same.out2 (ag c)),
      (hr.2 c _).trans Cert.Same.out3, (hr.2 c _).trans (Cert.Same.out4 (ag c)), hr.1.1 c⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.RefRun.frame m ρ, trivial, equal⟩

end Cert.Proof

end
